-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![16384, 1024]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x256x1024 : Shape := ⟨3, ![1, 256, 1024]⟩
abbrev S1024x1024 : Shape := ⟨2, ![1024, 1024]⟩
abbrev S1x4096x128x128 : Shape := ⟨4, ![1, 4096, 128, 128]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x4096x128x128 : S_.BroadcastsInDim S1x4096x128x128 (![] : Fin 0 → Fin S1x4096x128x128.rank)
  reducesTo_S1x4096x128x128_S_d0_1_2_3 : S1x4096x128x128.ReducesTo [0, 1, 2, 3] S_

variable [Facts]

def fn {F : FTy → Type} [FloatOps F] (main_arg0 : FVec F S1x256x1024 .f32) (main_arg1 : FVec F S1024x1024 .f32) (main_arg2 : FVec F S1x4096x128x128 .f32) (main_arg3 : FVec F S1x4096x128x128 .f32) (main_arg4 : FVec F S1024x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x4096x128x128 .f32 := Host.absf main_arg2
  let main_cst_2 : FVec F S_ .f32 := constant S_ .f32 0x7F800000#32
  let main_v10 : FVec F S1x4096x128x128 .f32 := broadcastInDim S1x4096x128x128 ![] bcast_S_S1x4096x128x128 main_cst_2
  let main_v11 : IVec S1x4096x128x128 1 := cmpf .olt main_v9 main_v10
  let main_c_3 : IVec S_ 1 := constantI S_ 1 1#1
  let main_v12 : IVec S_ 1 := (fun x v => Host.reduce IntOp.andi x v reducesTo_S1x4096x128x128_S_d0_1_2_3 h_S_) main_v11 main_c_3
  let main_v13 : IVec S_ 1 := andi main_v8 main_v12
  main_v13
-- ==== Pre_finite_ReferenceIdeal.lean ====
abbrev S1x256x1024 : Shape := ⟨3, ![1, 256, 1024]⟩
abbrev S1024x16384 : Shape := ⟨2, ![1024, 16384]⟩
abbrev S1x4096x128x128 : Shape := ⟨4, ![1, 4096, 128, 128]⟩
abbrev S16384x1024 : Shape := ⟨2, ![16384, 1024]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x16384 : S_.BroadcastsInDim S1024x16384 (![] : Fin 0 → Fin S1024x16384.rank)
  reducesTo_S1024x16384_S_d0_1 : S1024x16384.ReducesTo [0, 1] S_
  bcast_S_S1x4096x128x128 : S_.BroadcastsInDim S1x4096x128x128 (![] : Fin 0 → Fin S1x4096x128x128.rank)
  reducesTo_S1x4096x128x128_S_d0_1_2_3 : S1x4096x128x128.ReducesTo [0, 1, 2, 3] S_

variable [Facts]

def fn {F : FTy → Type} [FloatOps F] (main_arg0 : FVec F S1x256x1024 .f32) (main_arg1 : FVec F S1024x16384 .f32) (main_arg2 : FVec F S1x4096x128x128 .f32) (main_arg3 : FVec F S1x4096x128x128 .f32) (main_arg4 : FVec F S16384x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x16384 .f32 := Host.absf main_arg1
  let main_cst_0 : FVec F S_ .f32 := constant S_ .f32 0x7F800000#32
  let main_v5 : FVec F S1024x16384 .f32 := broadcastInDim S1024x16384 ![] bcast_S_S1024x16384 main_cst_0
  let main_v6 : IVec S1024x16384 1 := cmpf .olt main_v4 main_v5
  let main_c_1 : IVec S_ 1 := constantI S_ 1 1#1
  let main_v7 : IVec S_ 1 := (fun x v => Host.reduce IntOp.andi x v reducesTo_S1024x16384_S_d0_1 h_S_) main_v6 main_c_1
  let main_v8 : IVec S_ 1 := andi main_v3 main_v7
  let main_v9 : FVec F S1x4096x128x128 .f32 := Host.absf main_arg2
  let main_cst_2 : FVec F S_ .f32 := constant S_ .f32 0x7F800000#32
  let main_v10 : FVec F S1x4096x128x128 .f32 := broadcastInDim S1x4096x128x128 ![] bcast_S_S1x4096x128x128 main_cst_2
  let main_v11 : IVec S1x4096x128x128 1 := cmpf .olt main_v9 main_v10
  let main_c_3 : IVec S_ 1 := constantI S_ 1 1#1
  let main_v12 : IVec S_ 1 := (fun x v => Host.reduce IntOp.andi x v reducesTo_S1x4096x128x128_S_d0_1_2_3 h_S_) main_v11 main_c_3
  let main_v13 : IVec S_ 1 := andi main_v8 main_v12
  main_v13
-- ==== Kernel.lean ====
abbrev S1x256x1024 : Shape := ⟨3, ![1, 256, 1024]⟩
abbrev S1024x1024 : Shape := ⟨2, ![1024, 1024]⟩
abbrev S1x4096x128x128 : Shape := ⟨4, ![1, 4096, 128, 128]⟩
abbrev S8x4096x128 : Shape := ⟨3, ![8, 4096, 128]⟩
abbrev S2x8 : Shape := ⟨2, ![2, 8]⟩
abbrev S256x1024 : Shape := ⟨2, ![256, 1024]⟩
abbrev S4x64x1024 : Shape := ⟨3, ![4, 64, 1024]⟩
abbrev S64x1024 : Shape := ⟨2, ![64, 1024]⟩
abbrev S4x16x1024 : Shape := ⟨3, ![4, 16, 1024]⟩
abbrev S16x1024 : Shape := ⟨2, ![16, 1024]⟩
abbrev S12 : Shape := ⟨1, ![12]⟩
abbrev S8 : Shape := ⟨1, ![8]⟩
abbrev S_ : Shape := ⟨0, ![]⟩
abbrev S1x1 : Shape := ⟨2, ![1, 1]⟩
abbrev S1x4096x128 : Shape := ⟨3, ![1, 4096, 128]⟩
abbrev S4096x128 : Shape := ⟨2, ![4096, 128]⟩
abbrev S1x4096x1x128 : Shape := ⟨4, ![1, 4096, 1, 128]⟩
abbrev S256x8x128 : Shape := ⟨3, ![256, 8, 128]⟩
abbrev S16x4x64x128 : Shape := ⟨4, ![16, 4, 64, 128]⟩
abbrev S256x1x128 : Shape := ⟨3, ![256, 1, 128]⟩
abbrev S256x128 : Shape := ⟨2, ![256, 128]⟩
abbrev S64x128 : Shape := ⟨2, ![64, 128]⟩
abbrev S16x1x64x128 : Shape := ⟨4, ![16, 1, 64, 128]⟩
abbrev S16x64x128 : Shape := ⟨3, ![16, 64, 128]⟩
abbrev S1024x128 : Shape := ⟨2, ![1024, 128]⟩
abbrev S64 : Shape := ⟨1, ![64]⟩
abbrev S64x1 : Shape := ⟨2, ![64, 1]⟩
abbrev S1 : Shape := ⟨1, ![1]⟩
abbrev S1x64x1024 : Shape := ⟨3, ![1, 64, 1024]⟩
abbrev S1x16x1024 : Shape := ⟨3, ![1, 16, 1024]⟩

abbrev nBuf : Space → Nat
  | .hbm => 6
  | .vmem => 15
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1x4096x128x128, .f32⟩
  | .hbm, ⟨3, _⟩ => ⟨S1x4096x128x128, .f32⟩
  | .hbm, ⟨4, _⟩ => ⟨S1024x1024, .f32⟩
  | .hbm, ⟨5, _⟩ => ⟨S1x256x1024, .f32⟩
  | .local _ .vmem, ⟨0, _⟩ => ⟨S1x256x1024, .f32⟩
  | .local _ .vmem, ⟨1, _⟩ => ⟨S1024x1024, .f32⟩
  | .local _ .vmem, ⟨2, _⟩ => ⟨S1024x1024, .f32⟩
  | .local _ .vmem, ⟨3, _⟩ => ⟨S1x256x1024, .f32⟩
  | .local _ .vmem, ⟨4, _⟩ => ⟨S8x4096x128, .f32⟩
  | .local _ .vmem, ⟨5, _⟩ => ⟨S8x4096x128, .f32⟩
  | .local _ .vmem, ⟨6, _⟩ => ⟨S256x1024, .bf16⟩
  | .local _ .vmem, ⟨7, _⟩ => ⟨S256x1024, .f32⟩
  | .local _ .vmem, ⟨8, _⟩ => ⟨S256x1024, .bf16⟩
  | .local _ .vmem, ⟨9, _⟩ => ⟨S4x64x1024, .bf16⟩
  | .local _ .vmem, ⟨10, _⟩ => ⟨S64x1024, .bf16⟩
  | .local _ .vmem, ⟨11, _⟩ => ⟨S4x16x1024, .bf16⟩
  | .local _ .vmem, ⟨12, _⟩ => ⟨S16x1024, .bf16⟩
  | .local _ .vmem, ⟨13, _⟩ => ⟨S64x1024, .bf16⟩
  | .local _ .vmem, ⟨14, _⟩ => ⟨S256x1024, .bf16⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  (ofTc nBuf bufTy 1 48 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_14 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v22 : BitVec 32 := Scalar.muli v20 c4_i32_6
  let c4_i32 : BitVec 32 := 4#32
  let v3 : BitVec 32 := Scalar.remsi v2 c4_i32
  let c1_i32_7 : BitVec 32 := 1#32
  let v23 : BitVec 32 := Scalar.addi v3 c1_i32_7
  let c4_i32_8 : BitVec 32 := 4#32
  let v24 : BitVec 32 := Scalar.remsi v23 c4_i32_8
  let v25 : BitVec 32 := Scalar.addi v22 v24
  let c1_i32_13 : BitVec 32 := 1#32
  let v30 : BitVec 32 := Scalar.muli v25 c1_i32_13
  let v31 : BitVec 32 := Scalar.addi c0_i32_14 v30
  v31.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_9 : BitVec 32 := 1#32
  let v26 : BitVec 32 := Scalar.addi v20 c1_i32_9
  let c4_i32_10 : BitVec 32 := 4#32
  let v27 : BitVec 32 := Scalar.remsi v26 c4_i32_10
  let c4_i32_11 : BitVec 32 := 4#32
  let v28 : BitVec 32 := Scalar.muli v27 c4_i32_11
  let c4_i32 : BitVec 32 := 4#32
  let v3 : BitVec 32 := Scalar.remsi v2 c4_i32
  let v29 : BitVec 32 := Scalar.addi v28 v3
  let c1_i32_16 : BitVec 32 := 1#32
  let v32 : BitVec 32 := Scalar.muli v29 c1_i32_16
  let v33 : BitVec 32 := Scalar.addi c0_i32_17 v32
  v33.toNat
def k0_dev3 (d0 : Dev nD) : Nat :=
  let c0_i32_25 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_18 : BitVec 32 := 4#32
  let v34 : BitVec 32 := Scalar.muli v20 c4_i32_18
  let c4_i32 : BitVec 32 := 4#32
  let v3 : BitVec 32 := Scalar.remsi v2 c4_i32
  let c2_i32 : BitVec 32 := 2#32
  let v35 : BitVec 32 := Scalar.addi v3 c2_i32
  let c4_i32_19 : BitVec 32 := 4#32
  let v36 : BitVec 32 := Scalar.remsi v35 c4_i32_19
  let v37 : BitVec 32 := Scalar.addi v34 v36
  let c1_i32_24 : BitVec 32 := 1#32
  let v42 : BitVec 32 := Scalar.muli v37 c1_i32_24
  let v43 : BitVec 32 := Scalar.addi c0_i32_25 v42
  v43.toNat
def k0_dev4 (d0 : Dev nD) : Nat :=
  let c0_i32_28 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_20 : BitVec 32 := 2#32
  let v38 : BitVec 32 := Scalar.addi v20 c2_i32_20
  let c4_i32_21 : BitVec 32 := 4#32
  let v39 : BitVec 32 := Scalar.remsi v38 c4_i32_21
  let c4_i32_22 : BitVec 32 := 4#32
  let v40 : BitVec 32 := Scalar.muli v39 c4_i32_22
  let c4_i32 : BitVec 32 := 4#32
  let v3 : BitVec 32 := Scalar.remsi v2 c4_i32
  let v41 : BitVec 32 := Scalar.addi v40 v3
  let c1_i32_27 : BitVec 32 := 1#32
  let v44 : BitVec 32 := Scalar.muli v41 c1_i32_27
  let v45 : BitVec 32 := Scalar.addi c0_i32_28 v44
  v45.toNat
def k0_dev5 (d0 : Dev nD) : Nat :=
  let c0_i32_36 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_29 : BitVec 32 := 4#32
  let v46 : BitVec 32 := Scalar.muli v20 c4_i32_29
  let c4_i32 : BitVec 32 := 4#32
  let v3 : BitVec 32 := Scalar.remsi v2 c4_i32
  let c3_i32 : BitVec 32 := 3#32
  let v47 : BitVec 32 := Scalar.addi v3 c3_i32
  let c4_i32_30 : BitVec 32 := 4#32
  let v48 : BitVec 32 := Scalar.remsi v47 c4_i32_30
  let v49 : BitVec 32 := Scalar.addi v46 v48
  let c1_i32_35 : BitVec 32 := 1#32
  let v54 : BitVec 32 := Scalar.muli v49 c1_i32_35
  let v55 : BitVec 32 := Scalar.addi c0_i32_36 v54
  v55.toNat
def k0_dev6 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_31 : BitVec 32 := 3#32
  let v50 : BitVec 32 := Scalar.addi v20 c3_i32_31
  let c4_i32_32 : BitVec 32 := 4#32
  let v51 : BitVec 32 := Scalar.remsi v50 c4_i32_32
  let c4_i32_33 : BitVec 32 := 4#32
  let v52 : BitVec 32 := Scalar.muli v51 c4_i32_33
  let c4_i32 : BitVec 32 := 4#32
  let v3 : BitVec 32 := Scalar.remsi v2 c4_i32
  let v53 : BitVec 32 := Scalar.addi v52 v3
  let c1_i32_38 : BitVec 32 := 1#32
  let v56 : BitVec 32 := Scalar.muli v53 c1_i32_38
  let v57 : BitVec 32 := Scalar.addi c0_i32_39 v56
  v57.toNat
def k0_off1 (d0 : Dev nD) (c0_i32_40 : BitVec 32) : Fin 4 → Nat :=
  let c0_i32_42 : BitVec 32 := 0#32
  let c0_i32_48 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v58 : BitVec 32 := Scalar.muli v2 c8_i32
  let v59 : BitVec 32 := Scalar.addi v58 c0_i32_40
  let c0_i32_49 : BitVec 32 := 0#32
  ![0, 0, v59.toNat, 0]
def k0_off2 (d0 : Dev nD) (c1_i32_572 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v1159 : BitVec 32 := Scalar.addi v3 c1_i32_572
  let c4_i32_573 : BitVec 32 := 4#32
  let v1160 : BitVec 32 := Scalar.remsi v1159 c4_i32_573
  let c64_i32 : BitVec 32 := 64#32
  let v1161 : BitVec 32 := Scalar.muli v1160 c64_i32
  let v1162 : Index := Scalar.indexCast v1161
  let c0_574 : Index := 0#32
  ![v1162.toNat, 0]
def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  ![v3.toNat]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_585 : BitVec 32 := 0#32
  let c0_i32_586 : BitVec 32 := 0#32
  ![v3.toNat, 0, 0]
def k0_off5 (d0 : Dev nD) (c1_i32_572 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v1159 : BitVec 32 := Scalar.addi v3 c1_i32_572
  let c4_i32_573 : BitVec 32 := 4#32
  let v1160 : BitVec 32 := Scalar.remsi v1159 c4_i32_573
  let c64_i32_580 : BitVec 32 := 64#32
  let v1176 : BitVec 32 := Scalar.muli v1160 c64_i32_580
  let c0_i32_587 : BitVec 32 := 0#32
  ![v1176.toNat, 0]
def k0_dev7 (d0 : Dev nD) : Nat :=
  let c0_i32_584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_581 : BitVec 32 := 4#32
  let v1177 : BitVec 32 := Scalar.muli v20 c4_i32_581
  let c4_i32 : BitVec 32 := 4#32
  let v3 : BitVec 32 := Scalar.remsi v2 c4_i32
  let c1_i32_572 : BitVec 32 := 1#32
  let v1159 : BitVec 32 := Scalar.addi v3 c1_i32_572
  let c4_i32_573 : BitVec 32 := 4#32
  let v1160 : BitVec 32 := Scalar.remsi v1159 c4_i32_573
  let v1178 : BitVec 32 := Scalar.addi v1177 v1160
  let c1_i32_583 : BitVec 32 := 1#32
  let v1179 : BitVec 32 := Scalar.muli v1178 c1_i32_583
  let v1180 : BitVec 32 := Scalar.addi c0_i32_584 v1179
  v1180.toNat
def k0_dev8 (d0 : Dev nD) : Nat :=
  let c0_i32_601 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_598 : BitVec 32 := 4#32
  let v1206 : BitVec 32 := Scalar.muli v20 c4_i32_598
  let c4_i32 : BitVec 32 := 4#32
  let v3 : BitVec 32 := Scalar.remsi v2 c4_i32
  let c2_i32_588 : BitVec 32 := 2#32
  let v1188 : BitVec 32 := Scalar.addi v3 c2_i32_588
  let c4_i32_589 : BitVec 32 := 4#32
  let v1189 : BitVec 32 := Scalar.remsi v1188 c4_i32_589
  let v1207 : BitVec 32 := Scalar.addi v1206 v1189
  let c1_i32_600 : BitVec 32 := 1#32
  let v1208 : BitVec 32 := Scalar.muli v1207 c1_i32_600
  let v1209 : BitVec 32 := Scalar.addi c0_i32_601 v1208
  v1209.toNat
def k0_dev9 (d0 : Dev nD) : Nat :=
  let c0_i32_618 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_615 : BitVec 32 := 4#32
  let v1235 : BitVec 32 := Scalar.muli v20 c4_i32_615
  let c4_i32 : BitVec 32 := 4#32
  let v3 : BitVec 32 := Scalar.remsi v2 c4_i32
  let c3_i32_605 : BitVec 32 := 3#32
  let v1217 : BitVec 32 := Scalar.addi v3 c3_i32_605
  let c4_i32_606 : BitVec 32 := 4#32
  let v1218 : BitVec 32 := Scalar.remsi v1217 c4_i32_606
  let v1236 : BitVec 32 := Scalar.addi v1235 v1218
  let c1_i32_617 : BitVec 32 := 1#32
  let v1237 : BitVec 32 := Scalar.muli v1236 c1_i32_617
  let v1238 : BitVec 32 := Scalar.addi c0_i32_618 v1237
  v1238.toNat
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c64_i32_622 : BitVec 32 := 64#32
  let v1246 : BitVec 32 := Scalar.muli v3 c64_i32_622
  let v1247 : Index := Scalar.indexCast v1246
  let c0_623 : Index := 0#32
  ![v1247.toNat, 0]
def k0_off7 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v1257 : Index := Scalar.indexCast v3
  let c0_627 : Index := 0#32
  let c0_628 : Index := 0#32
  ![v1257.toNat, 0, 0]
def k0_off8 (d0 : Dev nD) (c1_i32_629 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v1261 : BitVec 32 := Scalar.addi v3 c1_i32_629
  let c4_i32_630 : BitVec 32 := 4#32
  let v1262 : BitVec 32 := Scalar.remsi v1261 c4_i32_630
  ![v1262.toNat]
def k0_off9 (d0 : Dev nD) (c1_i32_629 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v1261 : BitVec 32 := Scalar.addi v3 c1_i32_629
  let c4_i32_630 : BitVec 32 := 4#32
  let v1262 : BitVec 32 := Scalar.remsi v1261 c4_i32_630
  let c0_i32_634 : BitVec 32 := 0#32
  let c0_i32_635 : BitVec 32 := 0#32
  ![v1262.toNat, 0, 0]
def k0_off10 (d0 : Dev nD) : Fin 1 → Nat :=
  let c4_i32_680 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v1313 : BitVec 32 := Scalar.addi c4_i32_680 v20
  ![v1313.toNat]
def k0_off11 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_685 : BitVec 32 := 0#32
  let c0_i32_686 : BitVec 32 := 0#32
  ![v20.toNat, 0, 0]
def k0_off12 (d0 : Dev nD) (c1_i32_677 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v1310 : BitVec 32 := Scalar.addi v20 c1_i32_677
  let c4_i32_678 : BitVec 32 := 4#32
  let v1311 : BitVec 32 := Scalar.remsi v1310 c4_i32_678
  let c16_i32_679 : BitVec 32 := 16#32
  let v1312 : BitVec 32 := Scalar.muli v1311 c16_i32_679
  let c0_i32_687 : BitVec 32 := 0#32
  ![v1312.toNat, 0]
def k0_dev10 (d0 : Dev nD) : Nat :=
  let c0_i32_684 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_677 : BitVec 32 := 1#32
  let v1310 : BitVec 32 := Scalar.addi v20 c1_i32_677
  let c4_i32_678 : BitVec 32 := 4#32
  let v1311 : BitVec 32 := Scalar.remsi v1310 c4_i32_678
  let c4_i32_681 : BitVec 32 := 4#32
  let v1314 : BitVec 32 := Scalar.muli v1311 c4_i32_681
  let c4_i32 : BitVec 32 := 4#32
  let v3 : BitVec 32 := Scalar.remsi v2 c4_i32
  let v1315 : BitVec 32 := Scalar.addi v1314 v3
  let c1_i32_683 : BitVec 32 := 1#32
  let v1316 : BitVec 32 := Scalar.muli v1315 c1_i32_683
  let v1317 : BitVec 32 := Scalar.addi c0_i32_684 v1316
  v1317.toNat
def k0_dev11 (d0 : Dev nD) : Nat :=
  let c0_i32_695 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_688 : BitVec 32 := 2#32
  let v1325 : BitVec 32 := Scalar.addi v20 c2_i32_688
  let c4_i32_689 : BitVec 32 := 4#32
  let v1326 : BitVec 32 := Scalar.remsi v1325 c4_i32_689
  let c4_i32_692 : BitVec 32 := 4#32
  let v1329 : BitVec 32 := Scalar.muli v1326 c4_i32_692
  let c4_i32 : BitVec 32 := 4#32
  let v3 : BitVec 32 := Scalar.remsi v2 c4_i32
  let v1330 : BitVec 32 := Scalar.addi v1329 v3
  let c1_i32_694 : BitVec 32 := 1#32
  let v1331 : BitVec 32 := Scalar.muli v1330 c1_i32_694
  let v1332 : BitVec 32 := Scalar.addi c0_i32_695 v1331
  v1332.toNat
def k0_dev12 (d0 : Dev nD) : Nat :=
  let c0_i32_706 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_699 : BitVec 32 := 3#32
  let v1340 : BitVec 32 := Scalar.addi v20 c3_i32_699
  let c4_i32_700 : BitVec 32 := 4#32
  let v1341 : BitVec 32 := Scalar.remsi v1340 c4_i32_700
  let c4_i32_703 : BitVec 32 := 4#32
  let v1344 : BitVec 32 := Scalar.muli v1341 c4_i32_703
  let c4_i32 : BitVec 32 := 4#32
  let v3 : BitVec 32 := Scalar.remsi v2 c4_i32
  let v1345 : BitVec 32 := Scalar.addi v1344 v3
  let c1_i32_705 : BitVec 32 := 1#32
  let v1346 : BitVec 32 := Scalar.muli v1345 c1_i32_705
  let v1347 : BitVec 32 := Scalar.addi c0_i32_706 v1346
  v1347.toNat
def k0_off13 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c16_i32_710 : BitVec 32 := 16#32
  let v1355 : BitVec 32 := Scalar.muli v20 c16_i32_710
  let v1356 : Index := Scalar.indexCast v1355
  let c0_711 : Index := 0#32
  ![v1356.toNat, 0]
def k0_off14 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v1359 : Index := Scalar.indexCast v20
  let c0_712 : Index := 0#32
  let c0_713 : Index := 0#32
  ![v1359.toNat, 0, 0]
def k0_off15 (d0 : Dev nD) (c1_i32_714 : BitVec 32) : Fin 1 → Nat :=
  let c4_i32_716 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v1363 : BitVec 32 := Scalar.addi v20 c1_i32_714
  let c4_i32_715 : BitVec 32 := 4#32
  let v1364 : BitVec 32 := Scalar.remsi v1363 c4_i32_715
  let v1365 : BitVec 32 := Scalar.addi c4_i32_716 v1364
  ![v1365.toNat]
def k0_off16 (d0 : Dev nD) (c1_i32_714 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v1363 : BitVec 32 := Scalar.addi v20 c1_i32_714
  let c4_i32_715 : BitVec 32 := 4#32
  let v1364 : BitVec 32 := Scalar.remsi v1363 c4_i32_715
  let c0_i32_720 : BitVec 32 := 0#32
  let c0_i32_721 : BitVec 32 := 0#32
  ![v1364.toNat, 0, 0]
def k0_off17 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  ![v20.toNat]
def k0_off18 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c16_i32_767 : BitVec 32 := 16#32
  let v1417 : BitVec 32 := Scalar.muli v20 c16_i32_767
  let c0_i32_772 : BitVec 32 := 0#32
  ![v1417.toNat, 0]
def k0_dev13 (d0 : Dev nD) : Nat :=
  let c0_i32_771 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_765 : BitVec 32 := 1#32
  let v1415 : BitVec 32 := Scalar.addi v20 c1_i32_765
  let c4_i32_766 : BitVec 32 := 4#32
  let v1416 : BitVec 32 := Scalar.remsi v1415 c4_i32_766
  let c4_i32_768 : BitVec 32 := 4#32
  let v1418 : BitVec 32 := Scalar.muli v1416 c4_i32_768
  let c4_i32 : BitVec 32 := 4#32
  let v3 : BitVec 32 := Scalar.remsi v2 c4_i32
  let v1419 : BitVec 32 := Scalar.addi v1418 v3
  let c1_i32_770 : BitVec 32 := 1#32
  let v1420 : BitVec 32 := Scalar.muli v1419 c1_i32_770
  let v1421 : BitVec 32 := Scalar.addi c0_i32_771 v1420
  v1421.toNat
def k0_dev14 (d0 : Dev nD) : Nat :=
  let c0_i32_779 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_773 : BitVec 32 := 2#32
  let v1427 : BitVec 32 := Scalar.addi v20 c2_i32_773
  let c4_i32_774 : BitVec 32 := 4#32
  let v1428 : BitVec 32 := Scalar.remsi v1427 c4_i32_774
  let c4_i32_776 : BitVec 32 := 4#32
  let v1430 : BitVec 32 := Scalar.muli v1428 c4_i32_776
  let c4_i32 : BitVec 32 := 4#32
  let v3 : BitVec 32 := Scalar.remsi v2 c4_i32
  let v1431 : BitVec 32 := Scalar.addi v1430 v3
  let c1_i32_778 : BitVec 32 := 1#32
  let v1432 : BitVec 32 := Scalar.muli v1431 c1_i32_778
  let v1433 : BitVec 32 := Scalar.addi c0_i32_779 v1432
  v1433.toNat
def k0_dev15 (d0 : Dev nD) : Nat :=
  let c0_i32_787 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_781 : BitVec 32 := 3#32
  let v1439 : BitVec 32 := Scalar.addi v20 c3_i32_781
  let c4_i32_782 : BitVec 32 := 4#32
  let v1440 : BitVec 32 := Scalar.remsi v1439 c4_i32_782
  let c4_i32_784 : BitVec 32 := 4#32
  let v1442 : BitVec 32 := Scalar.muli v1440 c4_i32_784
  let c4_i32 : BitVec 32 := 4#32
  let v3 : BitVec 32 := Scalar.remsi v2 c4_i32
  let v1443 : BitVec 32 := Scalar.addi v1442 v3
  let c1_i32_786 : BitVec 32 := 1#32
  let v1444 : BitVec 32 := Scalar.muli v1443 c1_i32_786
  let v1445 : BitVec 32 := Scalar.addi c0_i32_787 v1444
  v1445.toNat
def k0_off19 (d0 : Dev nD) (c1_i32_793 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v1457 : BitVec 32 := Scalar.addi v20 c1_i32_793
  let c4_i32_794 : BitVec 32 := 4#32
  let v1458 : BitVec 32 := Scalar.remsi v1457 c4_i32_794
  ![v1458.toNat]
def k0_off20 (d0 : Dev nD) : Fin 1 → Nat :=
  let c4_i32_826 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v1493 : BitVec 32 := Scalar.addi c4_i32_826 v3
  ![v1493.toNat]
def k0_off21 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c64_i32_825 : BitVec 32 := 64#32
  let v1492 : BitVec 32 := Scalar.muli v3 c64_i32_825
  let c0_i32_830 : BitVec 32 := 0#32
  ![v1492.toNat, 0]
def k0_dev16 (d0 : Dev nD) : Nat :=
  let c0_i32_829 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_827 : BitVec 32 := 4#32
  let v1494 : BitVec 32 := Scalar.muli v20 c4_i32_827
  let c4_i32 : BitVec 32 := 4#32
  let v3 : BitVec 32 := Scalar.remsi v2 c4_i32
  let c1_i32_823 : BitVec 32 := 1#32
  let v1490 : BitVec 32 := Scalar.addi v3 c1_i32_823
  let c4_i32_824 : BitVec 32 := 4#32
  let v1491 : BitVec 32 := Scalar.remsi v1490 c4_i32_824
  let v1495 : BitVec 32 := Scalar.addi v1494 v1491
  let c1_i32_828 : BitVec 32 := 1#32
  let v1496 : BitVec 32 := Scalar.muli v1495 c1_i32_828
  let v1497 : BitVec 32 := Scalar.addi c0_i32_829 v1496
  v1497.toNat
def k0_dev17 (d0 : Dev nD) : Nat :=
  let c0_i32_837 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_835 : BitVec 32 := 4#32
  let v1507 : BitVec 32 := Scalar.muli v20 c4_i32_835
  let c4_i32 : BitVec 32 := 4#32
  let v3 : BitVec 32 := Scalar.remsi v2 c4_i32
  let c2_i32_831 : BitVec 32 := 2#32
  let v1503 : BitVec 32 := Scalar.addi v3 c2_i32_831
  let c4_i32_832 : BitVec 32 := 4#32
  let v1504 : BitVec 32 := Scalar.remsi v1503 c4_i32_832
  let v1508 : BitVec 32 := Scalar.addi v1507 v1504
  let c1_i32_836 : BitVec 32 := 1#32
  let v1509 : BitVec 32 := Scalar.muli v1508 c1_i32_836
  let v1510 : BitVec 32 := Scalar.addi c0_i32_837 v1509
  v1510.toNat
def k0_dev18 (d0 : Dev nD) : Nat :=
  let c0_i32_845 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_843 : BitVec 32 := 4#32
  let v1520 : BitVec 32 := Scalar.muli v20 c4_i32_843
  let c4_i32 : BitVec 32 := 4#32
  let v3 : BitVec 32 := Scalar.remsi v2 c4_i32
  let c3_i32_839 : BitVec 32 := 3#32
  let v1516 : BitVec 32 := Scalar.addi v3 c3_i32_839
  let c4_i32_840 : BitVec 32 := 4#32
  let v1517 : BitVec 32 := Scalar.remsi v1516 c4_i32_840
  let v1521 : BitVec 32 := Scalar.addi v1520 v1517
  let c1_i32_844 : BitVec 32 := 1#32
  let v1522 : BitVec 32 := Scalar.muli v1521 c1_i32_844
  let v1523 : BitVec 32 := Scalar.addi c0_i32_845 v1522
  v1523.toNat
def k0_off22 (d0 : Dev nD) (c1_i32_851 : BitVec 32) : Fin 1 → Nat :=
  let c4_i32_854 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v1535 : BitVec 32 := Scalar.addi v3 c1_i32_851
  let c4_i32_852 : BitVec 32 := 4#32
  let v1536 : BitVec 32 := Scalar.remsi v1535 c4_i32_852
  let v1538 : BitVec 32 := Scalar.addi c4_i32_854 v1536
  ![v1538.toNat]
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x256x1024 : Shape := ⟨3, ![1, 256, 1024]⟩
abbrev S1024x16384 : Shape := ⟨2, ![1024, 16384]⟩
abbrev S1x4096x128x128 : Shape := ⟨4, ![1, 4096, 128, 128]⟩
abbrev S16384x1024 : Shape := ⟨2, ![16384, 1024]⟩
abbrev S1x256x16384 : Shape := ⟨3, ![1, 256, 16384]⟩
abbrev S1x256x128x128 : Shape := ⟨4, ![1, 256, 128, 128]⟩
abbrev S256 : Shape := ⟨1, ![256]⟩
abbrev S_ : Shape := ⟨0, ![]⟩
abbrev S256x1 : Shape := ⟨2, ![256, 1]⟩
abbrev S4096 : Shape := ⟨1, ![4096]⟩
abbrev S1x4096 : Shape := ⟨2, ![1, 4096]⟩
abbrev S256x4096 : Shape := ⟨2, ![256, 4096]⟩
abbrev S1x128x256x4096 : Shape := ⟨4, ![1, 128, 256, 4096]⟩
abbrev S1x1x256x4096 : Shape := ⟨4, ![1, 1, 256, 4096]⟩
abbrev S1x128x256 : Shape := ⟨3, ![1, 128, 256]⟩
abbrev S1x128x256x1 : Shape := ⟨4, ![1, 128, 256, 1]⟩
abbrev S1x1x256x1 : Shape := ⟨4, ![1, 1, 256, 1]⟩
abbrev S1x128x128x256 : Shape := ⟨4, ![1, 128, 128, 256]⟩

abbrev nBuf : Space → Nat
  | .hbm => 137
  | .vmem => 0
  | .smem => 0
  | _ => 0

abbrev hbmTy0_0 (i : Nat) : BufTy := match i % 128 with
  | 0 => ⟨S1x256x1024, .f32⟩
  | 1 => ⟨S1024x16384, .f32⟩
  | 2 => ⟨S1x4096x128x128, .f32⟩
  | 3 => ⟨S1x4096x128x128, .f32⟩
  | 4 => ⟨S16384x1024, .f32⟩
  | 5 => ⟨S1x256x16384, .f32⟩
  | 6 => ⟨S1x256x128x128, .f32⟩
  | 7 => ⟨S256, .i32⟩
  | 8 => ⟨S_, .i32⟩
  | 9 => ⟨S_, .i32⟩
  | 10 => ⟨S256, .i32⟩
  | 11 => ⟨S256, .i32⟩
  | 12 => ⟨S256, .i32⟩
  | 13 => ⟨S_, .i32⟩
  | 14 => ⟨S256, .i32⟩
  | 15 => ⟨S256, .i1⟩
  | 16 => ⟨S256, .i32⟩
  | 17 => ⟨S256, .i32⟩
  | 18 => ⟨S_, .i32⟩
  | 19 => ⟨S256, .i32⟩
  | 20 => ⟨S256, .i1⟩
  | 21 => ⟨S256, .i1⟩
  | 22 => ⟨S_, .i32⟩
  | 23 => ⟨S256, .i32⟩
  | 24 => ⟨S256, .i32⟩
  | 25 => ⟨S256, .i32⟩
  | 26 => ⟨S256x1, .i32⟩
  | 27 => ⟨S4096, .i32⟩
  | 28 => ⟨S_, .i32⟩
  | 29 => ⟨S_, .i32⟩
  | 30 => ⟨S4096, .i32⟩
  | 31 => ⟨S4096, .i32⟩
  | 32 => ⟨S4096, .i32⟩
  | 33 => ⟨S_, .i32⟩
  | 34 => ⟨S4096, .i32⟩
  | 35 => ⟨S4096, .i1⟩
  | 36 => ⟨S4096, .i32⟩
  | 37 => ⟨S4096, .i32⟩
  | 38 => ⟨S_, .i32⟩
  | 39 => ⟨S4096, .i32⟩
  | 40 => ⟨S4096, .i1⟩
  | 41 => ⟨S4096, .i1⟩
  | 42 => ⟨S_, .i32⟩
  | 43 => ⟨S4096, .i32⟩
  | 44 => ⟨S4096, .i32⟩
  | 45 => ⟨S4096, .i32⟩
  | 46 => ⟨S1x4096, .i32⟩
  | 47 => ⟨S256x4096, .i32⟩
  | 48 => ⟨S256x4096, .i32⟩
  | 49 => ⟨S256x4096, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x4096, .i32⟩
  | 57 => ⟨S1x4096, .i32⟩
  | 58 => ⟨S_, .i32⟩
  | 59 => ⟨S1x4096, .i32⟩
  | 60 => ⟨S1x4096, .i1⟩
  | 61 => ⟨S_, .i32⟩
  | 62 => ⟨S1x4096, .i32⟩
  | 63 => ⟨S1x4096, .i1⟩
  | 64 => ⟨S_, .i32⟩
  | 65 => ⟨S_, .i1⟩
  | 66 => ⟨S1x4096, .i1⟩
  | 67 => ⟨S1x4096, .i1⟩
  | 68 => ⟨S1x4096, .i1⟩
  | 69 => ⟨S1x4096, .i32⟩
  | 70 => ⟨S1x4096, .i32⟩
  | 71 => ⟨S1x4096, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S256x1, .i32⟩
  | 79 => ⟨S256x1, .i32⟩
  | 80 => ⟨S_, .i32⟩
  | 81 => ⟨S256x1, .i32⟩
  | 82 => ⟨S256x1, .i1⟩
  | 83 => ⟨S_, .i32⟩
  | 84 => ⟨S256x1, .i32⟩
  | 85 => ⟨S256x1, .i1⟩
  | 86 => ⟨S_, .i32⟩
  | 87 => ⟨S_, .i1⟩
  | 88 => ⟨S256x1, .i1⟩
  | 89 => ⟨S256x1, .i1⟩
  | 90 => ⟨S256x1, .i1⟩
  | 91 => ⟨S256x1, .i32⟩
  | 92 => ⟨S256x1, .i32⟩
  | 93 => ⟨S256x1, .i32⟩
  | 94 => ⟨S256x4096, .i32⟩
  | 95 => ⟨S256x4096, .i32⟩
  | 96 => ⟨S256x4096, .i1⟩
  | 97 => ⟨S256x4096, .i1⟩
  | 98 => ⟨S1x128x256x4096, .f32⟩
  | 99 => ⟨S_, .f32⟩
  | 100 => ⟨S1x128x256x4096, .f32⟩
  | 101 => ⟨S1x128x256x4096, .f32⟩
  | 102 => ⟨S1x1x256x4096, .i1⟩
  | 103 => ⟨S_, .f32⟩
  | 104 => ⟨S_, .f32⟩
  | 105 => ⟨S1x128x256x4096, .i1⟩
  | 106 => ⟨S1x128x256x4096, .f32⟩
  | 107 => ⟨S1x128x256x4096, .f32⟩
  | 108 => ⟨S_, .f32⟩
  | 109 => ⟨S1x128x256, .f32⟩
  | 110 => ⟨S1x128x256x1, .f32⟩
  | 111 => ⟨S1x128x256x4096, .f32⟩
  | 112 => ⟨S1x128x256x4096, .f32⟩
  | 113 => ⟨S1x128x256x4096, .f32⟩
  | 114 => ⟨S_, .i1⟩
  | 115 => ⟨S256, .i1⟩
  | 116 => ⟨S1x1x256x1, .i1⟩
  | 117 => ⟨S_, .f32⟩
  | 118 => ⟨S1x128x256, .f32⟩
  | 119 => ⟨S1x128x256x1, .f32⟩
  | 120 => ⟨S_, .f32⟩
  | 121 => ⟨S_, .f32⟩
  | 122 => ⟨S1x128x256x1, .i1⟩
  | 123 => ⟨S1x128x256x1, .f32⟩
  | 124 => ⟨S1x128x256x1, .f32⟩
  | 125 => ⟨S1x128x256x4096, .f32⟩
  | 126 => ⟨S1x128x256x4096, .f32⟩
  | 127 => ⟨S1x1x256x1, .i1⟩
  | _ => ⟨S1x256x1024, .f32⟩

abbrev hbmTy0_1 (i : Nat) : BufTy := match i % 128 with
  | 0 => ⟨S_, .f32⟩
  | 1 => ⟨S_, .f32⟩
  | 2 => ⟨S1x128x256x4096, .i1⟩
  | 3 => ⟨S1x128x256x4096, .f32⟩
  | 4 => ⟨S1x128x256x4096, .f32⟩
  | 5 => ⟨S1x128x128x256, .f32⟩
  | 6 => ⟨S1x256x128x128, .f32⟩
  | 7 => ⟨S1x256x16384, .f32⟩
  | 8 => ⟨S1x256x1024, .f32⟩
  | _ => ⟨S1x256x1024, .f32⟩

abbrev hbmTy (i : Nat) : BufTy := match i / 128 with
  | 0 => hbmTy0_0 i
  | 1 => hbmTy0_1 i
  | _ => ⟨S1x256x1024, .f32⟩

abbrev bufTy : (tb : Table) → Fin (tcTables nBuf tb) → BufTy
  | .hbm, ⟨i, _⟩ => hbmTy i
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Base.lean ====
/- The protocol's bookkeeping: the semaphore cells, who a device's peers are, what it owes and in which order it pays,
   the levels that keep the waits from closing a cycle, and the resource algebra. Nothing here depends on contents. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.KernelIdealRun
open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Peers

The four stages are 0 (row reduce-scatter), 1 (column reduce-scatter), 2 (column all-gather), 3 (row all-gather).
A row holds the four devices of one `c / 4`, a column the four of one `c % 4`. -/

/-- A device's slot among the four of its row (stages 0 and 3) or of its column (stages 1 and 2). -/
def slot (st : Fin 4) (c : Dev nD) : Fin 4 :=
  match st with
  | 0 => ⟨c.val % 4, Nat.mod_lt _ (by decide)⟩
  | 3 => ⟨c.val % 4, Nat.mod_lt _ (by decide)⟩
  | _ => ⟨c.val / 4, Nat.div_lt_of_lt_mul c.isLt⟩

/-- The device of slot `j` in `c`'s row (stages 0 and 3) or column (stages 1 and 2). -/
def at_ (st : Fin 4) (c : Dev nD) (j : Fin 4) : Dev nD :=
  match st with
  | 0 => ⟨c.val / 4 * 4 + j.val, by have := c.isLt; have h : c.val < 16 := this; show _ < 16; omega⟩
  | 3 => ⟨c.val / 4 * 4 + j.val, by have := c.isLt; have h : c.val < 16 := this; show _ < 16; omega⟩
  | _ => ⟨j.val * 4 + c.val % 4, by show _ < 16; omega⟩

/-- Peer number `i` of `c`: `i + 1` slots further round. -/
def pslot (st : Fin 4) (c : Dev nD) (i : Fin 3) : Fin 4 := slot st c + 1 + i.castSucc
def peer (st : Fin 4) (c : Dev nD) (i : Fin 3) : Dev nD := at_ st c (pslot st c i)

/-- `c` is peer number `opp i` of its own peer number `i`. -/
def opp (i : Fin 3) : Fin 3 := Fin.rev i

set_option maxRecDepth 10000 in
theorem peer_opp : ∀ (st : Fin 4) (c : Dev nD) (i : Fin 3), peer st (peer st c i) (opp i) = c := by decide +kernel
theorem opp_opp : ∀ i : Fin 3, opp (opp i) = i := by decide
theorem slot_peer : ∀ (st : Fin 4) (c : Dev nD) (i : Fin 3), slot st (peer st c i) = pslot st c i := by decide +kernel
theorem at_peer : ∀ (st : Fin 4) (c : Dev nD) (i : Fin 3) (j : Fin 4), at_ st (peer st c i) j = at_ st c j := by decide +kernel
theorem at_slot : ∀ (st : Fin 4) (c : Dev nD), at_ st c (slot st c) = c := by decide +kernel
theorem pslot_ne : ∀ (st : Fin 4) (c : Dev nD) (i : Fin 3), pslot st c i ≠ slot st c := by decide +kernel

/-! ## Cells -/

/-- A device's cells: the barrier; the send semaphore of stage `st` to peer `i`; the receive semaphore of stage `st` for
    what the device of slot `j` sends. -/
inductive Cell where
  | bar : Cell
  | s (st : Fin 4) (i : Fin 3) : Cell
  | r (st : Fin 4) (j : Fin 4) : Cell
  deriving DecidableEq

/-- The cells as a sum of index types, to count them by. -/
def Cell.equiv : Unit ⊕ (Fin 4 × Fin 3) ⊕ (Fin 4 × Fin 4) ≃ Cell where
  toFun
    | .inl _ => .bar
    | .inr (.inl x) => .s x.1 x.2
    | .inr (.inr x) => .r x.1 x.2
  invFun
    | .bar => .inl ()
    | .s st i => .inr (.inl (st, i))
    | .r st j => .inr (.inr (st, j))
  left_inv := by rintro (_ | _ | _) <;> rfl
  right_inv := by rintro (_ | _ | _) <;> rfl
instance : Fintype Cell := Fintype.ofEquiv _ Cell.equiv

abbrev barS : Sem sig := (SemArray.scalar (sig.barrier 0 rfl) : Sems sig S_).sem

def csem : Cell → SemLoc sig
  | .bar => .reg barS
  | .s st i => .dma ⟨20 + 3 * st.val + i.val, by show _ < 48; omega⟩
  | .r st j => .dma ⟨32 + 4 * st.val + j.val, by show _ < 48; omega⟩

/-- Which cell a semaphore location is. -/
def ix : SemLoc sig → Option Cell
  | .reg _ => some .bar
  | .dma n =>
    if h : n.val < 20 then none
    else if n.val < 32 then some (.s (Fin.ofNat 4 ((n.val - 20) / 3)) (Fin.ofNat 3 ((n.val - 20) % 3)))
    else some (.r (Fin.ofNat 4 ((n.val - 32) / 4)) (Fin.ofNat 4 ((n.val - 32) % 4)))

theorem ix_csem : ∀ k : Cell, ix (csem k) = some k := by decide +kernel
theorem csem_inj : Function.Injective csem := fun a b h => Option.some.inj ((ix_csem a).symm.trans ((congrArg ix h).trans (ix_csem b)))

abbrev kcell (ck : Dev nD × Cell) : GSem nD τ sig := ((ck.1 : Thread nD τ), csem ck.2)

theorem kcell_injective : Function.Injective (kcell : Dev nD × Cell → GSem nD τ sig) := by
  rintro ⟨c, k⟩ ⟨c', k'⟩ h
  have h1 : c = c' := congrArg (fun g : GSem nD τ sig => g.1.1) h
  subst h1
  have h2 : k = k' := csem_inj (congrArg Prod.snd h : csem k = csem k')
  subst h2; rfl

/-! ## Amounts -/

/-- What one transfer of stage `st` adds to its semaphores. -/
def NN (st : Fin 4) : ℕ :=
  match st with
  | 0 => (Memref.whole cc0_scratch6 : Memref sig .tc .vmem S4x64x1024 .bf16).view.dmaCredit / 4
  | 1 => (Memref.whole cc0_scratch8 : Memref sig .tc .vmem S4x16x1024 .bf16).view.dmaCredit / 4
  | 2 => (Memref.whole cc0_scratch9 : Memref sig .tc .vmem S16x1024 .bf16).view.dmaCredit
  | 3 => (Memref.whole cc0_scratch10 : Memref sig .tc .vmem S64x1024 .bf16).view.dmaCredit

theorem NN_pos : ∀ st, 0 < NN st := by decide +kernel

def amt : Cell → ℕ
  | .bar => 1
  | .s st _ => NN st
  | .r st _ => NN st

theorem amt_pos (k : Cell) : 0 < amt k := by
  cases k
  · exact Nat.one_pos
  · exact NN_pos _
  · exact NN_pos _

/-! ## Levels -/

def lvl : Cell → ℕ
  | .bar => 1
  | .s _ _ => 0
  | .r st _ => 2 + st.val

def L (g : GSem nD τ sig) : Finset Unit := if g.1.2 = .tc then {()} else ∅
def lv (g : GSem nD τ sig) (_ : Unit) : ℕ := match ix g.2 with
  | some k => lvl k
  | none => 0

theorem L_of_ne (g : GSem nD τ sig) (h : g.1.2 ≠ .tc) : L g = ∅ := if_neg h
theorem L_tc (c : Dev nD) (sm : SemLoc sig) : L ((c : Thread nD τ), sm) = {()} := if_pos rfl
theorem lv_kcell (ck : Dev nD × Cell) : lv (kcell ck) () = lvl ck.2 := by unfold lv; rw [ix_csem]

/-! ## Debts -/

/-- A list of payments still to make, each the amount of its cell. -/
def owing (l : List (Dev nD × Cell)) : CellTallies nD τ sig Unit := l.foldr (fun x acc => acc + tallyAt (kcell x) () (amt x.2)) 0

theorem owing_cons (x : Dev nD × Cell) (l) : owing (x :: l) = owing l + tallyAt (kcell x) () (amt x.2) := rfl

theorem owing_pos {l : List (Dev nD × Cell)} {g : GSem nD τ sig} {u : Unit} (h : 0 < owing l g u) : ∃ x ∈ l, g = kcell x := by
  induction l with
  | nil => exact absurd h (Nat.lt_irrefl 0)
  | cons x l ih =>
    rw [owing_cons, Pi.add_apply, Finsupp.add_apply, tallyAt_apply] at h
    by_cases hx : g = kcell x ∧ u = ()
    · exact ⟨x, List.mem_cons_self, hx.1⟩
    · rw [if_neg hx, Nat.add_zero] at h
      obtain ⟨y, hy, e⟩ := ih h
      exact ⟨y, List.mem_cons_of_mem _ hy, e⟩

/-- How much of a list goes to one cell. -/
theorem owing_at (l : List (Dev nD × Cell)) (x : Dev nD × Cell) : owing l (kcell x) () = l.count x * amt x.2 := by
  induction l with
  | nil => show 0 = _; rw [List.count_nil, Nat.zero_mul]
  | cons y l ih =>
    rw [owing_cons, Pi.add_apply, Finsupp.add_apply, ih, tallyAt_apply, List.count_cons]
    by_cases h : y = x
    · subst h; rw [if_pos ⟨rfl, rfl⟩, beq_self_eq_true, if_pos rfl, Nat.add_mul, Nat.one_mul]
    · rw [if_neg (fun h' => h (kcell_injective h'.1).symm), if_neg (by simpa using h)]; rfl

/-- The payments of the barrier, in the order of the signals, and those of stage `st`. -/
def barDebt (c : Dev nD) : List (Dev nD × Cell) :=
  [(peer 0 c 0, .bar), (peer 1 c 0, .bar), (peer 0 c 1, .bar), (peer 1 c 1, .bar), (peer 0 c 2, .bar), (peer 1 c 2, .bar)]
def stDebt (st : Fin 4) (c : Dev nD) : List (Dev nD × Cell) :=
  [(peer st c 0, .r st (slot st c)), (peer st c 1, .r st (slot st c)), (peer st c 2, .r st (slot st c))]
def debtD (c : Dev nD) : List (Dev nD × Cell) := stDebt 3 c
def debtC (c : Dev nD) : List (Dev nD × Cell) := stDebt 2 c ++ debtD c
def debtB (c : Dev nD) : List (Dev nD × Cell) := stDebt 1 c ++ debtC c
def debtA (c : Dev nD) : List (Dev nD × Cell) := stDebt 0 c ++ debtB c
def debt (c : Dev nD) : List (Dev nD × Cell) := barDebt c ++ debtA c

/-- What a device expects at one of its cells over the whole run. -/
def due (c : Dev nD) : Cell → ℕ
  | .bar => 6
  | .s _ _ => 0
  | .r st j => if j = slot st c then 0 else 1

set_option maxRecDepth 20000 in
theorem due_eq : ∀ (c : Dev nD) (k : Cell), (Finset.univ.sum fun d : Dev nD => (debt d).count (c, k)) = due c k := by decide +kernel

/-! ## The resource algebra: the pipeline's copy, the protocol's rounds (six duty names), and counters for the local copies -/

abbrev D : Type := Bool × Fin 3
abbrev UB : Type := URounds (GSem nD τ sig) D
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

/-! ## Waits -/

omit [FloatOps F] in
/-- A device may wait on a semaphore whose level is below that of everything it still owes. -/
theorem mayWait_of (c : Dev nD) (sm : SemLoc sig) (n : ℕ) (hn : lv ((c : Thread nD τ), sm) () ≤ n) (l : List (Dev nD × Cell))
    (h : ∀ x ∈ l, n < lvl x.2) : (levAts L lv : sProp 𝕄) ⊢ MayWait (c : Thread nD τ) sm () (owing l) :=
  MayOwe.of_cut (L := L) (lev := lv) n (fun p hp => by rw [Finset.mem_singleton.mp hp, L_tc]; exact Finset.mem_singleton_self _)
    (fun g u hg => by obtain ⟨x, _, rfl⟩ := owing_pos hg; exact Finset.mem_singleton_self _)
    (fun p hp => by rw [Finset.mem_singleton.mp hp]; exact hn)
    (fun g u hg => by obtain ⟨x, hx, rfl⟩ := owing_pos hg; cases u; rw [lv_kcell]; exact h x hx)

/-- Holding a list of debts, after some waits or other. -/
def ow (c : Dev nD) (l : List (Dev nD × Cell)) : sProp 𝕄 := iprop(∃ W, owes (c : Thread nD τ) (owing l) W)

end Cert.KernelIdealRun

end
-- ==== Proof.Sched.lean ====
/- What every buffer holds when the protocol is done with it, and the schedule whose landings carry those contents. -/
module

public import proofs.«01_k».proof.Proof.Base
public import Idealize.ShloMosaic.Lib.ValueIdxCore

@[expose] public section

noncomputable section

namespace Cert.KernelIdealRun
open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

/-! ## Contents -/

/-- The staged blocks of `x`, `Wq`, `Wo` on device `c`, and its whole `K` and `V` arrays. -/
def xB (c : Dev nD) : Vec F S1x256x1024 .f32 := (win0_0.blk t0_0).view.read (Elt F) (m ((c : Thread nD τ).loc main_arg0))
def wqB (c : Dev nD) : Vec F S1024x1024 .f32 := (win0_1.blk t0_0).view.read (Elt F) (m ((c : Thread nD τ).loc main_arg1))
def woB (c : Dev nD) : Vec F S1024x1024 .f32 := (win0_2.blk t0_0).view.read (Elt F) (m ((c : Thread nD τ).loc main_arg4))
def kA (c : Dev nD) : Vec F S1x4096x128x128 .f32 := m ((c : Thread nD τ).loc main_arg2)
def vA (c : Dev nD) : Vec F S1x4096x128x128 .f32 := m ((c : Thread nD τ).loc main_arg3)

/-- Head `8 c + h` of a `[1, 4096, 128, 128]` array, for every `h` of the device's eight: the slab. -/
def slab (c : Dev nD) (A : Vec F S1x4096x128x128 .f32) : Vec F S8x4096x128 .f32 := fun i =>
  A (ix4 (0 : Fin 1) (i 1) ⟨8 * c.val + (i 0).val, by have h : c.val < 16 := c.isLt; have h' : (i 0).val < 8 := (i 0).isLt; show _ < 128; omega⟩ (i 2))
/-- One head of it, as the load of a slab's slice reads it. -/
def slabH (c : Dev nD) (A : Vec F S1x4096x128x128 .f32) (h : Fin 8) : Vec F S1x4096x128 .f32 := fun i => slab c A (ix3 h (i 1) (i 2))

theorem sl_q (h : Fin 8) : S256x8x128.Slices ![0, h.val, 0] S256x1x128 := by revert h; decide
theorem sl_g (g : Fin 4) : S256x128.Slices ![64 * g.val, 0] S64x128 := by revert g; decide
theorem sl_k (g : Fin 4) : S16x4x64x128.Slices ![0, g.val, 0, 0] S16x1x64x128 := by revert g; decide

/-- The queries' head `h`; the keys' (or values') group `g`. -/
def qHead (q : FVec F S256x8x128 .bf16) (h : Fin 8) : FVec F S256x128 .bf16 :=
  shapeCast S256x128 (extractStridedSlice S256x1x128 ![0, h.val, 0] q (sl_q h)) shapeCasts_S256x1x128_S256x128
def qTile (q : FVec F S256x8x128 .bf16) (g : Fin 4) (h : Fin 8) : FVec F S64x128 .bf16 :=
  extractStridedSlice S64x128 ![64 * g.val, 0] (qHead q h) (sl_g g)
def kvTile (k : Vec F S1x4096x128 .f32) (g : Fin 4) : FVec F S1024x128 .bf16 :=
  shapeCast S1024x128 (shapeCast S16x64x128 (extractStridedSlice S16x1x64x128 ![0, g.val, 0, 0]
    (shapeCast S16x4x64x128 (truncf .bf16 (shapeCast S4096x128 k shapeCasts_S1x4096x128_S4096x128) bitsLt_bf16_f32) shapeCasts_S4096x128_S16x4x64x128)
    (sl_k g)) shapeCasts_S16x1x64x128_S16x64x128) shapeCasts_S16x64x128_S1024x128
/-- The scaled scores of one group and head, -/
def scores (q : FVec F S64x128 .bf16) (k : FVec F S1024x128 .bf16) : FVec F S64x1024 .f32 :=
  mulf (matmul dot_S64x128_S1024x128_S64x1024_1_1_0_0_n_n none q k (constant S64x1024 .f32 0x00000000#32))
    (broadcast S64x1024 (Scalar.ofBits .f32 0x3DB504F3#32))
/-- exponentiated against the row's maximum, -/
def expw (s : FVec F S64x1024 .f32) : FVec F S64x1024 .f32 :=
  exp (subf s (broadcastTo S64x1024 (shapeCast S64x1 (multiReduction .maximumf [1] S64 s 0xFF800000#32 reduces_S64x1024_S64 (.inl rfl) rfl) shapeCasts_S64_S64x1) broadcasts_S64x1_S64x1024))
/-- and the weighted values, normalised. -/
def tileOf (w : FVec F S64x1024 .f32) (v : FVec F S1024x128 .bf16) : FVec F S64x128 .bf16 :=
  shapeCast S64x128 (truncf .bf16 (divf
    (matmul dot_S64x1024_S1024x128_S64x128_1_0_0_1_n_n none (truncf .bf16 w bitsLt_bf16_f32) v (constant S64x128 .f32 0x00000000#32))
    (broadcastTo S64x128 (shapeCast S64x1 (multiReduction .add [1] S64 w 0x00000000#32 reduces_S64x1024_S64 (.inl rfl) rfl) shapeCasts_S64_S64x1) broadcasts_S64x1_S64x128))
    bitsLt_bf16_f32) shapeCasts_S64x128_S64x128
/-- The attention of group `g`, head `h`: 64 query rows against the group's 1024 keys. -/
def attnTile (q : FVec F S256x8x128 .bf16) (k v : Vec F S1x4096x128 .f32) (g : Fin 4) (h : Fin 8) : FVec F S64x128 .bf16 :=
  tileOf (expw (scores (qTile q g h) (kvTile k g))) (kvTile v g)

def qv (c : Dev nD) : FVec F S256x8x128 .bf16 := k0_pay2 (xB m c) (wqB m c)

/-- The context of device `c`'s eight heads. -/
def CTX (c : Dev nD) : Vec F S256x1024 .bf16 := fun i =>
  let g : Fin 4 := ⟨(i 0).val / 64, by have h : (i 0).val < 256 := (i 0).isLt; omega⟩
  let h : Fin 8 := ⟨(i 1).val / 128, by have h : (i 1).val < 1024 := (i 1).isLt; omega⟩
  attnTile (qv m c) (slabH c (kA m c) h) (slabH c (vA m c) h) g h
    (ix2 (⟨(i 0).val % 64, Nat.mod_lt _ (by decide)⟩ : Fin 64) (⟨(i 1).val % 128, Nat.mod_lt _ (by decide)⟩ : Fin 128))

/-- Rows `64 j …` of it, and their product with the device's rows of `Wo`. -/
def ctxRows (c : Dev nD) (j : Fin 4) : Vec F S64x1024 .bf16 := fun i =>
  CTX m c (ix2 (⟨64 * j.val + (i 0).val, by have h : (i 0).val < 64 := (i 0).isLt; omega⟩ : Fin 256) (i 1))
def partRows (c : Dev nD) (j : Fin 4) : Vec F S64x1024 .bf16 := k0_pay94 (woB m c) (ctxRows m c j)
def PB (c : Dev nD) : Vec F S256x1024 .bf16 := fun i =>
  partRows m c ⟨(i 0).val / 64, by have h : (i 0).val < 256 := (i 0).isLt; omega⟩
    (ix2 (⟨(i 0).val % 64, Nat.mod_lt _ (by decide)⟩ : Fin 64) (i 1))

/-- The row reduce-scatter: block `j` is the row's device `j`'s share of `c`'s rows; then their sum. -/
def BA (c : Dev nD) : Vec F S4x64x1024 .bf16 := fun i => partRows m (at_ 0 c (i 0)) (slot 0 c) (ix2 (i 1) (i 2))
def CS (c : Dev nD) : Vec F S64x1024 .bf16 := k0_pay105 (k0_pay104 (BA m c))

/-- The column reduce-scatter. -/
def csRows (c : Dev nD) (j : Fin 4) : Vec F S16x1024 .bf16 := fun i =>
  CS m c (ix2 (⟨16 * j.val + (i 0).val, by have h : (i 0).val < 16 := (i 0).isLt; omega⟩ : Fin 64) (i 1))
def BB (c : Dev nD) : Vec F S4x16x1024 .bf16 := fun i => csRows m (at_ 1 c (i 0)) (slot 1 c) (ix2 (i 1) (i 2))
def AG (c : Dev nD) : Vec F S16x1024 .bf16 := k0_pay108 (k0_pay107 (BB m c))

/-- The column all-gather, the row all-gather, the result. -/
def CB (c : Dev nD) : Vec F S64x1024 .bf16 := fun i =>
  AG m (at_ 2 c ⟨(i 0).val / 16, by have h : (i 0).val < 64 := (i 0).isLt; omega⟩)
    (ix2 (⟨(i 0).val % 16, Nat.mod_lt _ (by decide)⟩ : Fin 16) (i 1))
def OB (c : Dev nD) : Vec F S256x1024 .bf16 := fun i =>
  CB m (at_ 3 c ⟨(i 0).val / 64, by have h : (i 0).val < 256 := (i 0).isLt; omega⟩)
    (ix2 (⟨(i 0).val % 64, Nat.mod_lt _ (by decide)⟩ : Fin 64) (i 1))
def outB (c : Dev nD) : Vec F S1x256x1024 .f32 := k0_pay1 (k0_pay111 (OB m c))

/-! ## Pieces of buffers -/

def sA (j : Fin 4) : Finset S4x64x1024.Idx := Finset.univ.filter fun i => (i 0).val = j.val
def sB (j : Fin 4) : Finset S4x16x1024.Idx := Finset.univ.filter fun i => (i 0).val = j.val
def s16 (j : Fin 4) : Finset S64x1024.Idx := Finset.univ.filter fun i => (i 0).val / 16 = j.val
def s64 (j : Fin 4) : Finset S256x1024.Idx := Finset.univ.filter fun i => (i 0).val / 64 = j.val

abbrev b5 (c : Dev nD) : Loc nD τ sig := (c : Thread nD τ).loc cc0_scratch5
abbrev b6 (c : Dev nD) : Loc nD τ sig := (c : Thread nD τ).loc cc0_scratch6
abbrev b7 (c : Dev nD) : Loc nD τ sig := (c : Thread nD τ).loc cc0_scratch7
abbrev b8 (c : Dev nD) : Loc nD τ sig := (c : Thread nD τ).loc cc0_scratch8
abbrev b9 (c : Dev nD) : Loc nD τ sig := (c : Thread nD τ).loc cc0_scratch9
abbrev b10 (c : Dev nD) : Loc nD τ sig := (c : Thread nD τ).loc cc0_scratch10
abbrev b11 (c : Dev nD) : Loc nD τ sig := (c : Thread nD τ).loc cc0_scratch11

/-- Slot `j` of device `c`'s landing buffer of stage `st`, at contents nobody cares about, -/
def dstP (st : Fin 4) (c : Dev nD) (j : Fin 4) : sProp 𝕄 :=
  match st with
  | 0 => iprop(∃ f : Buf (Elt F) (b6 c), b6 c ↦[sA j]{fullShare} f)
  | 1 => iprop(∃ f : Buf (Elt F) (b8 c), b8 c ↦[sB j]{fullShare} f)
  | 2 => iprop(∃ f : Buf (Elt F) (b10 c), b10 c ↦[s16 j]{fullShare} f)
  | 3 => iprop(∃ f : Buf (Elt F) (b11 c), b11 c ↦[s64 j]{fullShare} f)
/-- and at what lands there; -/
def rP (st : Fin 4) (c : Dev nD) (j : Fin 4) : sProp 𝕄 :=
  match st with
  | 0 => b6 c ↦[sA j]{fullShare} BA m c
  | 1 => b8 c ↦[sB j]{fullShare} BB m c
  | 2 => b10 c ↦[s16 j]{fullShare} CB m c
  | 3 => b11 c ↦[s64 j]{fullShare} OB m c
/-- the source of the transfer to peer `i`, lent for the flight. -/
def sP (st : Fin 4) (c : Dev nD) (i : Fin 3) : sProp 𝕄 :=
  match st with
  | 0 => b5 c ↦[s64 (pslot 0 c i)]{fullShare} PB m c
  | 1 => b7 c ↦[s16 (pslot 1 c i)]{fullShare} CS m c
  | 2 => b9 c ↦[Finset.univ]{Transfers.shareTok fullShare 3 i} AG m c
  | 3 => b10 c ↦[Finset.univ]{Transfers.shareTok fullShare 3 i} CB m c

instance dstP_storable (st c j) : BI.Storable (upEmb : UEmb _ 𝕄) (dstP (F := F) st c j) := by unfold dstP; split <;> infer_instance
instance rP_storable (st c j) : BI.Storable (upEmb : UEmb _ 𝕄) (rP m st c j) := by unfold rP; split <;> infer_instance
instance sP_storable (st c i) : BI.Storable (upEmb : UEmb _ 𝕄) (sP m st c i) := by unfold sP; split <;> infer_instance

/-- What peer `d.2` of device `c` (in its row, or with `d.1` in its column) hands over with its barrier signal: its two
    landing slots that `c` will write. -/
def barPay (c : Dev nD) (d : D) : sProp 𝕄 :=
  match d.1 with
  | false => iprop(dstP (F := F) 0 (peer 0 c d.2) (slot 0 c) ∗ dstP (F := F) 3 (peer 3 c d.2) (slot 3 c))
  | true => iprop(dstP (F := F) 1 (peer 1 c d.2) (slot 1 c) ∗ dstP (F := F) 2 (peer 2 c d.2) (slot 2 c))

instance barPay_storable (c d) : BI.Storable (upEmb : UEmb _ 𝕄) (barPay (F := F) c d) := by unfold barPay; split <;> infer_instance

/-! ## The schedule -/

abbrev dd : D := (false, 0)

def Rd : Rounds.Schedule (GSem nD τ sig) D 𝕄 where
  duties g r := if r = 0 ∧ g.1.2 = .tc then
      (match ix g.2 with
      | some .bar => Finset.univ
      | some (.s _ _) => {dd}
      | some (.r st j) => if j = slot st g.1.1 then ∅ else {dd}
      | none => ∅)
    else ∅
  unitless _ := False
  amount g _ _ := match ix g.2 with
    | some k => amt k
    | none => 1
  payload g _ d := match ix g.2 with
    | some .bar => barPay (F := F) g.1.1 d
    | some (.s st i) => sP m st g.1.1 i
    | some (.r st j) => rP m st g.1.1 j
    | none => iprop(emp)
  amount_pos g _ _ _ := by
    cases ix g.2 with
    | none => exact Nat.one_pos
    | some k => exact amt_pos k

instance Rd_payload_storable (g : GSem nD τ sig) (r : ℕ) (d : D) : BI.Storable (upEmb : UEmb _ 𝕄) ((Rd (F := F) m).payload g r d) := by
  show BI.Storable upEmb (match ix g.2 with
    | some .bar => barPay (F := F) g.1.1 d
    | some (.s st i) => sP m st g.1.1 i
    | some (.r st j) => rP m st g.1.1 j
    | none => iprop(emp))
  split <;> infer_instance

section Sched
variable (c : Dev nD)

theorem duties_later (g : GSem nD τ sig) : ∀ r, 1 ≤ r → (Rd (F := F) m).duties g r = ∅ :=
  fun r hr => by dsimp only [Rd]; rw [if_neg fun h => by omega]
theorem duties_bar : (Rd (F := F) m).duties (kcell (c, .bar)) 0 = Finset.univ := by
  dsimp only [Rd]; rw [if_pos ⟨rfl, rfl⟩, ix_csem]
theorem duties_s (st i) : (Rd (F := F) m).duties (kcell (c, .s st i)) 0 = {dd} := by
  dsimp only [Rd]; rw [if_pos ⟨rfl, rfl⟩, ix_csem]
theorem duties_r (st j) : (Rd (F := F) m).duties (kcell (c, .r st j)) 0 = if j = slot st c then ∅ else {dd} := by
  dsimp only [Rd]; rw [if_pos ⟨rfl, rfl⟩, ix_csem]
theorem amount_k (k : Cell) (d : D) : (Rd (F := F) m).amount (kcell (c, k)) 0 d = amt k := by
  dsimp only [Rd]; rw [ix_csem]
theorem payload_bar (d : D) : (Rd (F := F) m).payload (kcell (c, .bar)) 0 d = barPay c d := by
  dsimp only [Rd]; rw [ix_csem]
theorem payload_s (st i) (d : D) : (Rd (F := F) m).payload (kcell (c, .s st i)) 0 d = sP m st c i := by
  dsimp only [Rd]; rw [ix_csem]
theorem payload_r (st j) (d : D) : (Rd (F := F) m).payload (kcell (c, .r st j)) 0 d = rP m st c j := by
  dsimp only [Rd]; rw [ix_csem]
theorem expect_bar : (Rd (F := F) m).expect (kcell (c, .bar)) 0 = 6 := by
  unfold Schedule.expect Schedule.amountOf
  rw [duties_bar, Finset.sum_congr rfl fun d _ => amount_k m c .bar d, Finset.sum_const]; rfl
theorem expect_s (st i) : (Rd (F := F) m).expect (kcell (c, .s st i)) 0 = NN st := by
  unfold Schedule.expect Schedule.amountOf; rw [duties_s, Finset.sum_singleton, amount_k]; rfl
theorem expect_r (st j) (h : j ≠ slot st c) : (Rd (F := F) m).expect (kcell (c, .r st j)) 0 = NN st := by
  unfold Schedule.expect Schedule.amountOf; rw [duties_r, if_neg h, Finset.sum_singleton, amount_k]; rfl
theorem rest_bar : bigSep ((Rd (F := F) m).duties (kcell (c, .bar)) 0 \ ∅) (fun d => (Rd (F := F) m).payload (kcell (c, .bar)) 0 d)
    = bigSep Finset.univ (fun d => barPay (F := F) c d) := by
  rw [Finset.sdiff_empty, duties_bar]; exact bigSep_congr fun d _ => payload_bar m c d
theorem rest_s (st i) : bigSep ((Rd (F := F) m).duties (kcell (c, .s st i)) 0 \ ∅) (fun d => (Rd (F := F) m).payload (kcell (c, .s st i)) 0 d) = sP m st c i := by
  rw [Finset.sdiff_empty, duties_s, bigSep_singleton, payload_s]
theorem rest_r (st j) (h : j ≠ slot st c) : bigSep ((Rd (F := F) m).duties (kcell (c, .r st j)) 0 \ ∅) (fun d => (Rd (F := F) m).payload (kcell (c, .r st j)) 0 d) = rP m st c j := by
  rw [Finset.sdiff_empty, duties_r, if_neg h, bigSep_singleton, payload_r]

end Sched

end Cert.KernelIdealRun

end
-- ==== Proof.Rules.lean ====
/- The effects' rules at this protocol: a barrier signal, the barrier wait, a send, the waits on a receive and on a send
   semaphore — each at a symbolic device, stage and peer. -/
module

public import proofs.«01_k».proof.Proof.Sched

@[expose] public section

noncomputable section

namespace Cert.KernelIdealRun
open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of a stretch of the body on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (K : Dev nD × Cell → ℕ)

/-- The protocol's persistent facts: every cell's invariant, every cell's round 0 reached, the levels. -/
def recs : sProp 𝕄 :=
  iprop((bigSep Finset.univ fun ck : Dev nD × Cell => cellInv ER (Rd m) (K ck) (kcell ck))
    ∗ (bigSep Finset.univ fun ck : Dev nD × Cell => reached ER (kcell ck) 0) ∗ levAts L lv)

instance recs_persistent : BI.Persistent (recs m K) := by unfold recs; infer_instance

theorem recs_inv (ck : Dev nD × Cell) : recs m K ⊢ cellInv ER (Rd m) (K ck) (kcell ck) := by
  unfold recs; iintro ⟨H, -, -⟩
  iapply (show (bigSep Finset.univ fun ck : Dev nD × Cell => (cellInv ER (Rd m) (K ck) (kcell ck) : sProp 𝕄)) ⊢ cellInv ER (Rd m) (K ck) (kcell ck) from
    bigSep_elim (Finset.mem_univ ck)); iexact H
theorem recs_reached (ck : Dev nD × Cell) : recs m K ⊢ reached ER (kcell ck) 0 := by
  unfold recs; iintro ⟨-, H, -⟩
  iapply (show (bigSep Finset.univ fun ck : Dev nD × Cell => (reached ER (kcell ck) 0 : sProp 𝕄)) ⊢ reached ER (kcell ck) 0 from
    bigSep_elim (Finset.mem_univ ck)); iexact H

theorem recs_mayWait (c : Dev nD) (sm : SemLoc sig) (n : ℕ) (hn : lv ((c : Thread nD τ), sm) () ≤ n) (l : List (Dev nD × Cell))
    (h : ∀ x ∈ l, n < lvl x.2) : recs m K ⊢ MayWait (c : Thread nD τ) sm () (owing l) := by
  unfold recs; iintro ⟨-, -, H⟩
  iapply (mayWait_of c sm n hn l h); iexact H

/-- The stage whose peers a barrier signal's direction names. -/
def kst (k : Bool) : Fin 4 := match k with
  | false => 0
  | true => 1

/-- A barrier signal to peer `i`. -/
theorem wp_sig (c n : Dev nD) (k : Bool) (i : Fin 3) (hn : n = peer (kst k) c i) (l : List (Dev nD × Cell))
    {α : Type} {Q : α → sProp 𝕄} {kt : PUnit → Prog (TpuEff nD τ sig (Elt F) Λ₀ .tc) α} :
    iprop(recs m K ∗ ow c ((peer (kst k) c i, .bar) :: l) ∗ dutyTok ER (kcell (peer (kst k) c i, .bar)) 0 (k, opp i)
        ∗ barPay (F := F) (peer (kst k) c i) (k, opp i))
      ⊢ iprop((ow c l -∗ WP c (kt ⟨⟩) Q) -∗ WP c (.op (.semSignal (n, .tc) barS (1#32).toInt) kt) Q) := by
  subst hn
  unfold ow
  iintro ⟨#HR, ⟨%W, HO⟩, Ht, Hp⟩ Hk
  iapply (Rounds.wp_signal 𝒱₀ ER (Rd m) (c : Thread nD τ) none (dst := (peer (kst k) c i : Thread nD τ)) (κ := K (peer (kst k) c i, .bar))
      (d := (k, opp i)) (by erw [duties_bar]; exact Finset.mem_univ _) ((amount_k m (peer (kst k) c i) .bar (k, opp i)).trans (by decide)) () (owing l) rfl)
    $$ [HO Ht Hp]
  · isplitr; · iapply (recs_inv m K (peer (kst k) c i, .bar)); iexact HR
    isplitl [HO]; · iexact HO
    isplitl [Ht]; · iexact Ht
    isplitl [Hp]; · erw [payload_bar]; iexact Hp
    iapply (recs_reached m K (peer (kst k) c i, .bar)); iexact HR
  iintro HO
  iapply Hk
  iexists W; iexact HO

/-- The barrier wait, owing only landings. -/
theorem wp_barWait (c : Dev nD) (l : List (Dev nD × Cell)) (hl : ∀ x ∈ l, 1 < lvl x.2)
    {α : Type} {Q : α → sProp 𝕄} {kt : PUnit → Prog (TpuEff nD τ sig (Elt F) Λ₀ .tc) α} :
    iprop(recs m K ∗ ow c l ∗ atPos ER (kcell (c, .bar)) 0 ∅ 0 ∗ cred (tallyAt (kcell (c, .bar)) () 6))
      ⊢ iprop((iprop(ow c l ∗ semVal (kcell (c, .bar)) 0 ∗ bigSep Finset.univ (fun d => barPay (F := F) c d)) -∗ WP c (kt ⟨⟩) Q)
          -∗ WP c (.op (.semWait barS (6#32).toInt) kt) Q) := by
  unfold ow
  iintro ⟨#HR, ⟨%W, HO⟩, Hat, Hc⟩ Hk
  iapply (Rounds.wp_wait_rest_token 𝒱₀ ER (Rd m) (c : Thread nD τ) none (κ := K (c, .bar)) (sm := .reg barS) (k' := 6)
      (wpE_semWait_eq 𝒱₀ (c : Thread nD τ) none Set.univ) (Set.mem_univ _) () (O := owing l) (W := W) (R := 0) (m := 0) (T := ∅)
      (by erw [expect_bar])) $$ [Hc HO Hat]
  · isplitr; · iapply (recs_inv m K (c, .bar)); iexact HR
    isplitl [Hc]; · iexact Hc
    isplitl [HO]; · iexact HO
    isplitr; · iapply (recs_mayWait m K c (.reg barS) 1 (le_of_eq (lv_kcell (c, .bar))) l hl); iexact HR
    iexact Hat
  iintro ⟨HO, Hat, -, Hpay⟩
  imod (Rounds.cell_close ER (Rd m) (Set.mem_univ (K (c, .bar))) (fun h => h) (R := 0 + 1) (duties_later m (kcell (c, .bar)))) $$ [Hat] with Hz
  · isplitr; · iapply (recs_inv m K (c, .bar)); iexact HR
    iexact Hat
  iapply Hk
  isplitl [HO]; · iexists _; iexact HO
  isplitl [Hz]; · iexact Hz
  iapply (Entails.of_eq (rest_bar m c)); iexact Hpay

/-- The wait on a receive semaphore: the landed piece. -/
theorem wp_recvW (c : Dev nD) (st j : Fin 4) (hj : j ≠ slot st c) (l : List (Dev nD × Cell)) (hl : ∀ x ∈ l, 2 + st.val < lvl x.2)
    {s s' : Shape} {e e' : EltTy} {sp sp' : Space} {κ' : Kind} {sem : DmaSem sig} (hs : SemLoc.dma sem = csem (.r st j))
    {srcw : Memref sig (c : Thread nD τ).2.kind sp' s' e'} {dstw : Memref sig κ' sp s e} {hsrc : srcw.view.WordExact} {hdst : dstw.view.WordExact}
    (hN : dstw.view.dmaCredit = NN st)
    {α : Type} {Q : α → sProp 𝕄} {kt : PUnit → Prog (TpuEff nD τ sig (Elt F) Λ₀ .tc) α} :
    iprop(recs m K ∗ ow c l ∗ atPos ER (kcell (c, .r st j)) 0 ∅ 0 ∗ cred (tallyAt (kcell (c, .r st j)) () (NN st)))
      ⊢ iprop((iprop(ow c l ∗ semVal (kcell (c, .r st j)) 0 ∗ rP m st c j) -∗ WP c (kt ⟨⟩) Q)
          -∗ WP c (.op (.waitDma2 sem srcw dstw hsrc hdst) kt) Q) := by
  unfold ow
  iintro ⟨#HR, ⟨%W, HO⟩, Hat, Hc⟩ Hk
  iapply (Rounds.wp_wait_rest_token 𝒱₀ ER (Rd m) (c : Thread nD τ) none (κ := K (c, .r st j)) (sm := csem (.r st j)) (k' := NN st)
      (fun Kt => (wpE_waitDma2_eq 𝒱₀ (c : Thread nD τ) none Set.univ Kt).trans (by rw [hs, hN])) (Set.mem_univ _) ()
      (O := owing l) (W := W) (R := 0) (m := 0) (T := ∅)
      (by rw [Nat.zero_add]; exact (expect_r m c st j hj).symm)) $$ [Hc HO Hat]
  · isplitr; · iapply (recs_inv m K (c, .r st j)); iexact HR
    isplitl [Hc]; · iexact Hc
    isplitl [HO]; · iexact HO
    isplitr; · iapply (recs_mayWait m K c (csem (.r st j)) (2 + st.val) (le_of_eq (lv_kcell (c, .r st j))) l hl); iexact HR
    iexact Hat
  iintro ⟨HO, Hat, -, Hpay⟩
  imod (Rounds.cell_close ER (Rd m) (Set.mem_univ (K (c, .r st j))) (fun h => h) (R := 0 + 1) (duties_later m (kcell (c, .r st j)))) $$ [Hat] with Hz
  · isplitr; · iapply (recs_inv m K (c, .r st j)); iexact HR
    iexact Hat
  iapply Hk
  isplitl [HO]; · iexists _; iexact HO
  isplitl [Hz]; · iexact Hz
  iapply (Entails.of_eq (rest_r m c st j hj)); iexact Hpay

/-- The wait on a send semaphore: the source back. -/
theorem wp_sendW (c : Dev nD) (st : Fin 4) (i : Fin 3) (l : List (Dev nD × Cell)) (hl : ∀ x ∈ l, 0 < lvl x.2)
    {s s' : Shape} {e e' : EltTy} {sp sp' : Space} {κ' : Kind} {sem : DmaSem sig} (hs : SemLoc.dma sem = csem (.s st i))
    {srcw : Memref sig (c : Thread nD τ).2.kind sp' s' e'} {dstw : Memref sig κ' sp s e} {hsrc : srcw.view.WordExact} {hdst : dstw.view.WordExact}
    (hN : dstw.view.dmaCredit = NN st)
    {α : Type} {Q : α → sProp 𝕄} {kt : PUnit → Prog (TpuEff nD τ sig (Elt F) Λ₀ .tc) α} :
    iprop(recs m K ∗ ow c l ∗ atPos ER (kcell (c, .s st i)) 0 ∅ 0 ∗ cred (tallyAt (kcell (c, .s st i)) () (NN st)))
      ⊢ iprop((iprop(ow c l ∗ semVal (kcell (c, .s st i)) 0 ∗ sP m st c i) -∗ WP c (kt ⟨⟩) Q)
          -∗ WP c (.op (.waitDma2 sem srcw dstw hsrc hdst) kt) Q) := by
  unfold ow
  iintro ⟨#HR, ⟨%W, HO⟩, Hat, Hc⟩ Hk
  iapply (Rounds.wp_wait_rest_token 𝒱₀ ER (Rd m) (c : Thread nD τ) none (κ := K (c, .s st i)) (sm := csem (.s st i)) (k' := NN st)
      (fun Kt => (wpE_waitDma2_eq 𝒱₀ (c : Thread nD τ) none Set.univ Kt).trans (by rw [hs, hN])) (Set.mem_univ _) ()
      (O := owing l) (W := W) (R := 0) (m := 0) (T := ∅)
      (by rw [Nat.zero_add]; exact (expect_s m c st i).symm)) $$ [Hc HO Hat]
  · isplitr; · iapply (recs_inv m K (c, .s st i)); iexact HR
    isplitl [Hc]; · iexact Hc
    isplitl [HO]; · iexact HO
    isplitr; · iapply (recs_mayWait m K c (csem (.s st i)) 0 (le_of_eq (lv_kcell (c, .s st i))) l hl); iexact HR
    iexact Hat
  iintro ⟨HO, Hat, -, Hpay⟩
  imod (Rounds.cell_close ER (Rd m) (Set.mem_univ (K (c, .s st i))) (fun h => h) (R := 0 + 1) (duties_later m (kcell (c, .s st i)))) $$ [Hat] with Hz
  · isplitr; · iapply (recs_inv m K (c, .s st i)); iexact HR
    iexact Hat
  iapply Hk
  isplitl [HO]; · iexists _; iexact HO
  isplitl [Hz]; · iexact Hz
  iapply (Entails.of_eq (rest_s m c st i)); iexact Hpay

/-- A send to peer `i` of stage `st`: its landing owed, both duties' tokens, the source lent, the peer's slot filled. -/
theorem wp_sendR (c n : Dev nD) (st : Fin 4) (i : Fin 3) (hn : n = peer st c i) (l : List (Dev nD × Cell))
    {s : Shape} {e : EltTy} {sp sp' : Space}
    {src : Memref sig (c : Thread nD τ).2.kind sp s e} {dst : Memref sig (Dev.tc n : Thread nD τ).2.kind sp' s e} {hsc : dst.view.ref.isScScratch = false}
    {sS sem : SemLoc sig} (hs : sS = csem (.s st i)) (hr : sem = csem (.r st (slot st c)))
    {hsrc : src.view.WordExact} {hdst : dst.view.WordExact} {hsem : DmaTarget.Typed sp sem (.remote (Dev.tc n : Thread nD τ) dst sS hsc)}
    (hN : dst.view.amount sem = NN st) (q : PosShare TreeShare) (fs : Buf (Elt F) (src.view.loc (c : Thread nD τ)))
    (hS : sP m st c i = (src.view.loc (c : Thread nD τ) ↦[src.view.set]{q} fs))
    (hD : dstP (F := F) st n (slot st c) ⊢ iprop(∃ f, dst.view.loc (n : Thread nD τ) ↦[dst.view.set]{fullShare} f))
    (hP : ∀ fd, (dst.view.loc (n : Thread nD τ) ↦[dst.view.set]{fullShare} (dst.view.write (Elt F) fd (src.view.read (Elt F) fs) Finset.univ))
      ⊢ rP m st n (slot st c))
    {α : Type} {Q : α → sProp 𝕄} {kt : PUnit → Prog (TpuEff nD τ sig (Elt F) Λ₀ .tc) α} :
    iprop(recs m K ∗ ow c ((peer st c i, .r st (slot st c)) :: l) ∗ dutyTok ER (kcell (c, .s st i)) 0 dd
        ∗ dutyTok ER (kcell (peer st c i, .r st (slot st c))) 0 dd ∗ sP m st c i ∗ dstP (F := F) st (peer st c i) (slot st c))
      ⊢ iprop((iprop(ow c l ∗ cred (tallyAt (kcell (c, .s st i)) () (NN st))) -∗ WP c (kt ⟨⟩) Q)
          -∗ WP c (.op (.enqueueDma src (.remote (Dev.tc n : Thread nD τ) dst sS hsc) sem hsrc hdst hsem) kt) Q) := by
  subst hn hs hr
  unfold ow
  iintro ⟨#HR, ⟨%W, HO⟩, Hts, Htr, Hsrc, Hdst⟩ Hk
  ihave Hd := hD $$ Hdst
  icases Hd with ⟨%fd, Hd⟩
  ihave Hs := (Entails.of_eq hS) $$ Hsrc
  iapply (Rounds.wp_send_pointsTo 𝒱₀ ER (Rd m) (c : Thread nD τ) none (κ₁ := K (c, .s st i)) (κ₂ := K (peer st c i, .r st (slot st c)))
    (r₁ := 0) (r₂ := 0) (d₁ := dd) (d₂ := dd) (fd := fd) (fs := fs) (q := q)
    (by erw [duties_s]; exact Finset.mem_singleton_self _)
    (by rw [show (Rd (F := F) m).duties (((peer st c i : Dev nD) : Thread nD τ), csem (.r st (slot st c))) 0 = {dd} from (duties_r m (peer st c i) st (slot st c)).trans (if_neg fun h => pslot_ne st c i ((slot_peer st c i).symm.trans h.symm))]; exact Finset.mem_singleton_self _)
    () () (NN st) hN (amount_k m c (.s st i) dd) (amount_k m (peer st c i) (.r st (slot st c)) dd) (owing l) rfl (W := W)
    (by rw [← hS]; exact Entails.of_eq (payload_s m c st i dd).symm)
    ((hP fd).trans (Entails.of_eq (payload_r m (peer st c i) st (slot st c) dd).symm))) $$ [HO Hts Htr Hs Hd]
  · isplitr; · iapply (recs_inv m K (c, .s st i)); iexact HR
    isplitr; · iapply (recs_inv m K (peer st c i, .r st (slot st c))); iexact HR
    isplitl [Hs]; · iexact Hs
    isplitl [Hd]; · iexact Hd
    isplitl [HO]; · iexact HO
    isplitl [Hts]; · iexact Hts
    isplitr; · iapply (recs_reached m K (c, .s st i)); iexact HR
    isplitl [Htr]; · iexact Htr
    iapply (recs_reached m K (peer st c i, .r st (slot st c))); iexact HR
  iintro ⟨Hc, HO⟩
  iapply Hk
  isplitl [HO]; · iexists W; iexact HO
  iexact Hc

end Cert.KernelIdealRun

end
-- ==== Proof.Offs.lean ====
/- The kernel's own offsets, device chains and semaphore names, read off as the protocol's slots, peers and cells. -/
module

public import proofs.«01_k».proof.Proof.Base

@[expose] public section

noncomputable section

namespace Cert.KernelIdealRun
open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

set_option maxRecDepth 20000

theorem dev1_eq (c : Dev nD) : (⟨k0_dev1 c, k0_dev1_lt c⟩ : Dev nD) = peer 0 c 0 := by revert c; decide +kernel
theorem dev2_eq (c : Dev nD) : (⟨k0_dev2 c, k0_dev2_lt c⟩ : Dev nD) = peer 1 c 0 := by revert c; decide +kernel
theorem dev3_eq (c : Dev nD) : (⟨k0_dev3 c, k0_dev3_lt c⟩ : Dev nD) = peer 0 c 1 := by revert c; decide +kernel
theorem dev4_eq (c : Dev nD) : (⟨k0_dev4 c, k0_dev4_lt c⟩ : Dev nD) = peer 1 c 1 := by revert c; decide +kernel
theorem dev5_eq (c : Dev nD) : (⟨k0_dev5 c, k0_dev5_lt c⟩ : Dev nD) = peer 0 c 2 := by revert c; decide +kernel
theorem dev6_eq (c : Dev nD) : (⟨k0_dev6 c, k0_dev6_lt c⟩ : Dev nD) = peer 1 c 2 := by revert c; decide +kernel
theorem dev7_eq (c : Dev nD) : (⟨k0_dev7 c, k0_dev7_lt c⟩ : Dev nD) = peer 0 c 0 := by revert c; decide +kernel
theorem dev8_eq (c : Dev nD) : (⟨k0_dev8 c, k0_dev8_lt c⟩ : Dev nD) = peer 0 c 1 := by revert c; decide +kernel
theorem dev9_eq (c : Dev nD) : (⟨k0_dev9 c, k0_dev9_lt c⟩ : Dev nD) = peer 0 c 2 := by revert c; decide +kernel
theorem dev10_eq (c : Dev nD) : (⟨k0_dev10 c, k0_dev10_lt c⟩ : Dev nD) = peer 1 c 0 := by revert c; decide +kernel
theorem dev11_eq (c : Dev nD) : (⟨k0_dev11 c, k0_dev11_lt c⟩ : Dev nD) = peer 1 c 1 := by revert c; decide +kernel
theorem dev12_eq (c : Dev nD) : (⟨k0_dev12 c, k0_dev12_lt c⟩ : Dev nD) = peer 1 c 2 := by revert c; decide +kernel
theorem dev13_eq (c : Dev nD) : (⟨k0_dev13 c, k0_dev13_lt c⟩ : Dev nD) = peer 2 c 0 := by revert c; decide +kernel
theorem dev14_eq (c : Dev nD) : (⟨k0_dev14 c, k0_dev14_lt c⟩ : Dev nD) = peer 2 c 1 := by revert c; decide +kernel
theorem dev15_eq (c : Dev nD) : (⟨k0_dev15 c, k0_dev15_lt c⟩ : Dev nD) = peer 2 c 2 := by revert c; decide +kernel
theorem dev16_eq (c : Dev nD) : (⟨k0_dev16 c, k0_dev16_lt c⟩ : Dev nD) = peer 3 c 0 := by revert c; decide +kernel
theorem dev17_eq (c : Dev nD) : (⟨k0_dev17 c, k0_dev17_lt c⟩ : Dev nD) = peer 3 c 1 := by revert c; decide +kernel
theorem dev18_eq (c : Dev nD) : (⟨k0_dev18 c, k0_dev18_lt c⟩ : Dev nD) = peer 3 c 2 := by revert c; decide +kernel
theorem o2 (c : Dev nD) (i : Fin 3) : k0_off2 c (BitVec.ofNat 32 (1 + i.val)) = ![64 * (pslot 0 c i).val, 0] := by revert c i; decide +kernel
theorem o5 (c : Dev nD) (i : Fin 3) : k0_off5 c (BitVec.ofNat 32 (1 + i.val)) = ![64 * (pslot 0 c i).val, 0] := by revert c i; decide +kernel
theorem o6 (c : Dev nD) : k0_off6 c = ![64 * (slot 0 c).val, 0] := by revert c; decide +kernel
theorem o21 (c : Dev nD) : k0_off21 c = ![64 * (slot 3 c).val, 0] := by revert c; decide +kernel
theorem o12 (c : Dev nD) (i : Fin 3) : k0_off12 c (BitVec.ofNat 32 (1 + i.val)) = ![16 * (pslot 1 c i).val, 0] := by revert c i; decide +kernel
theorem o13 (c : Dev nD) : k0_off13 c = ![16 * (slot 1 c).val, 0] := by revert c; decide +kernel
theorem o18 (c : Dev nD) : k0_off18 c = ![16 * (slot 2 c).val, 0] := by revert c; decide +kernel
theorem o4 (c : Dev nD) : k0_off4 c = ![(slot 0 c).val, 0, 0] := by revert c; decide +kernel
theorem o7 (c : Dev nD) : k0_off7 c = ![(slot 0 c).val, 0, 0] := by revert c; decide +kernel
theorem o11 (c : Dev nD) : k0_off11 c = ![(slot 1 c).val, 0, 0] := by revert c; decide +kernel
theorem o14 (c : Dev nD) : k0_off14 c = ![(slot 1 c).val, 0, 0] := by revert c; decide +kernel
theorem o3 (c : Dev nD) : k0_off3 c = ![0 + (slot 0 c).val] := by revert c; decide +kernel
theorem o8 (c : Dev nD) (i : Fin 3) : k0_off8 c (BitVec.ofNat 32 (1 + i.val)) = ![0 + (pslot 0 c i).val] := by revert c i; decide +kernel
theorem o10 (c : Dev nD) : k0_off10 c = ![4 + (slot 1 c).val] := by revert c; decide +kernel
theorem o15 (c : Dev nD) (i : Fin 3) : k0_off15 c (BitVec.ofNat 32 (1 + i.val)) = ![4 + (pslot 1 c i).val] := by revert c i; decide +kernel
theorem o17 (c : Dev nD) : k0_off17 c = ![0 + (slot 2 c).val] := by revert c; decide +kernel
theorem o19 (c : Dev nD) (i : Fin 3) : k0_off19 c (BitVec.ofNat 32 (1 + i.val)) = ![0 + (pslot 2 c i).val] := by revert c i; decide +kernel
theorem o20 (c : Dev nD) : k0_off20 c = ![4 + (slot 3 c).val] := by revert c; decide +kernel
theorem o22 (c : Dev nD) (i : Fin 3) : k0_off22 c (BitVec.ofNat 32 (1 + i.val)) = ![4 + (pslot 3 c i).val] := by revert c i; decide +kernel
theorem o13' (c : Dev nD) : k0_off13 c = ![16 * (slot 2 c).val, 0] := o13 c
theorem o6' (c : Dev nD) : k0_off6 c = ![64 * (slot 3 c).val, 0] := o6 c
theorem o1 (c : Dev nD) (h : Fin 8) : k0_off1 c (BitVec.ofNat 32 h.val) = ![0, 0, 8 * c.val + h.val, 0] := k0_off1_eq c h

/-! ## Semaphores -/

theorem inb8 (st : Fin 2) (j : Fin 4) : ∀ a, (![4 * st.val + j.val] : Fin 1 → ℕ) a + S1.size a ≤ S8.size a := by revert st j; decide
theorem rsem1_0_all : ∀ j : Fin 4, ((cc0_scratch13.slice (Rect.unit (s := S8) ![4 * 0 + j.val] S1.size (inb8 0 j))).squeeze S_ squeezes_S1_S_).sem.val = 32 + 0 + j.val := by
  decide +kernel
theorem rsem1_0 {off : Fin 1 → ℕ} {inb} (j : Fin 4) (h : off = ![0 + j.val]) :
    SemLoc.dma ((cc0_scratch13.slice (Rect.unit (s := S8) off S1.size inb)).squeeze S_ squeezes_S1_S_).sem = csem (.r 0 j) := by
  subst h; exact congrArg SemLoc.dma (Fin.ext (rsem1_0_all j))
theorem rsem1_1_all : ∀ j : Fin 4, ((cc0_scratch13.slice (Rect.unit (s := S8) ![4 * 1 + j.val] S1.size (inb8 1 j))).squeeze S_ squeezes_S1_S_).sem.val = 32 + 4 + j.val := by
  decide +kernel
theorem rsem1_1 {off : Fin 1 → ℕ} {inb} (j : Fin 4) (h : off = ![4 + j.val]) :
    SemLoc.dma ((cc0_scratch13.slice (Rect.unit (s := S8) off S1.size inb)).squeeze S_ squeezes_S1_S_).sem = csem (.r 1 j) := by
  subst h; exact congrArg SemLoc.dma (Fin.ext (rsem1_1_all j))
theorem rsem2_0_all : ∀ j : Fin 4, ((cc0_scratch14.slice (Rect.unit (s := S8) ![4 * 0 + j.val] S1.size (inb8 0 j))).squeeze S_ squeezes_S1_S_).sem.val = 40 + 0 + j.val := by
  decide +kernel
theorem rsem2_0 {off : Fin 1 → ℕ} {inb} (j : Fin 4) (h : off = ![0 + j.val]) :
    SemLoc.dma ((cc0_scratch14.slice (Rect.unit (s := S8) off S1.size inb)).squeeze S_ squeezes_S1_S_).sem = csem (.r 2 j) := by
  subst h; exact congrArg SemLoc.dma (Fin.ext (rsem2_0_all j))
theorem rsem2_1_all : ∀ j : Fin 4, ((cc0_scratch14.slice (Rect.unit (s := S8) ![4 * 1 + j.val] S1.size (inb8 1 j))).squeeze S_ squeezes_S1_S_).sem.val = 40 + 4 + j.val := by
  decide +kernel
theorem rsem2_1 {off : Fin 1 → ℕ} {inb} (j : Fin 4) (h : off = ![4 + j.val]) :
    SemLoc.dma ((cc0_scratch14.slice (Rect.unit (s := S8) off S1.size inb)).squeeze S_ squeezes_S1_S_).sem = csem (.r 3 j) := by
  subst h; exact congrArg SemLoc.dma (Fin.ext (rsem2_1_all j))

end Cert.KernelIdealRun

end
-- ==== Proof.Pieces.lean ====
/- The buffers' pieces as the body's slices name them, and the sends of the four stages. -/
module

public import proofs.«01_k».proof.Proof.Rules
public import proofs.«01_k».proof.Proof.Offs
public import Idealize.ShloMosaic.Lib.ValueLayout
public import Idealize.ShloMosaic.Lib.Pipeline.Value

@[expose] public section

noncomputable section

namespace Cert.KernelIdealRun
open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

variable (K : Dev nD × Cell → ℕ)

/-! ## Rectangles -/

theorem rect_s64 (j : Fin 4) (inb) : (Rect.unit (s := S256x1024) ![64 * j.val, 0] S64x1024.size inb).set = s64 j := by
  ext i
  rw [Rect.mem_set_unit, s64, Finset.mem_filter]
  have h1 : (i 1).val < 1024 := (i 1).isLt
  constructor
  · intro h
    have h0 : 64 * j.val ≤ (i 0).val ∧ (i 0).val < 64 * j.val + 64 := h 0
    exact ⟨Finset.mem_univ _, by omega⟩
  · rintro ⟨-, h⟩ a
    fin_cases a
    · show 64 * j.val ≤ (i 0).val ∧ (i 0).val < 64 * j.val + 64; omega
    · show 0 ≤ (i 1).val ∧ (i 1).val < 0 + 1024; omega
theorem rect_s16 (j : Fin 4) (inb) : (Rect.unit (s := S64x1024) ![16 * j.val, 0] S16x1024.size inb).set = s16 j := by
  ext i
  rw [Rect.mem_set_unit, s16, Finset.mem_filter]
  have h1 : (i 1).val < 1024 := (i 1).isLt
  constructor
  · intro h
    have h0 : 16 * j.val ≤ (i 0).val ∧ (i 0).val < 16 * j.val + 16 := h 0
    exact ⟨Finset.mem_univ _, by omega⟩
  · rintro ⟨-, h⟩ a
    fin_cases a
    · show 16 * j.val ≤ (i 0).val ∧ (i 0).val < 16 * j.val + 16; omega
    · show 0 ≤ (i 1).val ∧ (i 1).val < 0 + 1024; omega
theorem rect_sA (j : Fin 4) (inb) : (Rect.unit (s := S4x64x1024) ![j.val, 0, 0] S1x64x1024.size inb).set = sA j := by
  ext i
  rw [Rect.mem_set_unit, sA, Finset.mem_filter]
  have h1 : (i 1).val < 64 := (i 1).isLt
  have h2 : (i 2).val < 1024 := (i 2).isLt
  constructor
  · intro h
    have h0 : j.val ≤ (i 0).val ∧ (i 0).val < j.val + 1 := h 0
    exact ⟨Finset.mem_univ _, by omega⟩
  · rintro ⟨-, h⟩ a
    fin_cases a
    · show j.val ≤ (i 0).val ∧ (i 0).val < j.val + 1; omega
    · show 0 ≤ (i 1).val ∧ (i 1).val < 0 + 64; omega
    · show 0 ≤ (i 2).val ∧ (i 2).val < 0 + 1024; omega
theorem rect_sB (j : Fin 4) (inb) : (Rect.unit (s := S4x16x1024) ![j.val, 0, 0] S1x16x1024.size inb).set = sB j := by
  ext i
  rw [Rect.mem_set_unit, sB, Finset.mem_filter]
  have h1 : (i 1).val < 16 := (i 1).isLt
  have h2 : (i 2).val < 1024 := (i 2).isLt
  constructor
  · intro h
    have h0 : j.val ≤ (i 0).val ∧ (i 0).val < j.val + 1 := h 0
    exact ⟨Finset.mem_univ _, by omega⟩
  · rintro ⟨-, h⟩ a
    fin_cases a
    · show j.val ≤ (i 0).val ∧ (i 0).val < j.val + 1; omega
    · show 0 ≤ (i 1).val ∧ (i 1).val < 0 + 16; omega
    · show 0 ≤ (i 2).val ∧ (i 2).val < 0 + 1024; omega

theorem rowDiv (N : ℕ) (hN : 0 < N) (j a : ℕ) (ha : a < N) : (N * j + a) / N = j ∧ (N * j + a) % N = a :=
  ⟨by rw [Nat.mul_add_div hN, Nat.div_eq_of_lt ha, Nat.add_zero], by rw [Nat.mul_add_mod, Nat.mod_eq_of_lt ha]⟩

/-! ## What a piece of each buffer holds -/

theorem PB_at (c : Dev nD) (j : Fin 4) (a : Fin 64) (b : Fin 1024) (i : S256x1024.Idx) (h0 : (i 0).val = 64 * j.val + a.val) (h1 : (i 1).val = b.val) :
    PB m c i = partRows m c j (ix2 a b) := by
  have h := rowDiv 64 (by decide) j.val a.val a.isLt
  unfold PB
  exact congr (congrArg (partRows m c) (Fin.ext (by show (i 0).val / 64 = _; rw [h0, h.1])))
    (congr (congrArg ix2 (Fin.ext (by show (i 0).val % 64 = _; rw [h0, h.2]))) (Fin.ext h1))
theorem CS_at (c : Dev nD) (j : Fin 4) (a : Fin 16) (b : Fin 1024) (i : S64x1024.Idx) (h0 : (i 0).val = 16 * j.val + a.val) (h1 : (i 1).val = b.val) :
    CS m c i = csRows m c j (ix2 a b) := by
  unfold csRows
  exact congrArg (CS m c) (by rw [eq_ix2 i]; exact congr (congrArg ix2 (Fin.ext h0)) (Fin.ext h1))
theorem CTX_at (c : Dev nD) (j : Fin 4) (a : Fin 64) (b : Fin 1024) (i : S256x1024.Idx) (h0 : (i 0).val = 64 * j.val + a.val) (h1 : (i 1).val = b.val) :
    CTX m c i = ctxRows m c j (ix2 a b) := by
  unfold ctxRows
  exact congrArg (CTX m c) (by rw [eq_ix2 i]; exact congr (congrArg ix2 (Fin.ext h0)) (Fin.ext h1))
theorem BA_at (c : Dev nD) (j : Fin 4) (a : Fin 64) (b : Fin 1024) (i : S4x64x1024.Idx) (h0 : (i 0).val = j.val) (h1 : (i 1).val = a.val) (h2 : (i 2).val = b.val) :
    BA m c i = partRows m (at_ 0 c j) (slot 0 c) (ix2 a b) := by
  unfold BA
  exact congr (congrArg (fun d => partRows m (at_ 0 c d) (slot 0 c)) (Fin.ext h0)) (congr (congrArg ix2 (Fin.ext h1)) (Fin.ext h2))
theorem BB_at (c : Dev nD) (j : Fin 4) (a : Fin 16) (b : Fin 1024) (i : S4x16x1024.Idx) (h0 : (i 0).val = j.val) (h1 : (i 1).val = a.val) (h2 : (i 2).val = b.val) :
    BB m c i = csRows m (at_ 1 c j) (slot 1 c) (ix2 a b) := by
  unfold BB
  exact congr (congrArg (fun d => csRows m (at_ 1 c d) (slot 1 c)) (Fin.ext h0)) (congr (congrArg ix2 (Fin.ext h1)) (Fin.ext h2))
theorem CB_at (c : Dev nD) (j : Fin 4) (a : Fin 16) (b : Fin 1024) (i : S64x1024.Idx) (h0 : (i 0).val = 16 * j.val + a.val) (h1 : (i 1).val = b.val) :
    CB m c i = AG m (at_ 2 c j) (ix2 a b) := by
  have h := rowDiv 16 (by decide) j.val a.val a.isLt
  unfold CB
  exact congr (congrArg (fun d => AG m (at_ 2 c d)) (Fin.ext (by show (i 0).val / 16 = _; rw [h0, h.1])))
    (congr (congrArg ix2 (Fin.ext (by show (i 0).val % 16 = _; rw [h0, h.2]))) (Fin.ext h1))
theorem OB_at (c : Dev nD) (j : Fin 4) (a : Fin 64) (b : Fin 1024) (i : S256x1024.Idx) (h0 : (i 0).val = 64 * j.val + a.val) (h1 : (i 1).val = b.val) :
    OB m c i = CB m (at_ 3 c j) (ix2 a b) := by
  have h := rowDiv 64 (by decide) j.val a.val a.isLt
  unfold OB
  exact congr (congrArg (fun d => CB m (at_ 3 c d)) (Fin.ext (by show (i 0).val / 64 = _; rw [h0, h.1])))
    (congr (congrArg ix2 (Fin.ext (by show (i 0).val % 64 = _; rw [h0, h.2]))) (Fin.ext h1))

/-- What is written through a view is any contents that read as the payload there. -/
theorem landed {κ : Kind} {sp : Space} {s : Shape} {e : EltTy} (v : View sig κ sp s e) (fd X : v.ty.Contents (Elt F)) (w : s.Idx → Elt F e)
    (h : ∀ x, v.read (Elt F) X x = w x) : ∀ i ∈ v.set, v.write (Elt F) fd w Finset.univ i = X i := by
  intro i hi
  obtain ⟨x, rfl⟩ := View.exists_emb_of_mem_set v hi
  rw [View.write_emb_of_mem (v := v) (f := fd) (w := w) (Finset.mem_univ x), ← h x, View.read_apply, cast_cast, cast_eq]

/-- The amounts of the slices the transfers name. -/
theorem NN_0 : NN 0 = sig.dmaCredit .tc (Kind.tc.table .vmem) (View.whole cc0_scratch6 : View sig .tc .vmem _ _).buf S64x1024 .bf16 := by decide +kernel
theorem NN_1 : NN 1 = sig.dmaCredit .tc (Kind.tc.table .vmem) (View.whole cc0_scratch8 : View sig .tc .vmem _ _).buf S16x1024 .bf16 := by decide +kernel
theorem NN_2 : NN 2 = sig.dmaCredit .tc (Kind.tc.table .vmem) (View.whole cc0_scratch10 : View sig .tc .vmem _ _).buf S16x1024 .bf16 := by decide +kernel
theorem NN_3 : NN 3 = sig.dmaCredit .tc (Kind.tc.table .vmem) (View.whole cc0_scratch11 : View sig .tc .vmem _ _).buf S64x1024 .bf16 := by decide +kernel

/-! ## The sends -/

section Sends
variable (c n : Dev nD) (i : Fin 3) (l : List (Dev nD × Cell))

/-- What a send of stage `st` needs, and what it leaves. -/
def sndPre (st : Fin 4) : sProp 𝕄 :=
  iprop(recs m K ∗ ow c ((peer st c i, .r st (slot st c)) :: l) ∗ dutyTok ER (kcell (c, .s st i)) 0 dd
    ∗ dutyTok ER (kcell (peer st c i, .r st (slot st c))) 0 dd ∗ sP m st c i ∗ dstP (F := F) st (peer st c i) (slot st c))

theorem casts_A : S1x64x1024.ShapeCasts S64x1024 := by decide
theorem casts_B : S1x16x1024.ShapeCasts S16x1024 := by decide

/-- The slices the sends name, as the body writes them. -/
abbrev mRow5 (off : Fin 2 → ℕ) (inb : ∀ a, off a + S64x1024.size a ≤ S256x1024.size a) (hst : ∀ a, (Rect.unit (s := S256x1024) off S64x1024.size inb).stride a = 1) : Memref sig .tc .vmem S64x1024 .bf16 :=
  (Memref.whole cc0_scratch5 : Memref sig .tc .vmem S256x1024 .bf16).slice (Rect.unit (s := S256x1024) off S64x1024.size inb) hst
abbrev mBlk6 (off : Fin 3 → ℕ) (inb : ∀ a, off a + S1x64x1024.size a ≤ S4x64x1024.size a) (hst : ∀ a, (Rect.unit (s := S4x64x1024) off S1x64x1024.size inb).stride a = 1) : Memref sig .tc .vmem S64x1024 .bf16 :=
  ((Memref.whole cc0_scratch6 : Memref sig .tc .vmem S4x64x1024 .bf16).slice (Rect.unit (s := S4x64x1024) off S1x64x1024.size inb) hst).squeeze S64x1024 squeezes_S1x64x1024_S64x1024
abbrev mRow7 (off : Fin 2 → ℕ) (inb : ∀ a, off a + S16x1024.size a ≤ S64x1024.size a) (hst : ∀ a, (Rect.unit (s := S64x1024) off S16x1024.size inb).stride a = 1) : Memref sig .tc .vmem S16x1024 .bf16 :=
  (Memref.whole cc0_scratch7 : Memref sig .tc .vmem S64x1024 .bf16).slice (Rect.unit (s := S64x1024) off S16x1024.size inb) hst
abbrev mBlk8 (off : Fin 3 → ℕ) (inb : ∀ a, off a + S1x16x1024.size a ≤ S4x16x1024.size a) (hst : ∀ a, (Rect.unit (s := S4x16x1024) off S1x16x1024.size inb).stride a = 1) : Memref sig .tc .vmem S16x1024 .bf16 :=
  ((Memref.whole cc0_scratch8 : Memref sig .tc .vmem S4x16x1024 .bf16).slice (Rect.unit (s := S4x16x1024) off S1x16x1024.size inb) hst).squeeze S16x1024 squeezes_S1x16x1024_S16x1024
abbrev m9 : Memref sig .tc .vmem S16x1024 .bf16 := Memref.whole cc0_scratch9
abbrev mRow10 (off : Fin 2 → ℕ) (inb : ∀ a, off a + S16x1024.size a ≤ S64x1024.size a) (hst : ∀ a, (Rect.unit (s := S64x1024) off S16x1024.size inb).stride a = 1) : Memref sig .tc .vmem S16x1024 .bf16 :=
  (Memref.whole cc0_scratch10 : Memref sig .tc .vmem S64x1024 .bf16).slice (Rect.unit (s := S64x1024) off S16x1024.size inb) hst
abbrev m10 : Memref sig .tc .vmem S64x1024 .bf16 := Memref.whole cc0_scratch10
abbrev mRow11 (off : Fin 2 → ℕ) (inb : ∀ a, off a + S64x1024.size a ≤ S256x1024.size a) (hst : ∀ a, (Rect.unit (s := S256x1024) off S64x1024.size inb).stride a = 1) : Memref sig .tc .vmem S64x1024 .bf16 :=
  (Memref.whole cc0_scratch11 : Memref sig .tc .vmem S256x1024 .bf16).slice (Rect.unit (s := S256x1024) off S64x1024.size inb) hst

theorem wp_sendA (hn : n = peer 0 c i) {off1 : Fin 2 → ℕ} {off2 : Fin 3 → ℕ} {inb1 inb2 hst1 hst2} (h1 : off1 = ![64 * (pslot 0 c i).val, 0]) (h2 : off2 = ![(slot 0 c).val, 0, 0]) {sS sem : SemLoc sig} (hs : sS = csem (.s 0 i)) (hr : sem = csem (.r 0 (slot 0 c)))
    {hsc hsrc hdst hsem} {α : Type} {Q : α → sProp 𝕄} {kt : PUnit → Prog (TpuEff nD τ sig (Elt F) Λ₀ .tc) α} :
    sndPre m K c i l 0 ⊢ iprop((iprop(ow c l ∗ cred (tallyAt (kcell (c, .s 0 i)) () (NN 0))) -∗ WP c (kt ⟨⟩) Q)
      -∗ WP c (.op (.enqueueDma (mRow5 off1 inb1 hst1) (.remote (Dev.tc n : Thread nD τ) (mBlk6 off2 inb2 hst2) sS hsc) sem hsrc hdst hsem) kt) Q) := by
  subst h1 h2
  have hset : (mBlk6 ![(slot 0 c).val, 0, 0] inb2 hst2).view.set = sA (slot 0 c) := (View.set_reshape _ _).trans ((View.set_slice_whole _ _).trans (rect_sA _ _))
  refine wp_sendR m K c n 0 i hn l hs hr (hsem := hsem) (hdst := hdst) (by subst hr; exact NN_0.symm) fullShare (PB m c) ?_ ?_ ?_
  · exact (congrArg (fun S => (b5 c ↦[S]{fullShare} PB m c : sProp 𝕄)) ((View.set_slice_whole _ _).trans (rect_s64 _ _))).symm
  · exact Entails.of_eq (congrArg (fun S => (iprop(∃ f, b6 n ↦[S]{fullShare} f) : sProp 𝕄)) hset.symm)
  · intro fd
    refine BIBase.Entails.trans (Entails.of_eq (pointsTo_congr (landed (mBlk6 ![(slot 0 c).val, 0, 0] inb2 hst2).view _ (BA m n) _ fun x => ?_))) (Entails.of_eq (congrArg (fun S => (b6 n ↦[S]{fullShare} BA m n : sProp 𝕄)) hset))
    rw [eq_ix2 x]
    refine (congrFun (Memref.read_squeeze_slice (Memref.whole cc0_scratch6 : Memref sig .tc .vmem S4x64x1024 .bf16) _ hst2 squeezes_S1x64x1024_S64x1024 casts_A (BA m n)) _).trans ?_
    refine (shapeCast_1ab_ab_apply _ _ _ _).trans ?_
    subst hn
    refine (BA_at m _ (slot 0 c) (x 0) (x 1) _ rfl ?_ ?_).trans ?_
    · show 0 + 1 * (x 0).val = _; omega
    · show 0 + 1 * (x 1).val = _; omega
    rw [at_peer, at_slot, slot_peer]
    refine (PB_at m c (pslot 0 c i) (x 0) (x 1) _ ?_ ?_).symm
    · show 64 * (pslot 0 c i).val + 1 * (x 0).val = _; omega
    · show 0 + 1 * (x 1).val = _; omega

theorem wp_sendB (hn : n = peer 1 c i) {off1 : Fin 2 → ℕ} {off2 : Fin 3 → ℕ} {inb1 inb2 hst1 hst2} (h1 : off1 = ![16 * (pslot 1 c i).val, 0]) (h2 : off2 = ![(slot 1 c).val, 0, 0]) {sS sem : SemLoc sig} (hs : sS = csem (.s 1 i)) (hr : sem = csem (.r 1 (slot 1 c)))
    {hsc hsrc hdst hsem} {α : Type} {Q : α → sProp 𝕄} {kt : PUnit → Prog (TpuEff nD τ sig (Elt F) Λ₀ .tc) α} :
    sndPre m K c i l 1 ⊢ iprop((iprop(ow c l ∗ cred (tallyAt (kcell (c, .s 1 i)) () (NN 1))) -∗ WP c (kt ⟨⟩) Q)
      -∗ WP c (.op (.enqueueDma (mRow7 off1 inb1 hst1) (.remote (Dev.tc n : Thread nD τ) (mBlk8 off2 inb2 hst2) sS hsc) sem hsrc hdst hsem) kt) Q) := by
  subst h1 h2
  have hset : (mBlk8 ![(slot 1 c).val, 0, 0] inb2 hst2).view.set = sB (slot 1 c) := (View.set_reshape _ _).trans ((View.set_slice_whole _ _).trans (rect_sB _ _))
  refine wp_sendR m K c n 1 i hn l hs hr (hsem := hsem) (hdst := hdst) (by subst hr; exact NN_1.symm) fullShare (CS m c) ?_ ?_ ?_
  · exact (congrArg (fun S => (b7 c ↦[S]{fullShare} CS m c : sProp 𝕄)) ((View.set_slice_whole _ _).trans (rect_s16 _ _))).symm
  · exact Entails.of_eq (congrArg (fun S => (iprop(∃ f, b8 n ↦[S]{fullShare} f) : sProp 𝕄)) hset.symm)
  · intro fd
    refine BIBase.Entails.trans (Entails.of_eq (pointsTo_congr (landed (mBlk8 ![(slot 1 c).val, 0, 0] inb2 hst2).view _ (BB m n) _ fun x => ?_))) (Entails.of_eq (congrArg (fun S => (b8 n ↦[S]{fullShare} BB m n : sProp 𝕄)) hset))
    rw [eq_ix2 x]
    refine (congrFun (Memref.read_squeeze_slice (Memref.whole cc0_scratch8 : Memref sig .tc .vmem S4x16x1024 .bf16) _ hst2 squeezes_S1x16x1024_S16x1024 casts_B (BB m n)) _).trans ?_
    refine (shapeCast_1ab_ab_apply _ _ _ _).trans ?_
    subst hn
    refine (BB_at m _ (slot 1 c) (x 0) (x 1) _ rfl ?_ ?_).trans ?_
    · show 0 + 1 * (x 0).val = _; omega
    · show 0 + 1 * (x 1).val = _; omega
    rw [at_peer, at_slot, slot_peer]
    refine (CS_at m c (pslot 1 c i) (x 0) (x 1) _ ?_ ?_).symm
    · show 16 * (pslot 1 c i).val + 1 * (x 0).val = _; omega
    · show 0 + 1 * (x 1).val = _; omega

theorem wp_sendC (hn : n = peer 2 c i) {off2 : Fin 2 → ℕ} {inb2 hst2} (h2 : off2 = ![16 * (slot 2 c).val, 0]) {sS sem : SemLoc sig} (hs : sS = csem (.s 2 i)) (hr : sem = csem (.r 2 (slot 2 c)))
    {hsc hsrc hdst hsem} {α : Type} {Q : α → sProp 𝕄} {kt : PUnit → Prog (TpuEff nD τ sig (Elt F) Λ₀ .tc) α} :
    sndPre m K c i l 2 ⊢ iprop((iprop(ow c l ∗ cred (tallyAt (kcell (c, .s 2 i)) () (NN 2))) -∗ WP c (kt ⟨⟩) Q)
      -∗ WP c (.op (.enqueueDma (m9) (.remote (Dev.tc n : Thread nD τ) (mRow10 off2 inb2 hst2) sS hsc) sem hsrc hdst hsem) kt) Q) := by
  subst h2
  have hset : (mRow10 ![16 * (slot 2 c).val, 0] inb2 hst2).view.set = s16 (slot 2 c) := (View.set_slice_whole _ _).trans (rect_s16 _ _)
  refine wp_sendR m K c n 2 i hn l hs hr (hsem := hsem) (hdst := hdst) (by subst hr; exact NN_2.symm) (Transfers.shareTok fullShare 3 i) (AG m c) ?_ ?_ ?_
  · exact congrArg (fun S => (b9 c ↦[S]{Transfers.shareTok fullShare 3 i} AG m c : sProp 𝕄)) (View.set_whole cc0_scratch9).symm
  · exact Entails.of_eq (congrArg (fun S => (iprop(∃ f, b10 n ↦[S]{fullShare} f) : sProp 𝕄)) hset.symm)
  · intro fd
    refine BIBase.Entails.trans (Entails.of_eq (pointsTo_congr (landed (mRow10 ![16 * (slot 2 c).val, 0] inb2 hst2).view _ (CB m n) _ fun x => ?_))) (Entails.of_eq (congrArg (fun S => (b10 n ↦[S]{fullShare} CB m n : sProp 𝕄)) hset))
    rw [eq_ix2 x]
    subst hn
    refine (CB_at m _ (slot 2 c) (x 0) (x 1) _ ?_ ?_).trans ?_
    · show 16 * (slot 2 c).val + 1 * (x 0).val = _; omega
    · show 0 + 1 * (x 1).val = _; omega
    rw [at_peer, at_slot]; rfl

theorem wp_sendD (hn : n = peer 3 c i) {off2 : Fin 2 → ℕ} {inb2 hst2} (h2 : off2 = ![64 * (slot 3 c).val, 0]) {sS sem : SemLoc sig} (hs : sS = csem (.s 3 i)) (hr : sem = csem (.r 3 (slot 3 c)))
    {hsc hsrc hdst hsem} {α : Type} {Q : α → sProp 𝕄} {kt : PUnit → Prog (TpuEff nD τ sig (Elt F) Λ₀ .tc) α} :
    sndPre m K c i l 3 ⊢ iprop((iprop(ow c l ∗ cred (tallyAt (kcell (c, .s 3 i)) () (NN 3))) -∗ WP c (kt ⟨⟩) Q)
      -∗ WP c (.op (.enqueueDma (m10) (.remote (Dev.tc n : Thread nD τ) (mRow11 off2 inb2 hst2) sS hsc) sem hsrc hdst hsem) kt) Q) := by
  subst h2
  have hset : (mRow11 ![64 * (slot 3 c).val, 0] inb2 hst2).view.set = s64 (slot 3 c) := (View.set_slice_whole _ _).trans (rect_s64 _ _)
  refine wp_sendR m K c n 3 i hn l hs hr (hsem := hsem) (hdst := hdst) (by subst hr; exact NN_3.symm) (Transfers.shareTok fullShare 3 i) (CB m c) ?_ ?_ ?_
  · exact congrArg (fun S => (b10 c ↦[S]{Transfers.shareTok fullShare 3 i} CB m c : sProp 𝕄)) (View.set_whole cc0_scratch10).symm
  · exact Entails.of_eq (congrArg (fun S => (iprop(∃ f, b11 n ↦[S]{fullShare} f) : sProp 𝕄)) hset.symm)
  · intro fd
    refine BIBase.Entails.trans (Entails.of_eq (pointsTo_congr (landed (mRow11 ![64 * (slot 3 c).val, 0] inb2 hst2).view _ (OB m n) _ fun x => ?_))) (Entails.of_eq (congrArg (fun S => (b11 n ↦[S]{fullShare} OB m n : sProp 𝕄)) hset))
    rw [eq_ix2 x]
    subst hn
    refine (OB_at m _ (slot 3 c) (x 0) (x 1) _ ?_ ?_).trans ?_
    · show 64 * (slot 3 c).val + 1 * (x 0).val = _; omega
    · show 0 + 1 * (x 1).val = _; omega
    rw [at_peer, at_slot]; rfl

end Sends

end Cert.KernelIdealRun

end
-- ==== Proof.StRules.lean ====
/- Loads and stores of the stages, what they read and what they write; whole buffers and their pieces. -/
module

public import proofs.«01_k».proof.Proof.Pieces

@[expose] public section

noncomputable section

namespace Cert.KernelIdealRun
open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

variable (K : Dev nD × Cell → ℕ)

/-! ## Loads and stores -/

section Access
variable (c : Dev nD)

/-- A load of elements at contents nobody tracks; -/
theorem wp_ldAny {s : Shape} {e : EltTy} {mm : Memref sig .tc .vmem s e} {r : Rect s} {hl : mm.view.LoadsAt r.toLoadRect}
    (S : Finset (Idx (mm.view.loc (c : Thread nD τ)))) (hS : (mm.access r).set ⊆ S) {α : Type} {Q : α → sProp 𝕄}
    {kt : (r.toLoadRect.shape.Idx → Elt F e) → Prog (TpuEff nD τ sig (Elt F) Λ₀ .tc) α} :
    iprop(∃ f, mm.view.loc (c : Thread nD τ) ↦[S]{fullShare} f)
      ⊢ iprop((∀ v, iprop(∃ f, mm.view.loc (c : Thread nD τ) ↦[S]{fullShare} f) -∗ WP c (kt v) Q) -∗ WP c (.op (.load mm r.toLoadRect hl) kt) Q) := by
  iintro ⟨%f, H⟩ Hk
  iapply (wp_load_rect 𝒱₀ (c : Thread nD τ) none Set.univ (m := mm) (r := r) (S := S) (q := fullShare) (f := f) hS) $$ H
  iintro H
  iapply Hk
  iexists f
  iexact H

/-- a load of known elements; -/
theorem wp_ldX {s : Shape} {e : EltTy} {mm : Memref sig .tc .vmem s e} {r : Rect s} {hl : mm.view.LoadsAt r.toLoadRect}
    (S : Finset (Idx (mm.view.loc (c : Thread nD τ)))) (q : PosShare TreeShare) (X : Buf (Elt F) (mm.view.loc (c : Thread nD τ))) (hS : (mm.access r).set ⊆ S)
    {v : r.toLoadRect.shape.Idx → Elt F e} (hv : mm.view.readAt (Elt F) r.toLoadRect X = v) {α : Type} {Q : α → sProp 𝕄}
    {kt : (r.toLoadRect.shape.Idx → Elt F e) → Prog (TpuEff nD τ sig (Elt F) Λ₀ .tc) α} :
    (mm.view.loc (c : Thread nD τ) ↦[S]{q} X)
      ⊢ iprop(((mm.view.loc (c : Thread nD τ) ↦[S]{q} X) -∗ WP c (kt v) Q) -∗ WP c (.op (.load mm r.toLoadRect hl) kt) Q) := by
  subst hv
  exact wp_load_rect 𝒱₀ (c : Thread nD τ) none Set.univ (m := mm) (r := r) (S := S) (q := q) (f := X) hS

/-- (the same of a buffer held whole) -/
theorem wp_ldAnyU {s : Shape} {e : EltTy} {mm : Memref sig .tc .vmem s e} {r : Rect s} {hl : mm.view.LoadsAt r.toLoadRect}
    {α : Type} {Q : α → sProp 𝕄} {kt : (r.toLoadRect.shape.Idx → Elt F e) → Prog (TpuEff nD τ sig (Elt F) Λ₀ .tc) α} :
    iprop(∃ f, mm.view.loc (c : Thread nD τ) ↦{fullShare} f)
      ⊢ iprop((∀ v, iprop(∃ f, mm.view.loc (c : Thread nD τ) ↦{fullShare} f) -∗ WP c (kt v) Q) -∗ WP c (.op (.load mm r.toLoadRect hl) kt) Q) := by
  iintro ⟨%f, H⟩ Hk
  iapply (wp_load 𝒱₀ (c : Thread nD τ) none Set.univ (m := mm) (r := r.toLoadRect) (S := Finset.univ) (q := fullShare) (f := f) (Finset.subset_univ _)) $$ H
  iintro H
  iapply Hk
  iexists f
  iexact H
theorem wp_ldXU {s : Shape} {e : EltTy} {mm : Memref sig .tc .vmem s e} {r : Rect s} {hl : mm.view.LoadsAt r.toLoadRect}
    (q : PosShare TreeShare) (X : Buf (Elt F) (mm.view.loc (c : Thread nD τ)))
    {v : r.toLoadRect.shape.Idx → Elt F e} (hv : mm.view.readAt (Elt F) r.toLoadRect X = v) {α : Type} {Q : α → sProp 𝕄}
    {kt : (r.toLoadRect.shape.Idx → Elt F e) → Prog (TpuEff nD τ sig (Elt F) Λ₀ .tc) α} :
    (mm.view.loc (c : Thread nD τ) ↦{q} X)
      ⊢ iprop(((mm.view.loc (c : Thread nD τ) ↦{q} X) -∗ WP c (kt v) Q) -∗ WP c (.op (.load mm r.toLoadRect hl) kt) Q) := by
  subst hv
  exact wp_load 𝒱₀ (c : Thread nD τ) none Set.univ (m := mm) (r := r.toLoadRect) (S := Finset.univ) (q := q) (f := X) (Finset.subset_univ _)

/-- a store that makes known elements. -/
theorem wp_stX {s : Shape} {e : EltTy} {mm : Memref sig .tc .vmem s e} {r : Rect s} {w : r.shape.Idx → Elt F e} {hx : (mm.access r).Stores Finset.univ} {hm}
    (S : Finset (Idx (mm.view.loc (c : Thread nD τ)))) (X : Buf (Elt F) (mm.view.loc (c : Thread nD τ))) (hS : (mm.access r).set = S)
    (hv : ∀ x, (mm.access r).read (Elt F) X x = w x) {α : Type} {Q : α → sProp 𝕄}
    {kt : PUnit → Prog (TpuEff nD τ sig (Elt F) Λ₀ .tc) α} :
    iprop(∃ f, mm.view.loc (c : Thread nD τ) ↦[S]{fullShare} f)
      ⊢ iprop(((mm.view.loc (c : Thread nD τ) ↦[S]{fullShare} X) -∗ WP c (kt ⟨⟩) Q) -∗ WP c (.op (.store mm r w Finset.univ hx hm) kt) Q) := by
  subst hS
  iintro ⟨%f, H⟩ Hk
  iapply (wp_store 𝒱₀ (c : Thread nD τ) none Set.univ (m := mm) (r := r) (w := w) (Mk := Finset.univ) (S := (mm.access r).set) (f := f) (by rw [View.setOn_univ])) $$ H
  iintro H
  iapply Hk
  iapply (Entails.of_eq (pointsTo_congr (landed (mm.access r) f X w hv))); iexact H

/-- A store at contents nobody tracks. -/
theorem wp_stAny {s : Shape} {e : EltTy} {mm : Memref sig .tc .vmem s e} {r : Rect s} {w : r.shape.Idx → Elt F e} {hx : (mm.access r).Stores Finset.univ} {hm}
    {α : Type} {Q : α → sProp 𝕄} {kt : PUnit → Prog (TpuEff nD τ sig (Elt F) Λ₀ .tc) α} :
    iprop(∃ f, mm.view.loc (c : Thread nD τ) ↦{fullShare} f)
      ⊢ iprop((iprop(∃ f, mm.view.loc (c : Thread nD τ) ↦{fullShare} f) -∗ WP c (kt ⟨⟩) Q) -∗ WP c (.op (.store mm r w Finset.univ hx hm) kt) Q) := by
  iintro ⟨%f, H⟩ Hk
  iapply (wp_store 𝒱₀ (c : Thread nD τ) none Set.univ (m := mm) (r := r) (w := w) (Mk := Finset.univ) (S := Finset.univ) (f := f) (Finset.subset_univ _)) $$ H
  iintro H
  iapply Hk
  iexists _
  iexact H

/-! What the body's accesses read -/

theorem read_CTX (j : Fin 4) {off : Fin 2 → ℕ} {inb} (h : off = ![64 * j.val, 0]) :
    (Memref.whole cc0_scratch3 : Memref sig .tc .vmem S256x1024 .bf16).view.readAt (Elt F) (Rect.unit (s := S256x1024) off S64x1024.size inb).toLoadRect (CTX m c) = ctxRows m c j := by
  subst h
  funext x
  rw [eq_ix2 x]
  refine CTX_at m c j (x 0) (x 1) _ ?_ ?_
  · show 64 * j.val + 1 * (x 0).val = _; omega
  · show 0 + 1 * (x 1).val = _; omega

theorem read_CS (j : Fin 4) {off : Fin 2 → ℕ} {inb} (h : off = ![16 * j.val, 0]) :
    (Memref.whole cc0_scratch7 : Memref sig .tc .vmem S64x1024 .bf16).view.readAt (Elt F) (Rect.unit (s := S64x1024) off S16x1024.size inb).toLoadRect (CS m c) = csRows m c j := by
  subst h
  funext x
  rw [eq_ix2 x]
  refine CS_at m c j (x 0) (x 1) _ ?_ ?_
  · show 16 * j.val + 1 * (x 0).val = _; omega
  · show 0 + 1 * (x 1).val = _; omega

/-! and what its stores write -/

theorem pb_store (j : Fin 4) {off : Fin 2 → ℕ} {inb} (h : off = ![64 * j.val, 0]) {w : Vec F S64x1024 .bf16} (hw : w = partRows m c j) (x : S64x1024.Idx) :
    ((Memref.whole cc0_scratch5 : Memref sig .tc .vmem S256x1024 .bf16).access (Rect.unit (s := S256x1024) off S64x1024.size inb)).read (Elt F) (PB m c) x = w x := by
  subst h hw
  rw [eq_ix2 x]
  refine PB_at m c j (x 0) (x 1) _ ?_ ?_
  · show 64 * j.val + 1 * (x 0).val = _; omega
  · show 0 + 1 * (x 1).val = _; omega

theorem ba_store {off : Fin 3 → ℕ} {inb} (h : off = ![(slot 0 c).val, 0, 0]) {w : Vec F S1x64x1024 .bf16}
    (hw : ∀ a b, w (ix3 (0 : Fin 1) a b) = partRows m c (slot 0 c) (ix2 a b)) (x : S1x64x1024.Idx) :
    ((Memref.whole cc0_scratch6 : Memref sig .tc .vmem S4x64x1024 .bf16).access (Rect.unit (s := S4x64x1024) off S1x64x1024.size inb)).read (Elt F) (BA m c) x = w x := by
  subst h
  have hx : (x 0).val < 1 := (x 0).isLt
  rw [show x = ix3 (0 : Fin 1) (x 1) (x 2) from by rw [eq_ix3 x]; exact congrArg (fun a => ix3 a (x 1) (x 2)) (Fin.ext (by show (x 0).val = 0; omega))]
  refine Eq.trans (BA_at m c (slot 0 c) (x 1) (x 2) _ ?_ ?_ ?_) (Eq.trans ?_ (hw (x 1) (x 2)).symm)
  · show (slot 0 c).val + 1 * 0 = _; omega
  · show 0 + 1 * (x 1).val = _; omega
  · show 0 + 1 * (x 2).val = _; omega
  rw [at_slot]

theorem bb_store {off : Fin 3 → ℕ} {inb} (h : off = ![(slot 1 c).val, 0, 0]) {w : Vec F S1x16x1024 .bf16}
    (hw : ∀ a b, w (ix3 (0 : Fin 1) a b) = csRows m c (slot 1 c) (ix2 a b)) (x : S1x16x1024.Idx) :
    ((Memref.whole cc0_scratch8 : Memref sig .tc .vmem S4x16x1024 .bf16).access (Rect.unit (s := S4x16x1024) off S1x16x1024.size inb)).read (Elt F) (BB m c) x = w x := by
  subst h
  have hx : (x 0).val < 1 := (x 0).isLt
  rw [show x = ix3 (0 : Fin 1) (x 1) (x 2) from by rw [eq_ix3 x]; exact congrArg (fun a => ix3 a (x 1) (x 2)) (Fin.ext (by show (x 0).val = 0; omega))]
  refine Eq.trans (BB_at m c (slot 1 c) (x 1) (x 2) _ ?_ ?_ ?_) (Eq.trans ?_ (hw (x 1) (x 2)).symm)
  · show (slot 1 c).val + 1 * 0 = _; omega
  · show 0 + 1 * (x 1).val = _; omega
  · show 0 + 1 * (x 2).val = _; omega
  rw [at_slot]

theorem cb_store {off : Fin 2 → ℕ} {inb} (h : off = ![16 * (slot 2 c).val, 0]) {w : Vec F S16x1024 .bf16} (hw : w = AG m c) (x : S16x1024.Idx) :
    ((Memref.whole cc0_scratch10 : Memref sig .tc .vmem S64x1024 .bf16).access (Rect.unit (s := S64x1024) off S16x1024.size inb)).read (Elt F) (CB m c) x = w x := by
  subst h hw
  rw [eq_ix2 x]
  refine (CB_at m c (slot 2 c) (x 0) (x 1) _ ?_ ?_).trans ?_
  · show 16 * (slot 2 c).val + 1 * (x 0).val = _; omega
  · show 0 + 1 * (x 1).val = _; omega
  rw [at_slot]; rfl

theorem ob_store {off : Fin 2 → ℕ} {inb} (h : off = ![64 * (slot 3 c).val, 0]) {w : Vec F S64x1024 .bf16} (hw : w = CB m c) (x : S64x1024.Idx) :
    ((Memref.whole cc0_scratch11 : Memref sig .tc .vmem S256x1024 .bf16).access (Rect.unit (s := S256x1024) off S64x1024.size inb)).read (Elt F) (OB m c) x = w x := by
  subst h hw
  rw [eq_ix2 x]
  refine (OB_at m c (slot 3 c) (x 0) (x 1) _ ?_ ?_).trans ?_
  · show 64 * (slot 3 c).val + 1 * (x 0).val = _; omega
  · show 0 + 1 * (x 1).val = _; omega
  rw [at_slot]; rfl

/-! The payloads -/

theorem pay97 (j : Fin 4) : k0_pay97 (k0_pay91 (woB m c)) (ctxRows m c j) = partRows m c j := rfl
theorem pay100 (j : Fin 4) : k0_pay100 (k0_pay91 (woB m c)) (ctxRows m c j) = partRows m c j := rfl
theorem pay103 (a : Fin 64) (b : Fin 1024) : k0_pay103 (k0_pay91 (woB m c)) (ctxRows m c (slot 0 c)) (ix3 (0 : Fin 1) a b) = partRows m c (slot 0 c) (ix2 a b) := by
  unfold k0_pay103
  refine (congrFun (shapeCast_self _ _) _).trans ((shapeCast_ab_1ab_apply _ _ _ _ _).trans ?_)
  exact (congrFun (shapeCast_self (truncf .bf16 (k0_pay92 (woB m c) (ctxRows m c (slot 0 c))) bitsLt_bf16_f32) shapeCasts_S64x1024_S64x1024) (ix2 a b)).symm
theorem pay106 (a : Fin 16) (b : Fin 1024) : k0_pay106 (csRows m c (slot 1 c)) (ix3 (0 : Fin 1) a b) = csRows m c (slot 1 c) (ix2 a b) := by
  unfold k0_pay106
  refine (congrFun (shapeCast_self _ _) _).trans ((shapeCast_ab_1ab_apply _ _ _ _ _).trans ?_)
  rfl
theorem pay109 : k0_pay109 (AG m c) = AG m c := by
  unfold k0_pay109; exact (shapeCast_self _ _).trans rfl
theorem pay110 : k0_pay110 (CB m c) = CB m c := by
  unfold k0_pay110; exact (shapeCast_self _ _).trans rfl

end Access

/-! ## Whole buffers and their pieces -/

section Whole
variable (c : Dev nD)

theorem four (st : Fin 4) (Φ : Fin 4 → sProp 𝕄) :
    bigSep Finset.univ Φ = iprop(Φ (slot st c) ∗ Φ (pslot st c 0) ∗ Φ (pslot st c 1) ∗ Φ (pslot st c 2)) :=
  bigSep_univ_eq_bigSepL [slot st c, pslot st c 0, pslot st c 1, pslot st c 2] (by revert st c; decide +kernel) (by revert st c; decide +kernel) Φ
theorem three (Φ : Fin 3 → sProp 𝕄) : bigSep Finset.univ Φ = iprop(Φ 0 ∗ Φ 1 ∗ Φ 2) :=
  bigSep_univ_eq_bigSepL [0, 1, 2] (by decide) (by decide) Φ

theorem disj64 (a b : Fin 4) (h : a ≠ b) : Disjoint (s64 a) (s64 b) :=
  Finset.disjoint_left.2 fun i hi hj => h (Fin.ext ((Finset.mem_filter.1 hi).2.symm.trans (Finset.mem_filter.1 hj).2))
theorem disj16 (a b : Fin 4) (h : a ≠ b) : Disjoint (s16 a) (s16 b) :=
  Finset.disjoint_left.2 fun i hi hj => h (Fin.ext ((Finset.mem_filter.1 hi).2.symm.trans (Finset.mem_filter.1 hj).2))
theorem disjA (a b : Fin 4) (h : a ≠ b) : Disjoint (sA a) (sA b) :=
  Finset.disjoint_left.2 fun i hi hj => h (Fin.ext ((Finset.mem_filter.1 hi).2.symm.trans (Finset.mem_filter.1 hj).2))
theorem disjB (a b : Fin 4) (h : a ≠ b) : Disjoint (sB a) (sB b) :=
  Finset.disjoint_left.2 fun i hi hj => h (Fin.ext ((Finset.mem_filter.1 hi).2.symm.trans (Finset.mem_filter.1 hj).2))
theorem cov64 : Finset.univ.biUnion s64 = Finset.univ := Finset.ext fun i => by
  have h : (i 0).val < 256 := (i 0).isLt
  simp only [Finset.mem_univ, iff_true]
  exact Finset.mem_biUnion.2 ⟨⟨(i 0).val / 64, by omega⟩, Finset.mem_univ _, Finset.mem_filter.2 ⟨Finset.mem_univ _, rfl⟩⟩
theorem cov16 : Finset.univ.biUnion s16 = Finset.univ := Finset.ext fun i => by
  have h : (i 0).val < 64 := (i 0).isLt
  simp only [Finset.mem_univ, iff_true]
  exact Finset.mem_biUnion.2 ⟨⟨(i 0).val / 16, by omega⟩, Finset.mem_univ _, Finset.mem_filter.2 ⟨Finset.mem_univ _, rfl⟩⟩
theorem covA : Finset.univ.biUnion sA = Finset.univ := Finset.ext fun i => by
  simp only [Finset.mem_univ, iff_true]
  exact Finset.mem_biUnion.2 ⟨i 0, Finset.mem_univ _, Finset.mem_filter.2 ⟨Finset.mem_univ _, rfl⟩⟩
theorem covB : Finset.univ.biUnion sB = Finset.univ := Finset.ext fun i => by
  simp only [Finset.mem_univ, iff_true]
  exact Finset.mem_biUnion.2 ⟨i 0, Finset.mem_univ _, Finset.mem_filter.2 ⟨Finset.mem_univ _, rfl⟩⟩

variable {ℓ : Loc nD τ sig} (I : Fin 4 → Finset (Idx ℓ)) (hd : ∀ a b, a ≠ b → Disjoint (I a) (I b)) (hc : Finset.univ.biUnion I = Finset.univ)

include hd hc in
theorem split4 (st : Fin 4) (f : Buf (Elt F) ℓ) :
    (ℓ ↦{fullShare} f : sProp 𝕄) = iprop((ℓ ↦[I (slot st c)]{fullShare} f) ∗ (ℓ ↦[I (pslot st c 0)]{fullShare} f) ∗ (ℓ ↦[I (pslot st c 1)]{fullShare} f) ∗ (ℓ ↦[I (pslot st c 2)]{fullShare} f)) :=
  (by rw [← pointsTo_biUnion Finset.univ I (fun b _ b' _ h => hd b b' h), hc] : (ℓ ↦{fullShare} f : sProp 𝕄) = bigSep Finset.univ fun b => ℓ ↦[I b]{fullShare} f).trans (four c st _)

include hd hc in
theorem split4any (st : Fin 4) :
    (iprop(∃ f, ℓ ↦{fullShare} f) : sProp 𝕄) ⊢ iprop((∃ f, ℓ ↦[I (slot st c)]{fullShare} f) ∗ (∃ f, ℓ ↦[I (pslot st c 0)]{fullShare} f) ∗ (∃ f, ℓ ↦[I (pslot st c 1)]{fullShare} f) ∗ (∃ f, ℓ ↦[I (pslot st c 2)]{fullShare} f)) := by
  iintro ⟨%f, H⟩
  ihave H := (Entails.of_eq (split4 c I hd hc st f)) $$ H
  icases H with ⟨H0, H1, H2, H3⟩
  isplitl [H0]; · iexists f; iexact H0
  isplitl [H1]; · iexists f; iexact H1
  isplitl [H2]; · iexists f; iexact H2
  iexists f; iexact H3

include hd hc in
theorem join4 (st : Fin 4) (f0 f1 f2 f3 : Buf (Elt F) ℓ) :
    (iprop((ℓ ↦[I (slot st c)]{fullShare} f0) ∗ (ℓ ↦[I (pslot st c 0)]{fullShare} f1) ∗ (ℓ ↦[I (pslot st c 1)]{fullShare} f2) ∗ (ℓ ↦[I (pslot st c 2)]{fullShare} f3)) : sProp 𝕄)
      ⊢ iprop(∃ f, ℓ ↦{fullShare} f) := by
  have h : ∃ fs : Fin 4 → Buf (Elt F) ℓ, fs (slot st c) = f0 ∧ fs (pslot st c 0) = f1 ∧ fs (pslot st c 1) = f2 ∧ fs (pslot st c 2) = f3 := by
    have hn : ∀ (st : Fin 4) (c : Dev nD), [slot st c, pslot st c 0, pslot st c 1, pslot st c 2].Nodup := by decide +kernel
    have hn := hn st c
    simp only [List.nodup_cons, List.mem_cons, List.not_mem_nil, or_false, not_or] at hn
    obtain ⟨⟨h1, h2, h3⟩, ⟨h4, h5⟩, h6, -⟩ := hn
    refine ⟨fun b => if b = slot st c then f0 else if b = pslot st c 0 then f1 else if b = pslot st c 1 then f2 else f3, ?_, ?_, ?_, ?_⟩
    · simp
    · simp [Ne.symm h1]
    · simp [Ne.symm h2, Ne.symm h4]
    · simp [Ne.symm h3, Ne.symm h5, Ne.symm h6]
  obtain ⟨fs, rfl, rfl, rfl, rfl⟩ := h
  refine (Entails.of_eq (four c st (fun b => (ℓ ↦[I b]{fullShare} fs b : sProp 𝕄))).symm).trans ((pointsTo_biUnion_join Finset.univ I fs (fs 0) (fun b _ b' _ h => hd b b' h)).trans ?_)
  rw [hc]
  iintro ⟨%g, -, H⟩; iexists g; iexact H

end Whole

section Stages
variable (c : Dev nD)

/-- A landing buffer whole, from its own slot and the three landed ones. -/
theorem joinA : iprop(rP m 0 c (slot 0 c) ∗ rP m 0 c (pslot 0 c 0) ∗ rP m 0 c (pslot 0 c 1) ∗ rP m 0 c (pslot 0 c 2)) ⊢ b6 c ↦{fullShare} BA m c :=
  Entails.of_eq (split4 (ℓ := b6 c) c sA disjA covA 0 (BA m c)).symm
theorem joinB : iprop(rP m 1 c (slot 1 c) ∗ rP m 1 c (pslot 1 c 0) ∗ rP m 1 c (pslot 1 c 1) ∗ rP m 1 c (pslot 1 c 2)) ⊢ b8 c ↦{fullShare} BB m c :=
  Entails.of_eq (split4 (ℓ := b8 c) c sB disjB covB 1 (BB m c)).symm
theorem joinC : iprop(rP m 2 c (slot 2 c) ∗ rP m 2 c (pslot 2 c 0) ∗ rP m 2 c (pslot 2 c 1) ∗ rP m 2 c (pslot 2 c 2)) ⊢ b10 c ↦{fullShare} CB m c :=
  Entails.of_eq (split4 (ℓ := b10 c) c s16 disj16 cov16 2 (CB m c)).symm
theorem joinD : iprop(rP m 3 c (slot 3 c) ∗ rP m 3 c (pslot 3 c 0) ∗ rP m 3 c (pslot 3 c 1) ∗ rP m 3 c (pslot 3 c 2)) ⊢ b11 c ↦{fullShare} OB m c :=
  Entails.of_eq (split4 (ℓ := b11 c) c s64 disj64 cov64 3 (OB m c)).symm

/-- What each stage's source is split into for its sends: own piece, or own share, and what the three sends take. -/
theorem srcB : (b7 c ↦{fullShare} CS m c) ⊣⊢ iprop((b7 c ↦[s16 (slot 1 c)]{fullShare} CS m c) ∗ sP m 1 c 0 ∗ sP m 1 c 1 ∗ sP m 1 c 2) :=
  ⟨Entails.of_eq (split4 (ℓ := b7 c) c s16 disj16 cov16 1 (CS m c)), Entails.of_eq (split4 (ℓ := b7 c) c s16 disj16 cov16 1 (CS m c)).symm⟩
theorem srcC : (b9 c ↦{fullShare} AG m c) ⊣⊢ iprop((b9 c ↦{Transfers.shareDrop fullShare 3} AG m c) ∗ sP m 2 c 0 ∗ sP m 2 c 1 ∗ sP m 2 c 2) := by
  have h := Transfers.pointsTo_toks (Name := ℕ) (U := UU) (Lvl := ℕ) (Ix := Unit) (ℓ := b9 c) (S := Finset.univ) (f := AG m c) fullShare 3
  rw [three] at h; exact h
theorem srcD : (b10 c ↦{fullShare} CB m c) ⊣⊢ iprop((b10 c ↦{Transfers.shareDrop fullShare 3} CB m c) ∗ sP m 3 c 0 ∗ sP m 3 c 1 ∗ sP m 3 c 2) := by
  have h := Transfers.pointsTo_toks (Name := ℕ) (U := UU) (Lvl := ℕ) (Ix := Unit) (ℓ := b10 c) (S := Finset.univ) (f := CB m c) fullShare 3
  rw [three] at h; exact h

/-- The debts of one stage, and the waits they allow. -/
theorem debtA_eq : debtA c = (peer 0 c 0, .r 0 (slot 0 c)) :: (peer 0 c 1, .r 0 (slot 0 c)) :: (peer 0 c 2, .r 0 (slot 0 c)) :: debtB c := rfl
theorem debtB_eq : debtB c = (peer 1 c 0, .r 1 (slot 1 c)) :: (peer 1 c 1, .r 1 (slot 1 c)) :: (peer 1 c 2, .r 1 (slot 1 c)) :: debtC c := rfl
theorem debtC_eq : debtC c = (peer 2 c 0, .r 2 (slot 2 c)) :: (peer 2 c 1, .r 2 (slot 2 c)) :: (peer 2 c 2, .r 2 (slot 2 c)) :: debtD c := rfl
theorem debtD_eq : debtD c = (peer 3 c 0, .r 3 (slot 3 c)) :: (peer 3 c 1, .r 3 (slot 3 c)) :: (peer 3 c 2, .r 3 (slot 3 c)) :: [] := rfl
theorem owe {l l' : List (Dev nD × Cell)} (h : l = l') : ow (F := F) c l ⊢ ow c l' := Entails.of_eq (congrArg (ow c) h)

theorem lvl_st (st : Fin 4) (n : ℕ) (h : n < 2 + st.val) : ∀ x ∈ stDebt st c, n < lvl x.2 := by
  intro x hx
  simp only [stDebt, List.mem_cons, List.not_mem_nil, or_false] at hx
  rcases hx with rfl | rfl | rfl <;> exact h
theorem lvl_nil (n : ℕ) : ∀ x ∈ ([] : List (Dev nD × Cell)), n < lvl x.2 := fun x hx => (List.not_mem_nil hx).elim
theorem lvl_app {l l' : List (Dev nD × Cell)} {n : ℕ} (h : ∀ x ∈ l, n < lvl x.2) (h' : ∀ x ∈ l', n < lvl x.2) : ∀ x ∈ l ++ l', n < lvl x.2 :=
  fun x hx => (List.mem_append.1 hx).elim (h x) (h' x)
theorem lvl_D (n : ℕ) (h : n < 5) : ∀ x ∈ debtD c, n < lvl x.2 := lvl_st c 3 n h
theorem lvl_C (n : ℕ) (h : n < 4) : ∀ x ∈ debtC c, n < lvl x.2 := lvl_app (lvl_st c 2 n h) (lvl_D c n (by omega))
theorem lvl_B (n : ℕ) (h : n < 3) : ∀ x ∈ debtB c, n < lvl x.2 := lvl_app (lvl_st c 1 n h) (lvl_C c n (by omega))
theorem lvl_A (n : ℕ) (h : n < 2) : ∀ x ∈ debtA c, n < lvl x.2 := lvl_app (lvl_st c 0 n h) (lvl_B c n (by omega))

/-- The barrier's payload, taken apart. -/
theorem barPay_all : bigSep Finset.univ (fun d => barPay (F := F) c d) = iprop(
    (dstP (F := F) 0 (peer 0 c 0) (slot 0 c) ∗ dstP (F := F) 3 (peer 3 c 0) (slot 3 c)) ∗ (dstP (F := F) 0 (peer 0 c 1) (slot 0 c) ∗ dstP (F := F) 3 (peer 3 c 1) (slot 3 c))
    ∗ (dstP (F := F) 0 (peer 0 c 2) (slot 0 c) ∗ dstP (F := F) 3 (peer 3 c 2) (slot 3 c)) ∗ (dstP (F := F) 1 (peer 1 c 0) (slot 1 c) ∗ dstP (F := F) 2 (peer 2 c 0) (slot 2 c))
    ∗ (dstP (F := F) 1 (peer 1 c 1) (slot 1 c) ∗ dstP (F := F) 2 (peer 2 c 1) (slot 2 c)) ∗ (dstP (F := F) 1 (peer 1 c 2) (slot 1 c) ∗ dstP (F := F) 2 (peer 2 c 2) (slot 2 c))) :=
  bigSep_univ_eq_bigSepL [((false, 0) : D), (false, 1), (false, 2), (true, 0), (true, 1), (true, 2)] (by decide) (by decide) _

/-- What the waits on a send semaphore count. -/
theorem NS_0 : NN 0 = sig.dmaCredit .tc (Kind.tc.table .vmem) (View.whole cc0_scratch5 : View sig .tc .vmem _ _).buf S64x1024 .bf16 := by decide +kernel
theorem NS_1 : NN 1 = sig.dmaCredit .tc (Kind.tc.table .vmem) (View.whole cc0_scratch7 : View sig .tc .vmem _ _).buf S16x1024 .bf16 := by decide +kernel
theorem NS_2 : NN 2 = sig.dmaCredit .tc (Kind.tc.table .vmem) (View.whole cc0_scratch9 : View sig .tc .vmem _ _).buf S16x1024 .bf16 := by decide +kernel
theorem NS_3 : NN 3 = sig.dmaCredit .tc (Kind.tc.table .vmem) (View.whole cc0_scratch10 : View sig .tc .vmem _ _).buf S64x1024 .bf16 := by decide +kernel

end Stages

section Names
variable (c : Dev nD)

/-- A store of a whole buffer. -/
theorem wp_stW {s : Shape} {e : EltTy} {mm : Memref sig .tc .vmem s e} {r : Rect s} {w : r.shape.Idx → Elt F e} {hx : (mm.access r).Stores Finset.univ} {hm}
    (X : Buf (Elt F) (mm.view.loc (c : Thread nD τ))) (hX : ∀ f, (mm.access r).write (Elt F) f w Finset.univ = X)
    {α : Type} {Q : α → sProp 𝕄} {kt : PUnit → Prog (TpuEff nD τ sig (Elt F) Λ₀ .tc) α} :
    iprop(∃ f, mm.view.loc (c : Thread nD τ) ↦{fullShare} f)
      ⊢ iprop(((mm.view.loc (c : Thread nD τ) ↦{fullShare} X) -∗ WP c (kt ⟨⟩) Q) -∗ WP c (.op (.store mm r w Finset.univ hx hm) kt) Q) := by
  iintro ⟨%f, H⟩ Hk
  iapply (wp_store 𝒱₀ (c : Thread nD τ) none Set.univ (m := mm) (r := r) (w := w) (Mk := Finset.univ) (S := Finset.univ) (f := f) (Finset.subset_univ _)) $$ H
  iintro H
  iapply Hk
  iapply (Entails.of_eq (congrArg (fun g => (mm.view.loc (c : Thread nD τ) ↦{fullShare} g : sProp 𝕄)) (hX f))); iexact H

/-- A piece, by its name in the schedule. -/
theorem dst_0 (j) : dstP (F := F) 0 c j ⊢ iprop(∃ f : Buf (Elt F) (b6 c), b6 c ↦[sA j]{fullShare} f) := .rfl
theorem dst_1 (j) : dstP (F := F) 1 c j ⊢ iprop(∃ f : Buf (Elt F) (b8 c), b8 c ↦[sB j]{fullShare} f) := .rfl
theorem dst_2 (j) : dstP (F := F) 2 c j ⊢ iprop(∃ f : Buf (Elt F) (b10 c), b10 c ↦[s16 j]{fullShare} f) := .rfl
theorem dst_3 (j) : dstP (F := F) 3 c j ⊢ iprop(∃ f : Buf (Elt F) (b11 c), b11 c ↦[s64 j]{fullShare} f) := .rfl
theorem land_0 (j) : (b6 c ↦[sA j]{fullShare} BA m c) ⊢ rP m 0 c j := .rfl
theorem land_1 (j) : (b8 c ↦[sB j]{fullShare} BB m c) ⊢ rP m 1 c j := .rfl
theorem land_2 (j) : (b10 c ↦[s16 j]{fullShare} CB m c) ⊢ rP m 2 c j := .rfl
theorem land_3 (j) : (b11 c ↦[s64 j]{fullShare} OB m c) ⊢ rP m 3 c j := .rfl
theorem src_0 (i) : (b5 c ↦[s64 (pslot 0 c i)]{fullShare} PB m c) ⊢ sP m 0 c i := .rfl
theorem src_0' (i) : sP m 0 c i ⊢ b5 c ↦[s64 (pslot 0 c i)]{fullShare} PB m c := .rfl

theorem inb12 (st : Fin 4) (i : Fin 3) : ∀ a, ![3 * st.val + i.val] a + S1.size a ≤ S12.size a := by revert st i; decide
theorem ssem_all : ∀ (st : Fin 4) (i : Fin 3), ((cc0_scratch12.slice (Rect.unit (s := S12) ![3 * st.val + i.val] S1.size (inb12 st i))).squeeze S_ squeezes_S1_S_).sem.val = 20 + 3 * st.val + i.val := by
  decide +kernel
theorem ssem {off : Fin 1 → ℕ} {inb} (st : Fin 4) (i : Fin 3) (h : off = ![3 * st.val + i.val]) :
    SemLoc.dma ((cc0_scratch12.slice (Rect.unit (s := S12) off S1.size inb)).squeeze S_ squeezes_S1_S_).sem = csem (.s st i) := by
  subst h; exact congrArg SemLoc.dma (Fin.ext (ssem_all st i))

end Names

end Cert.KernelIdealRun

end
-- ==== Proof.KV.lean ====
/- The device's own transfers of its eight heads of `K` and `V` into the slabs, and the context tiles computed from them. -/
module

public import proofs.«01_k».proof.Proof.Pieces

@[expose] public section

noncomputable section

namespace Cert.KernelIdealRun
open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

variable (K : Dev nD × Cell → ℕ)

/-- One of a family of resources, used and given back changed. -/
theorem bigSep_step {ι : Type} [Fintype ι] [DecidableEq ι] (h : ι) (Φ Ψ : ι → sProp 𝕄) (e : ∀ j, j ≠ h → Φ j = Ψ j) :
    bigSep Finset.univ Φ ⊢ iprop(Φ h ∗ (Ψ h -∗ bigSep Finset.univ Ψ)) := by
  rw [bigSep_univ_split h (Φ := Φ), bigSep_univ_split h (Φ := Ψ),
    bigSep_congr (s := Finset.univ.erase h) (Φ := Φ) (Ψ := Ψ) fun j hj => e j (Finset.ne_of_mem_erase hj)]
  show iprop(Φ h ∗ bigSep (Finset.univ.erase h) Ψ) ⊢ iprop(Φ h ∗ (Ψ h -∗ (Ψ h ∗ bigSep (Finset.univ.erase h) Ψ)))
  iintro ⟨H, Hr⟩
  isplitl [H]; · iexact H
  iintro H'
  isplitl [H']; · iexact H'
  iexact Hr

/-! ## The two arrays and the two slabs: `false` is `K`, `true` is `V` -/

abbrev sM (b : Bool) : Memref sig .tc .vmem S8x4096x128 .f32 := match b with
  | false => Memref.whole cc0_scratch0
  | true => Memref.whole cc0_scratch1
abbrev hM (b : Bool) : Memref sig .tc .hbm S1x4096x128x128 .f32 := match b with
  | false => Memref.whole main_arg2
  | true => Memref.whole main_arg3
def kvA (c : Dev nD) (b : Bool) : Vec F S1x4096x128x128 .f32 := (hM b).view.read (Elt F) (m ((hM b).view.loc (c : Thread nD τ)))
def kvs (b : Bool) (h : Fin 8) : DmaSem sig := ⟨4 + 8 * b.toNat + h.val, by have := h.isLt; cases b <;> (show _ < 48; simp only [Bool.toNat_false, Bool.toNat_true]; omega)⟩

theorem inb_h (h : Fin 8) : ∀ a, (![h.val, 0, 0] : Fin 3 → ℕ) a + S1x4096x128.size a ≤ S8x4096x128.size a := by revert h; decide
abbrev rH (h : Fin 8) : Rect S8x4096x128 := Rect.unit (s := S8x4096x128) ![h.val, 0, 0] S1x4096x128.size (inb_h h)
abbrev dstM (b : Bool) (h : Fin 8) : Memref sig .tc .vmem S4096x128 .f32 :=
  ((sM b).slice (rH h) (fun _ => rfl)).squeeze S4096x128 squeezes_S1x4096x128_S4096x128
abbrev srcM (c : Dev nD) (b : Bool) (h : Fin 8) : Memref sig .tc .hbm S4096x128 .f32 :=
  ((hM b).slice (Rect.unit (s := S1x4096x128x128) (k0_off1 c (BitVec.ofNat 32 h.val)) S1x4096x1x128.size (k0_off1_inb c h)) (fun _ => rfl)).squeeze S4096x128 squeezes_S1x4096x1x128_S4096x128

theorem lv_kvs (c : Dev nD) (b : Bool) (h : Fin 8) : lv ((c : Thread nD τ), SemLoc.dma (kvs b h)) () = 0 := by revert c b h; decide +kernel

/-- What one head's transfer adds. -/
def NK : ℕ := (Memref.whole cc0_scratch0 : Memref sig .tc .vmem S8x4096x128 .f32).view.dmaCredit / 8
theorem NK_pos : 0 < NK := by decide +kernel
theorem NK_eq (b : Bool) (h : Fin 8) : (dstM b h).view.dmaCredit = NK := by
  cases b
  · exact (show NK = sig.dmaCredit .tc (Kind.tc.table .vmem) (View.whole cc0_scratch0 : View sig .tc .vmem _ _).buf S4096x128 .f32 by decide +kernel).symm
  · exact (show NK = sig.dmaCredit .tc (Kind.tc.table .vmem) (View.whole cc0_scratch1 : View sig .tc .vmem _ _).buf S4096x128 .f32 by decide +kernel).symm

theorem shapeCast_1a1b {α : Type} {a b : ℕ} (x : (⟨4, ![1, a, 1, b]⟩ : Shape).Idx → α) (h : (⟨4, ![1, a, 1, b]⟩ : Shape).ShapeCasts ⟨2, ![a, b]⟩)
    (i : Fin a) (j : Fin b) : shapeCast ⟨2, ![a, b]⟩ x h (ix2 i j) = x (ix4 (0 : Fin 1) i (0 : Fin 1) j) :=
  shapeCast_apply x h _ _ (by
    rw [Shape.rowMajor_val_four, Shape.rowMajor_val_two]
    show ((0 * a + i.val) * 1 + 0) * b + j.val = i.val * b + j.val
    rw [Nat.zero_mul, Nat.zero_add, Nat.mul_one, Nat.add_zero])
theorem casts_4 : S1x4096x1x128.ShapeCasts S4096x128 := by decide
theorem casts_3 : S1x4096x128.ShapeCasts S4096x128 := by decide

/-- Head `h`'s slab holding what its load must read. -/
def holds (c : Dev nD) (b : Bool) (h : Fin 8) : sProp 𝕄 :=
  iprop(∃ f : Buf (Elt F) ((dstM b h).view.loc (c : Thread nD τ)),
    ⌜(sM b).view.readAt (Elt F) (rH h).toLoadRect f = slabH c (kvA m c b) h⌝
      ∗ ((dstM b h).view.loc (c : Thread nD τ) ↦[(dstM b h).view.set]{fullShare} f))
/-- Before its transfer: its share of the array, the slab at anything, the semaphore at zero. -/
def idle (c : Dev nD) (b : Bool) (h : Fin 8) : sProp 𝕄 :=
  iprop(((hM b).view.loc (c : Thread nD τ) ↦{Transfers.shareTok fullShare 8 h} m ((hM b).view.loc (c : Thread nD τ)))
    ∗ (∃ f : Buf (Elt F) ((dstM b h).view.loc (c : Thread nD τ)), (dstM b h).view.loc (c : Thread nD τ) ↦[(dstM b h).view.set]{fullShare} f)
    ∗ semVal ((c : Thread nD τ), SemLoc.dma (kvs b h)) 0)

/-- In flight; landed. -/
def flying (c : Dev nD) (b : Bool) (h : Fin 8) : sProp 𝕄 :=
  Transfers.Flight countersEmb (c : Thread nD τ) (SemLoc.dma (kvs b h)) () NK (holds m c b h)
def landedKV (c : Dev nD) (b : Bool) (h : Fin 8) : sProp 𝕄 := iprop(holds m c b h ∗ semVal ((c : Thread nD τ), SemLoc.dma (kvs b h)) 0)

/-- Of the eight heads the first `w` are landed, those up to `n` issued, the rest not yet. -/
def kvOf (c : Dev nD) (b : Bool) (n w : ℕ) (h : Fin 8) : sProp 𝕄 :=
  if h.val < w then landedKV m c b h else if h.val < n then flying m c b h else idle m c b h
def kvSt (c : Dev nD) (b : Bool) (n w : ℕ) : sProp 𝕄 := bigSep Finset.univ (kvOf m c b n w)

theorem slabRead (c : Dev nD) (b : Bool) (h : Fin 8) (f : Buf (Elt F) ((dstM b h).view.loc (c : Thread nD τ)))
    (hf : (dstM b h).view.read (Elt F) f = (srcM c b h).view.read (Elt F) (m ((hM b).view.loc (c : Thread nD τ)))) :
    (sM b).view.readAt (Elt F) (rH h).toLoadRect f = slabH c (kvA m c b) h := by
  have h1 : shapeCast S4096x128 ((sM b).view.readAt (Elt F) (rH h).toLoadRect f) casts_3 = (srcM c b h).view.read (Elt F) (m ((hM b).view.loc (c : Thread nD τ))) := hf
  have h2 : ∀ (i : Fin 4096) (j : Fin 128), (srcM c b h).view.read (Elt F) (m ((hM b).view.loc (c : Thread nD τ))) (ix2 i j)
      = (hM b).view.readAt (Elt F) (Rect.unit (s := S1x4096x128x128) (k0_off1 c (BitVec.ofNat 32 h.val)) S1x4096x1x128.size (k0_off1_inb c h)).toLoadRect (m ((hM b).view.loc (c : Thread nD τ))) (ix4 (0 : Fin 1) i (0 : Fin 1) j) := fun i j =>
    (congrFun (Memref.read_squeeze_slice (hM b) _ (fun _ => rfl) squeezes_S1x4096x1x128_S4096x128 casts_4 (m ((hM b).view.loc (c : Thread nD τ)))) (ix2 i j)).trans
      (shapeCast_1a1b (a := 4096) (b := 128) _ casts_4 i j)
  have h3 : ∀ (i : Fin 4096) (j : Fin 128), (hM b).view.readAt (Elt F) (Rect.unit (s := S1x4096x128x128) (k0_off1 c (BitVec.ofNat 32 h.val)) S1x4096x1x128.size (k0_off1_inb c h)).toLoadRect (m ((hM b).view.loc (c : Thread nD τ))) (ix4 (0 : Fin 1) i (0 : Fin 1) j)
      = slabH c (kvA m c b) h (ix3 (0 : Fin 1) i j) := fun i j => by
    refine congrArg (kvA m c b) (?_ : _ = ix4 (0 : Fin 1) i (⟨8 * c.val + h.val, _⟩ : Fin 128) j)
    have e := o1 c h
    funext a
    apply Fin.ext
    show (k0_off1 c (BitVec.ofNat 32 h.val)) a + 1 * _ = _
    refine (congrArg (· + 1 * _) (congrFun e a)).trans ?_
    fin_cases a
    · rfl
    · show 0 + 1 * i.val = i.val; omega
    · show 8 * c.val + h.val + 1 * 0 = 8 * c.val + h.val; omega
    · show 0 + 1 * j.val = j.val; omega
  have h4 : ∀ x : S1x4096x128.Idx, (sM b).view.readAt (Elt F) (rH h).toLoadRect f x = slabH c (kvA m c b) h x := fun x => by
    have hx0 : x 0 = (0 : Fin 1) := Subsingleton.elim (α := Fin 1) _ _
    rw [eq_ix3 x, hx0]
    exact (shapeCast_1ab_ab_apply (a := 4096) (b := 128) _ casts_3 (x 1) (x 2)).symm.trans ((congrFun h1 (ix2 (x 1) (x 2))).trans ((h2 _ _).trans (h3 _ _)))
  exact funext h4

/-- Head `h` of an array is sent on its way. -/
theorem wp_issue (c : Dev nD) (b : Bool) (h : Fin 8) (n n' w : ℕ) (e : h.val = n) (e' : h.val + 1 = n') (hw : w ≤ h.val) {sem : SemLoc sig} (hs : sem = .dma (kvs b h))
    {hsrc hdst hsem} {α : Type} {Q : α → sProp 𝕄} {kt : PUnit → Prog (TpuEff nD τ sig (Elt F) Λ₀ .tc) α} :
    kvSt m c b n w ⊢ iprop((kvSt m c b n' w -∗ WP c (kt ⟨⟩) Q)
      -∗ WP c (.op (.enqueueDma (srcM c b h) (.here (dstM b h)) sem hsrc hdst hsem) kt) Q) := by
  subst hs e e'
  unfold kvSt
  refine (bigSep_step h (kvOf m c b h.val w) (kvOf m c b (h.val + 1) w) fun j hj => ?_).trans ?_
  · have hj' : j.val ≠ h.val := fun e => hj (Fin.ext e)
    unfold kvOf
    by_cases h1 : j.val < w
    · rw [if_pos h1, if_pos h1]
    by_cases h2 : j.val < h.val
    · rw [if_neg h1, if_neg h1, if_pos h2, if_pos (by omega)]
    · rw [if_neg h1, if_neg h1, if_neg h2, if_neg (by omega)]
  rw [show kvOf m c b h.val w h = idle m c b h by unfold kvOf; rw [if_neg (by omega), if_neg (by omega)],
    show kvOf m c b (h.val + 1) w h = flying m c b h by unfold kvOf; rw [if_neg (by omega), if_pos (by omega)]]
  unfold idle
  iintro ⟨⟨Hs, ⟨%fd, Hd⟩, Hz⟩, Hback⟩ Hk
  ihave Hs := (pointsTo_split_subset (Finset.subset_univ (srcM c b h).view.set)).1 $$ Hs
  icases Hs with ⟨Hs, -⟩
  iapply (Transfers.wp_dmaLocal countersEmb 𝒱₀ (c : Thread nD τ) none (src := srcM c b h) (dst := dstM b h) (via := .same) (sm := .dma (kvs b h)) () NK
    (NK_eq b h) NK_pos (Finset.Subset.refl _)) $$ [Hs Hd Hz]
  · isplitl [Hs]; · iexact Hs
    isplitl [Hd]; · iexact Hd
    iexact Hz
  iintro Hf
  iapply Hk
  iapply Hback
  unfold flying
  iapply (Transfers.Flight_mono countersEmb (c : Thread nD τ) ?_) $$ Hf
  unfold holds
  iintro ⟨Hd, -⟩
  iexists (View.write (Elt F) (dstM b h).view fd (ReadAs.same.apply (View.read (Elt F) (srcM c b h).view (m ((hM b).view.loc (c : Thread nD τ))))) Finset.univ)
  isplitr
  · ipureintro
    exact slabRead m c b h _ (View.read_write_univ _ _)
  iexact Hd

/-- The wait for it. -/
theorem wp_kvwait (c : Dev nD) (b : Bool) (h : Fin 8) (n w w' : ℕ) (e0 : h.val = w) (e1 : h.val + 1 = w') (hn : h.val < n) (l : List (Dev nD × Cell)) (hl : ∀ x ∈ l, 0 < lvl x.2)
    {sem : DmaSem sig} (hs : sem = kvs b h) {s' : Shape} {e' : EltTy} {sp' : Space} {srcw : Memref sig (c : Thread nD τ).2.kind sp' s' e'}
    {hsrc hdst} {α : Type} {Q : α → sProp 𝕄} {kt : PUnit → Prog (TpuEff nD τ sig (Elt F) Λ₀ .tc) α} :
    iprop(recs m K ∗ ow c l ∗ kvSt m c b n w) ⊢ iprop((iprop(ow c l ∗ kvSt m c b n w') -∗ WP c (kt ⟨⟩) Q)
      -∗ WP c (.op (.waitDma2 sem srcw (dstM b h) hsrc hdst) kt) Q) := by
  subst hs e0 e1
  have hstep : kvSt m c b n h.val ⊢ iprop(flying m c b h ∗ (landedKV m c b h -∗ kvSt m c b n (h.val + 1))) := by
    unfold kvSt
    have hh := bigSep_step h (kvOf m c b n h.val) (kvOf m c b n (h.val + 1)) fun j hj => by
      have hj' : j.val ≠ h.val := fun e => hj (Fin.ext e)
      unfold kvOf
      by_cases h1 : j.val < h.val
      · rw [if_pos h1, if_pos (by omega)]
      · rw [if_neg h1, if_neg (show ¬ j.val < h.val + 1 by omega)]
    rwa [show kvOf m c b n h.val h = flying m c b h by unfold kvOf; rw [if_neg (by omega), if_pos hn],
      show kvOf m c b n (h.val + 1) h = landedKV m c b h by unfold kvOf; rw [if_pos (by omega)]] at hh
  unfold ow
  iintro ⟨#HR, ⟨%W, HO⟩, Hkv⟩ Hk
  ihave Hkv := hstep $$ Hkv
  icases Hkv with ⟨Hf, Hback⟩
  unfold flying
  iapply (Transfers.wp_waitLocalO countersEmb 𝒱₀ (c : Thread nD τ) none (sem := kvs b h) () (NK_eq b h)) $$ [Hf HO]
  · isplitl [Hf]; · iexact Hf
    isplitl [HO]; · iexact HO
    iapply (recs_mayWait m K c (.dma (kvs b h)) 0 (le_of_eq (lv_kvs c b h)) l hl); iexact HR
  iintro ⟨Hd, Hz, HO⟩
  iapply Hk
  isplitl [HO]; · iexists _; iexact HO
  iapply Hback
  unfold landedKV
  isplitl [Hd]; · iexact Hd
  iexact Hz

/-- The load of a landed head. -/
theorem wp_kvload (c : Dev nD) (b : Bool) (h : Fin 8) (n w : ℕ) (hw : h.val < w)
    {hl} {α : Type} {Q : α → sProp 𝕄} {kt : Vec F S1x4096x128 .f32 → Prog (TpuEff nD τ sig (Elt F) Λ₀ .tc) α} :
    kvSt m c b n w ⊢ iprop((kvSt m c b n w -∗ WP c (kt (slabH c (kvA m c b) h)) Q)
      -∗ WP c (.op (.load (sM b) (rH h).toLoadRect hl) kt) Q) := by
  have hstep : kvSt m c b n w ⊢ iprop(landedKV m c b h ∗ (landedKV m c b h -∗ kvSt m c b n w)) := by
    unfold kvSt
    have hh := bigSep_step h (kvOf m c b n w) (kvOf m c b n w) fun j hj => rfl
    rwa [show kvOf m c b n w h = landedKV m c b h by unfold kvOf; rw [if_pos hw]] at hh
  iintro Hkv Hk
  ihave Hkv := hstep $$ Hkv
  icases Hkv with ⟨Hl, Hback⟩
  unfold landedKV holds
  icases Hl with ⟨⟨%f, %hf, Hd⟩, Hz⟩
  iapply (wp_load 𝒱₀ (c : Thread nD τ) none Set.univ (m := sM b) (r := (rH h).toLoadRect) (S := (dstM b h).view.set) (q := fullShare) (f := f) ?_) $$ Hd
  · exact ((View.set_reshape _ _).trans (View.set_slice _ _)).symm.subset
  iintro Hd
  rw [hf]
  iapply Hk
  iapply Hback
  isplitl [Hd]
  · iexists f
    isplitr; · ipureintro; exact hf
    iexact Hd
  iexact Hz

/-! ## The context, tile by tile: heads outside, groups inside -/

abbrev b3 (c : Dev nD) : Loc nD τ sig := (c : Thread nD τ).loc cc0_scratch3
def ctxTo (c : Dev nD) (n : ℕ) : sProp 𝕄 :=
  iprop(∃ f : Vec F S256x1024 .bf16, ⌜∀ i : S256x1024.Idx, 4 * ((i 1).val / 128) + (i 0).val / 64 < n → f i = CTX m c i⌝ ∗ b3 c ↦{fullShare} (f : Buf (Elt F) (b3 c)))

theorem ctxTo_all (c : Dev nD) : ctxTo m c 32 ⊢ (b3 c ↦{fullShare} CTX m c) := by
  unfold ctxTo
  iintro ⟨%f, %hf, H⟩
  have e : f = CTX m c := funext fun i => hf i (by
    have h0 : (i 0).val < 256 := (i 0).isLt
    have h1 : (i 1).val < 1024 := (i 1).isLt
    omega)
  rw [← e]; iexact H

theorem wp_ctxload (c : Dev nD) (n : ℕ) {r : LoadRect S256x1024} {hl} {α : Type} {Q : α → sProp 𝕄}
    {kt : (r.shape.Idx → Elt F .bf16) → Prog (TpuEff nD τ sig (Elt F) Λ₀ .tc) α} :
    ctxTo m c n ⊢ iprop((∀ v, ctxTo m c n -∗ WP c (kt v) Q)
      -∗ WP c (.op (.load (Memref.whole cc0_scratch3 : Memref sig .tc .vmem S256x1024 .bf16) r hl) kt) Q) := by
  unfold ctxTo
  iintro ⟨%f, %hf, H⟩ Hk
  iapply (wp_load 𝒱₀ (c : Thread nD τ) none Set.univ (m := (Memref.whole cc0_scratch3 : Memref sig .tc .vmem S256x1024 .bf16)) (r := r) (S := Finset.univ) (q := fullShare) (f := f) (Finset.subset_univ _)) $$ H
  iintro H
  iapply Hk
  iexists f
  isplitr; · ipureintro; exact hf
  iexact H

theorem CTX_tile (c : Dev nD) (g : Fin 4) (h : Fin 8) (a : Fin 64) (b : Fin 128) (i : S256x1024.Idx) (h0 : (i 0).val = 64 * g.val + a.val) (h1 : (i 1).val = 128 * h.val + b.val) :
    CTX m c i = attnTile (qv m c) (slabH c (kvA m c false) h) (slabH c (kvA m c true) h) g h (ix2 a b) := by
  have r0 := rowDiv 64 (by decide) g.val a.val a.isLt
  have r1 := rowDiv 128 (by decide) h.val b.val b.isLt
  have e0 : (⟨(i 0).val / 64, by have h : (i 0).val < 256 := (i 0).isLt; omega⟩ : Fin 4) = g := Fin.ext (by show (i 0).val / 64 = _; rw [h0]; exact r0.1)
  have e1 : (⟨(i 1).val / 128, by have h : (i 1).val < 1024 := (i 1).isLt; omega⟩ : Fin 8) = h := Fin.ext (by show (i 1).val / 128 = _; rw [h1]; exact r1.1)
  have e2 : (⟨(i 0).val % 64, Nat.mod_lt _ (by decide)⟩ : Fin 64) = a := Fin.ext (by show (i 0).val % 64 = _; rw [h0]; exact r0.2)
  have e3 : (⟨(i 1).val % 128, Nat.mod_lt _ (by decide)⟩ : Fin 128) = b := Fin.ext (by show (i 1).val % 128 = _; rw [h1]; exact r1.2)
  unfold CTX
  show attnTile (qv m c) (slabH c (kvA m c false) ⟨(i 1).val / 128, _⟩) (slabH c (kvA m c true) ⟨(i 1).val / 128, _⟩) ⟨(i 0).val / 64, _⟩ ⟨(i 1).val / 128, _⟩ (ix2 ⟨(i 0).val % 64, _⟩ ⟨(i 1).val % 128, _⟩) = _
  rw [e0, e1, e2, e3]

/-- A tile is stored: the next one in the order, at its attention. -/
theorem wp_ctxstore (c : Dev nD) (g : Fin 4) (h : Fin 8) (n n' : ℕ) (hn : n = 4 * h.val + g.val) (e' : n + 1 = n') {off : Fin 2 → ℕ} {inb} (ho : off = ![64 * g.val, 128 * h.val])
    {w : FVec F S64x128 .bf16} (hw : w = attnTile (qv m c) (slabH c (kvA m c false) h) (slabH c (kvA m c true) h) g h)
    {hx hm} {α : Type} {Q : α → sProp 𝕄} {kt : PUnit → Prog (TpuEff nD τ sig (Elt F) Λ₀ .tc) α} :
    ctxTo m c n ⊢ iprop((ctxTo m c n' -∗ WP c (kt ⟨⟩) Q)
      -∗ WP c (.op (.store (Memref.whole cc0_scratch3 : Memref sig .tc .vmem S256x1024 .bf16) (Rect.unit (s := S256x1024) off S64x128.size inb) w Finset.univ hx hm) kt) Q) := by
  subst e' ho hn hw
  unfold ctxTo
  iintro ⟨%f, %hf, H⟩ Hk
  iapply (wp_store 𝒱₀ (c : Thread nD τ) none Set.univ (m := (Memref.whole cc0_scratch3 : Memref sig .tc .vmem S256x1024 .bf16))
    (r := Rect.unit (s := S256x1024) ![64 * g.val, 128 * h.val] S64x128.size inb) (Mk := Finset.univ) (S := Finset.univ) (f := f) (Finset.subset_univ _)) $$ H
  iintro H
  iapply Hk
  iexists _
  isplitr
  rotate_left
  · iexact H
  ipureintro
  intro i hi
  have h0 : (i 0).val < 256 := (i 0).isLt
  have h1 : (i 1).val < 1024 := (i 1).isLt
  by_cases hmem : i ∈ ((Memref.whole cc0_scratch3 : Memref sig .tc .vmem S256x1024 .bf16).access (Rect.unit (s := S256x1024) ![64 * g.val, 128 * h.val] S64x128.size inb)).set
  · refine landed ((Memref.whole cc0_scratch3 : Memref sig .tc .vmem S256x1024 .bf16).access (Rect.unit (s := S256x1024) ![64 * g.val, 128 * h.val] S64x128.size inb)) f (CTX m c) _ (fun x => ?_) i hmem
    rw [eq_ix2 x]
    have hx : (x 0).val < 64 := (x 0).isLt
    have hy : (x 1).val < 128 := (x 1).isLt
    refine CTX_tile m c g h (x 0) (x 1) _ ?_ ?_
    · show 64 * g.val + 1 * (x 0).val = _; omega
    · show 128 * h.val + 1 * (x 1).val = _; omega
  · rw [View.write_of_not_mem _ _ _ hmem]
    refine hf i ?_
    have hne : ¬ (64 * g.val ≤ (i 0).val ∧ (i 0).val < 64 * g.val + 64 ∧ 128 * h.val ≤ (i 1).val ∧ (i 1).val < 128 * h.val + 128) := by
      rintro ⟨a1, a2, a3, a4⟩
      refine hmem ?_
      rw [show ((Memref.whole cc0_scratch3 : Memref sig .tc .vmem S256x1024 .bf16).access (Rect.unit (s := S256x1024) ![64 * g.val, 128 * h.val] S64x128.size inb)).set
        = (Rect.unit (s := S256x1024) ![64 * g.val, 128 * h.val] S64x128.size inb).set from View.set_slice_whole _ _]
      refine Rect.mem_set_unit.2 fun a => ?_
      fin_cases a
      · exact ⟨a1, a2⟩
      · exact ⟨a3, a4⟩
    omega

end Cert.KernelIdealRun

end
-- ==== Proof.Tiles.lean ====
/- Each tile the body stores is the attention of its group and head. -/
module

public import proofs.«01_k».proof.Proof.Sched

@[expose] public section

noncomputable section

namespace Cert.KernelIdealRun
open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

theorem tile_0_0 (q : FVec F S256x8x128 .bf16) (k v : Vec F S1x4096x128 .f32) : (k0_pay6 q k v) = attnTile q k v 0 0 := rfl
theorem tile_1_0 (q : FVec F S256x8x128 .bf16) (k v : Vec F S1x4096x128 .f32) : (k0_pay8 (k0_pay3 k) (k0_pay4 v) (k0_pay7 q)) = attnTile q k v 1 0 := rfl
theorem tile_2_0 (q : FVec F S256x8x128 .bf16) (k v : Vec F S1x4096x128 .f32) : (k0_pay10 (k0_pay9 (k0_pay3 k) (k0_pay4 v) (k0_pay5 q))) = attnTile q k v 2 0 := rfl
theorem tile_3_0 (q : FVec F S256x8x128 .bf16) (k v : Vec F S1x4096x128 .f32) : (k0_pay11 (k0_pay3 k) (k0_pay4 v) (k0_pay5 q)) = attnTile q k v 3 0 := rfl
theorem tile_0_1 (q : FVec F S256x8x128 .bf16) (k v : Vec F S1x4096x128 .f32) : (k0_pay15 q k v) = attnTile q k v 0 1 := rfl
theorem tile_1_1 (q : FVec F S256x8x128 .bf16) (k v : Vec F S1x4096x128 .f32) : (k0_pay18 (k0_pay13 v) (k0_pay16 q) (k0_pay17 k)) = attnTile q k v 1 1 := rfl
theorem tile_2_1 (q : FVec F S256x8x128 .bf16) (k v : Vec F S1x4096x128 .f32) : (k0_pay20 (k0_pay19 (k0_pay12 k) (k0_pay13 v) (k0_pay14 q))) = attnTile q k v 2 1 := rfl
theorem tile_3_1 (q : FVec F S256x8x128 .bf16) (k v : Vec F S1x4096x128 .f32) : (k0_pay21 (k0_pay12 k) (k0_pay13 v) (k0_pay14 q)) = attnTile q k v 3 1 := rfl
theorem tile_0_2 (q : FVec F S256x8x128 .bf16) (k v : Vec F S1x4096x128 .f32) : (k0_pay25 q k v) = attnTile q k v 0 2 := rfl
theorem tile_1_2 (q : FVec F S256x8x128 .bf16) (k v : Vec F S1x4096x128 .f32) : (k0_pay29 (k0_pay26 q) (k0_pay27 k) (k0_pay28 v)) = attnTile q k v 1 2 := rfl
theorem tile_2_2 (q : FVec F S256x8x128 .bf16) (k v : Vec F S1x4096x128 .f32) : (k0_pay30 (k0_pay22 k) (k0_pay23 v) (k0_pay24 q)) = attnTile q k v 2 2 := rfl
theorem tile_3_2 (q : FVec F S256x8x128 .bf16) (k v : Vec F S1x4096x128 .f32) : (k0_pay31 (k0_pay22 k) (k0_pay23 v) (k0_pay24 q)) = attnTile q k v 3 2 := rfl
theorem tile_0_3 (q : FVec F S256x8x128 .bf16) (k v : Vec F S1x4096x128 .f32) : (k0_pay35 q k v) = attnTile q k v 0 3 := rfl
theorem tile_1_3 (q : FVec F S256x8x128 .bf16) (k v : Vec F S1x4096x128 .f32) : (k0_pay39 (k0_pay36 q) (k0_pay37 k) (k0_pay38 v)) = attnTile q k v 1 3 := rfl
theorem tile_2_3 (q : FVec F S256x8x128 .bf16) (k v : Vec F S1x4096x128 .f32) : (k0_pay40 (k0_pay32 k) (k0_pay33 v) (k0_pay34 q)) = attnTile q k v 2 3 := rfl
theorem tile_3_3 (q : FVec F S256x8x128 .bf16) (k v : Vec F S1x4096x128 .f32) : (k0_pay42 (k0_pay32 k) (k0_pay33 v) (k0_pay41 (k0_pay34 q))) = attnTile q k v 3 3 := rfl
theorem tile_0_4 (q : FVec F S256x8x128 .bf16) (k v : Vec F S1x4096x128 .f32) : (k0_pay46 q k v) = attnTile q k v 0 4 := rfl
theorem tile_1_4 (q : FVec F S256x8x128 .bf16) (k v : Vec F S1x4096x128 .f32) : (k0_pay49 (k0_pay47 v) (k0_pay48 q k)) = attnTile q k v 1 4 := rfl
theorem tile_2_4 (q : FVec F S256x8x128 .bf16) (k v : Vec F S1x4096x128 .f32) : (k0_pay50 (k0_pay43 k) (k0_pay44 v) (k0_pay45 q)) = attnTile q k v 2 4 := rfl
theorem tile_3_4 (q : FVec F S256x8x128 .bf16) (k v : Vec F S1x4096x128 .f32) : (k0_pay53 (k0_pay44 v) (k0_pay51 (k0_pay45 q)) (k0_pay52 (k0_pay43 k))) = attnTile q k v 3 4 := rfl
theorem tile_0_5 (q : FVec F S256x8x128 .bf16) (k v : Vec F S1x4096x128 .f32) : (k0_pay57 q k v) = attnTile q k v 0 5 := rfl
theorem tile_1_5 (q : FVec F S256x8x128 .bf16) (k v : Vec F S1x4096x128 .f32) : (k0_pay61 (k0_pay58 v) (k0_pay59 q k) (k0_pay60 (F := F))) = attnTile q k v 1 5 := rfl
theorem tile_2_5 (q : FVec F S256x8x128 .bf16) (k v : Vec F S1x4096x128 .f32) : (k0_pay62 (k0_pay54 k) (k0_pay55 v) (k0_pay56 q)) = attnTile q k v 2 5 := rfl
theorem tile_3_5 (q : FVec F S256x8x128 .bf16) (k v : Vec F S1x4096x128 .f32) : (k0_pay66 (k0_pay63 (k0_pay56 q)) (k0_pay64 (k0_pay54 k)) (k0_pay65 (k0_pay55 v))) = attnTile q k v 3 5 := rfl
theorem tile_0_6 (q : FVec F S256x8x128 .bf16) (k v : Vec F S1x4096x128 .f32) : (k0_pay70 q k v) = attnTile q k v 0 6 := rfl
theorem tile_1_6 (q : FVec F S256x8x128 .bf16) (k v : Vec F S1x4096x128 .f32) : (k0_pay73 (k0_pay71 v) (k0_pay72 q k)) = attnTile q k v 1 6 := rfl
theorem tile_2_6 (q : FVec F S256x8x128 .bf16) (k v : Vec F S1x4096x128 .f32) : (k0_pay74 (k0_pay67 k) (k0_pay68 v) (k0_pay69 q)) = attnTile q k v 2 6 := rfl
theorem tile_3_6 (q : FVec F S256x8x128 .bf16) (k v : Vec F S1x4096x128 .f32) : (k0_pay78 (k0_pay75 (k0_pay69 q)) (k0_pay76 (k0_pay67 k)) (k0_pay77 (k0_pay68 v))) = attnTile q k v 3 6 := rfl
theorem tile_0_7 (q : FVec F S256x8x128 .bf16) (k v : Vec F S1x4096x128 .f32) : (k0_pay82 q k v) = attnTile q k v 0 7 := rfl
theorem tile_1_7 (q : FVec F S256x8x128 .bf16) (k v : Vec F S1x4096x128 .f32) : (k0_pay86 (k0_pay83 v) (k0_pay84 q k) (k0_pay85 q k)) = attnTile q k v 1 7 := rfl
theorem tile_2_7 (q : FVec F S256x8x128 .bf16) (k v : Vec F S1x4096x128 .f32) : (k0_pay87 (k0_pay79 k) (k0_pay80 v) (k0_pay81 q)) = attnTile q k v 2 7 := rfl

end Cert.KernelIdealRun

end
-- ==== Proof.Attn.lean ====
/- The body up to the barrier's wait: the heads sent for, and the attention of the device's eight heads. -/
module

public import proofs.«01_k».proof.Proof.KV
public import proofs.«01_k».proof.Proof.Tiles

@[expose] public section

noncomputable section

namespace Cert.KernelIdealRun
open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

variable (K : Dev nD × Cell → ℕ)

/-! ## The body's operands -/

omit [FloatOps F] in
theorem iw (b : Ref sig .tc) : (Memref.whole b : Memref sig .tc b.space b.ty.shape b.ty.elt).IsWhole := Memref.isWhole_whole b

abbrev aX : Memref sig .tc .vmem S1x256x1024 .f32 := Memref.whole cc0_stg0_0
abbrev aQ : Memref sig .tc .vmem S1024x1024 .f32 := Memref.whole cc0_stg1_0
abbrev aK : Memref sig .tc .hbm S1x4096x128x128 .f32 := Memref.whole main_arg2
abbrev aV : Memref sig .tc .hbm S1x4096x128x128 .f32 := Memref.whole main_arg3
abbrev aW : Memref sig .tc .vmem S1024x1024 .f32 := Memref.whole cc0_stg2_0
abbrev aY : Memref sig .tc .vmem S1x256x1024 .f32 := Memref.whole cc0_stg3_0
abbrev a6 : Memref sig .tc .vmem S8x4096x128 .f32 := Memref.whole cc0_scratch0
abbrev a7 : Memref sig .tc .vmem S8x4096x128 .f32 := Memref.whole cc0_scratch1
abbrev a8 : DmaSems sig S2x8 := cc0_scratch2
abbrev a9 : Memref sig .tc .vmem S256x1024 .bf16 := Memref.whole cc0_scratch3
abbrev a10 : Memref sig .tc .vmem S256x1024 .f32 := Memref.whole cc0_scratch4
abbrev a11 : Memref sig .tc .vmem S256x1024 .bf16 := Memref.whole cc0_scratch5
abbrev a12 : Memref sig .tc .vmem S4x64x1024 .bf16 := Memref.whole cc0_scratch6
abbrev a13 : Memref sig .tc .vmem S64x1024 .bf16 := Memref.whole cc0_scratch7
abbrev a14 : Memref sig .tc .vmem S4x16x1024 .bf16 := Memref.whole cc0_scratch8
abbrev a15 : Memref sig .tc .vmem S16x1024 .bf16 := Memref.whole cc0_scratch9
abbrev a16 : Memref sig .tc .vmem S64x1024 .bf16 := Memref.whole cc0_scratch10
abbrev a17 : Memref sig .tc .vmem S256x1024 .bf16 := Memref.whole cc0_scratch11
abbrev a18 : DmaSems sig S12 := cc0_scratch12
abbrev a19 : DmaSems sig S8 := cc0_scratch13
abbrev a20 : DmaSems sig S8 := cc0_scratch14

abbrev bX (c : Dev nD) : Loc nD τ sig := (c : Thread nD τ).loc cc0_stg0_0
abbrev bQ (c : Dev nD) : Loc nD τ sig := (c : Thread nD τ).loc cc0_stg1_0
abbrev bW (c : Dev nD) : Loc nD τ sig := (c : Thread nD τ).loc cc0_stg2_0
abbrev bY (c : Dev nD) : Loc nD τ sig := (c : Thread nD τ).loc cc0_stg3_0

theorem hz2 : (![0, 0] : Fin 2 → ℕ) = fun _ => 0 := by funext a; fin_cases a <;> rfl
theorem hz3 : (![0, 0, 0] : Fin 3 → ℕ) = fun _ => 0 := by funext a; fin_cases a <;> rfl
omit [FloatOps F] in
theorem read_aX (f : (cc0_stg0_0 : Ref sig .tc).ty.Contents (Elt F)) {inb} :
    (aX : Memref sig .tc .vmem S1x256x1024 .f32).view.readAt (Elt F) (Rect.unit (s := S1x256x1024) ![0, 0, 0] S1x256x1024.size inb).toLoadRect f = f :=
  Memref.readAt_unit_zero (Elt F) cc0_stg0_0 hz3 _ f
omit [FloatOps F] in
theorem read_aQ (f : (cc0_stg1_0 : Ref sig .tc).ty.Contents (Elt F)) {inb} :
    (aQ : Memref sig .tc .vmem S1024x1024 .f32).view.readAt (Elt F) (Rect.unit (s := S1024x1024) ![0, 0] S1024x1024.size inb).toLoadRect f = f :=
  Memref.readAt_unit_zero (Elt F) cc0_stg1_0 hz2 _ f

theorem inb_kvs (b : Bool) (h : Fin 8) : ∀ a, (![b.toNat, h.val] : Fin 2 → ℕ) a + S1x1.size a ≤ S2x8.size a := by revert b h; decide
theorem kvSem_val : ∀ (b : Bool) (h : Fin 8), ((cc0_scratch2.slice (Rect.unit (s := S2x8) ![b.toNat, h.val] S1x1.size (inb_kvs b h))).squeeze S_ squeezes_S1x1_S_).sem.val = (kvs b h).val := by decide +kernel
theorem kvSem' (b : Bool) (h : Fin 8) (inb) : ((cc0_scratch2.slice (Rect.unit (s := S2x8) ![b.toNat, h.val] S1x1.size inb)).squeeze S_ squeezes_S1x1_S_).sem = kvs b h := Fin.ext (kvSem_val b h)
theorem kvSem (b : Bool) (h : Fin 8) (inb) : SemLoc.dma ((cc0_scratch2.slice (Rect.unit (s := S2x8) ![b.toNat, h.val] S1x1.size inb)).squeeze S_ squeezes_S1x1_S_).sem = SemLoc.dma (kvs b h) := congrArg SemLoc.dma (kvSem' b h inb)

/-! ## The attention, part by part -/

/-- What a part of it holds: what is still owed, the heads sent for and landed, the tiles written. -/
def att (c : Dev nD) (l : List (Dev nD × Cell)) (n n' w w' t : ℕ) : sProp 𝕄 :=
  iprop(ow c l ∗ kvSt m c false n w ∗ kvSt m c true n' w' ∗ ctxTo m c t)

theorem wp_end {c : Dev nD} {α : Type} {x : α} {Q : α → sProp 𝕄} : Q x ⊢ WP c (.ret x) Q := by
  unfold WP
  rw [wp_ret]
  iintro H; imodintro; iexact H

variable (c : Dev nD) (l : List (Dev nD × Cell)) (hl : ∀ x ∈ l, 0 < lvl x.2)
include hl

theorem part3 (v58 : BitVec 32) {Q : _ → sProp 𝕄} :
    iprop(recs m K ∗ att m c l 0 0 0 0 0) ⊢ iprop((iprop(att m c l 2 1 0 0 0) -∗ Q ⟨⟩)
      -∗ WP c (k0_part3 (F := F) aX (iw _) aQ (iw _) aK (iw _) aV (iw _) aW (iw _) aY (iw _) a6 (iw _) a7 (iw _) a8 a9 (iw _) a10 (iw _) a11 (iw _) a12 (iw _) a13 (iw _) a14 (iw _) a15 (iw _) a16 (iw _) a17 (iw _) a18 a19 a20 c v58) Q) := by
  rw [k0_part3_eq_skeleton]; unfold k0_part3_skel att
  simp only [Prog.lift, Prog.bind_op, Prog.bind_ret, Prog.pure_eq_ret]
  iintro ⟨#HR, ⟨HO, Hk, Hv, Hc⟩⟩ Hcont
  iapply (wp_issue m c false 0 0 1 0 rfl rfl (Nat.zero_le _) (kvSem false 0 _)) $$ Hk; iintro Hk
  iapply (wp_issue m c true 0 0 1 0 rfl rfl (Nat.zero_le _) (kvSem true 0 _)) $$ Hv; iintro Hv
  iapply (wp_issue m c false 1 1 2 0 rfl rfl (Nat.zero_le _) (kvSem false 1 _)) $$ Hk; iintro Hk
  iapply wp_end
  iapply Hcont
  isplitl [HO]; · iexact HO
  isplitl [Hk]; · iexact Hk
  isplitl [Hv]; · iexact Hv
  iexact Hc

theorem part4 (v58 : BitVec 32) {Q : _ → sProp 𝕄} :
    iprop(recs m K ∗ att m c l 2 1 0 0 0) ⊢ iprop((iprop(att m c l 4 3 0 0 0) -∗ Q ⟨⟩)
      -∗ WP c (k0_part4 (F := F) aX (iw _) aQ (iw _) aK (iw _) aV (iw _) aW (iw _) aY (iw _) a6 (iw _) a7 (iw _) a8 a9 (iw _) a10 (iw _) a11 (iw _) a12 (iw _) a13 (iw _) a14 (iw _) a15 (iw _) a16 (iw _) a17 (iw _) a18 a19 a20 c v58) Q) := by
  rw [k0_part4_eq_skeleton]; unfold k0_part4_skel att
  simp only [Prog.lift, Prog.bind_op, Prog.bind_ret, Prog.pure_eq_ret]
  iintro ⟨#HR, ⟨HO, Hk, Hv, Hc⟩⟩ Hcont
  iapply (wp_issue m c true 1 1 2 0 rfl rfl (Nat.zero_le _) (kvSem true 1 _)) $$ Hv; iintro Hv
  iapply (wp_issue m c false 2 2 3 0 rfl rfl (Nat.zero_le _) (kvSem false 2 _)) $$ Hk; iintro Hk
  iapply (wp_issue m c true 2 2 3 0 rfl rfl (Nat.zero_le _) (kvSem true 2 _)) $$ Hv; iintro Hv
  iapply (wp_issue m c false 3 3 4 0 rfl rfl (Nat.zero_le _) (kvSem false 3 _)) $$ Hk; iintro Hk
  iapply wp_end
  iapply Hcont
  isplitl [HO]; · iexact HO
  isplitl [Hk]; · iexact Hk
  isplitl [Hv]; · iexact Hv
  iexact Hc

theorem part5 (v58 : BitVec 32) {Q : _ → sProp 𝕄} :
    iprop(recs m K ∗ att m c l 4 3 0 0 0) ⊢ iprop((iprop(att m c l 5 5 0 0 0) -∗ Q ⟨⟩)
      -∗ WP c (k0_part5 (F := F) aX (iw _) aQ (iw _) aK (iw _) aV (iw _) aW (iw _) aY (iw _) a6 (iw _) a7 (iw _) a8 a9 (iw _) a10 (iw _) a11 (iw _) a12 (iw _) a13 (iw _) a14 (iw _) a15 (iw _) a16 (iw _) a17 (iw _) a18 a19 a20 c v58) Q) := by
  rw [k0_part5_eq_skeleton]; unfold k0_part5_skel att
  simp only [Prog.lift, Prog.bind_op, Prog.bind_ret, Prog.pure_eq_ret]
  iintro ⟨#HR, ⟨HO, Hk, Hv, Hc⟩⟩ Hcont
  iapply (wp_issue m c true 3 3 4 0 rfl rfl (Nat.zero_le _) (kvSem true 3 _)) $$ Hv; iintro Hv
  iapply (wp_issue m c false 4 4 5 0 rfl rfl (Nat.zero_le _) (kvSem false 4 _)) $$ Hk; iintro Hk
  iapply (wp_issue m c true 4 4 5 0 rfl rfl (Nat.zero_le _) (kvSem true 4 _)) $$ Hv; iintro Hv
  iapply wp_end
  iapply Hcont
  isplitl [HO]; · iexact HO
  isplitl [Hk]; · iexact Hk
  isplitl [Hv]; · iexact Hv
  iexact Hc

theorem part6 (v58 : BitVec 32) {Q : _ → sProp 𝕄} :
    iprop(recs m K ∗ att m c l 5 5 0 0 0) ⊢ iprop((iprop(att m c l 7 7 0 0 0) -∗ Q ⟨⟩)
      -∗ WP c (k0_part6 (F := F) aX (iw _) aQ (iw _) aK (iw _) aV (iw _) aW (iw _) aY (iw _) a6 (iw _) a7 (iw _) a8 a9 (iw _) a10 (iw _) a11 (iw _) a12 (iw _) a13 (iw _) a14 (iw _) a15 (iw _) a16 (iw _) a17 (iw _) a18 a19 a20 c v58) Q) := by
  rw [k0_part6_eq_skeleton]; unfold k0_part6_skel att
  simp only [Prog.lift, Prog.bind_op, Prog.bind_ret, Prog.pure_eq_ret]
  iintro ⟨#HR, ⟨HO, Hk, Hv, Hc⟩⟩ Hcont
  iapply (wp_issue m c false 5 5 6 0 rfl rfl (Nat.zero_le _) (kvSem false 5 _)) $$ Hk; iintro Hk
  iapply (wp_issue m c true 5 5 6 0 rfl rfl (Nat.zero_le _) (kvSem true 5 _)) $$ Hv; iintro Hv
  iapply (wp_issue m c false 6 6 7 0 rfl rfl (Nat.zero_le _) (kvSem false 6 _)) $$ Hk; iintro Hk
  iapply (wp_issue m c true 6 6 7 0 rfl rfl (Nat.zero_le _) (kvSem true 6 _)) $$ Hv; iintro Hv
  iapply wp_end
  iapply Hcont
  isplitl [HO]; · iexact HO
  isplitl [Hk]; · iexact Hk
  isplitl [Hv]; · iexact Hv
  iexact Hc

theorem part7  {Q : _ → sProp 𝕄} :
    iprop(recs m K ∗ att m c l 7 7 0 0 0 ∗ (bX c ↦{fullShare} xB m c) ∗ (bQ c ↦{fullShare} wqB m c)) ⊢ iprop((iprop(att m c l 8 8 1 0 0 ∗ (bX c ↦{fullShare} xB m c) ∗ (bQ c ↦{fullShare} wqB m c)) -∗ Q (qv m c))
      -∗ WP c (k0_part7 (F := F) aX (iw _) aQ (iw _) aK (iw _) aV (iw _) aW (iw _) aY (iw _) a6 (iw _) a7 (iw _) a8 a9 (iw _) a10 (iw _) a11 (iw _) a12 (iw _) a13 (iw _) a14 (iw _) a15 (iw _) a16 (iw _) a17 (iw _) a18 a19 a20 c) Q) := by
  rw [k0_part7_eq_skeleton]; unfold k0_part7_skel att
  simp only [Prog.lift, Prog.bind_op, Prog.bind_ret, Prog.pure_eq_ret]
  iintro ⟨#HR, ⟨HO, Hk, Hv, Hc⟩, Hx, Hq⟩ Hcont
  iapply (wp_issue m c false 7 7 8 0 rfl rfl (Nat.zero_le _) (kvSem false 7 _)) $$ Hk; iintro Hk
  iapply (wp_issue m c true 7 7 8 0 rfl rfl (Nat.zero_le _) (kvSem true 7 _)) $$ Hv; iintro Hv
  iapply (wp_load 𝒱₀ (c : Thread nD τ) none Set.univ (m := aX) (Finset.subset_univ _)) $$ Hx; iintro Hx; rw [read_aX]
  iapply (wp_load 𝒱₀ (c : Thread nD τ) none Set.univ (m := aQ) (Finset.subset_univ _)) $$ Hq; iintro Hq; rw [read_aQ]
  iapply (wp_kvwait m K c false 0 8 0 1 rfl rfl (by decide) l hl (kvSem' false 0 _)) $$ [HO Hk]
  · isplitr; · iexact HR
    isplitl [HO]; · iexact HO
    iexact Hk
  iintro ⟨HO, Hk⟩
  rw [show k0_pay2 (xB m c) (wqB m c) = qv m c from rfl]
  iapply wp_end
  iapply Hcont
  isplitr [Hx Hq]
  · isplitl [HO]; · iexact HO
    isplitl [Hk]; · iexact Hk
    isplitl [Hv]; · iexact Hv
    iexact Hc
  isplitl [Hx]; · iexact Hx
  iexact Hq

theorem part8  {Q : _ → sProp 𝕄} :
    iprop(recs m K ∗ att m c l 8 8 1 0 0) ⊢ iprop((iprop(att m c l 8 8 1 1 1) -∗ Q ⟨k0_pay3 (slabH c (kvA m c false) 0), k0_pay4 (slabH c (kvA m c true) 0), k0_pay5 (qv m c), k0_pay7 (qv m c)⟩)
      -∗ WP c (k0_part8 (F := F) aX (iw _) aQ (iw _) aK (iw _) aV (iw _) aW (iw _) aY (iw _) a6 (iw _) a7 (iw _) a8 a9 (iw _) a10 (iw _) a11 (iw _) a12 (iw _) a13 (iw _) a14 (iw _) a15 (iw _) a16 (iw _) a17 (iw _) a18 a19 a20 c (qv m c)) Q) := by
  rw [k0_part8_eq_skeleton]; unfold k0_part8_skel att
  simp only [Prog.lift, Prog.bind_op, Prog.bind_ret, Prog.pure_eq_ret]
  iintro ⟨#HR, ⟨HO, Hk, Hv, Hc⟩⟩ Hcont
  iapply (wp_kvwait m K c true 0 8 0 1 rfl rfl (by decide) l hl (kvSem' true 0 _)) $$ [HO Hv]
  · isplitr; · iexact HR
    isplitl [HO]; · iexact HO
    iexact Hv
  iintro ⟨HO, Hv⟩
  iapply (wp_kvload m c false 0 8 1 (by decide)) $$ Hk; iintro Hk
  iapply (wp_kvload m c true 0 8 1 (by decide)) $$ Hv; iintro Hv
  iapply (wp_ctxload m c 0) $$ Hc; iintro %v224 Hc
  iapply (wp_ctxstore m c 0 0 0 1 rfl rfl rfl (tile_0_0 _ _ _)) $$ Hc; iintro Hc
  iapply wp_end
  iapply Hcont
  isplitl [HO]; · iexact HO
  isplitl [Hk]; · iexact Hk
  isplitl [Hv]; · iexact Hv
  iexact Hc

theorem part9  {Q : _ → sProp 𝕄} :
    iprop(recs m K ∗ att m c l 8 8 1 1 1) ⊢ iprop((iprop(att m c l 8 8 1 1 2) -∗ Q (k0_pay9 (k0_pay3 (slabH c (kvA m c false) 0)) (k0_pay4 (slabH c (kvA m c true) 0)) (k0_pay5 (qv m c))))
      -∗ WP c (k0_part9 (F := F) aX (iw _) aQ (iw _) aK (iw _) aV (iw _) aW (iw _) aY (iw _) a6 (iw _) a7 (iw _) a8 a9 (iw _) a10 (iw _) a11 (iw _) a12 (iw _) a13 (iw _) a14 (iw _) a15 (iw _) a16 (iw _) a17 (iw _) a18 a19 a20 (k0_pay3 (slabH c (kvA m c false) 0)) (k0_pay4 (slabH c (kvA m c true) 0)) (k0_pay5 (qv m c)) (k0_pay7 (qv m c))) Q) := by
  rw [k0_part9_eq_skeleton]; unfold k0_part9_skel att
  simp only [Prog.lift, Prog.bind_op, Prog.bind_ret, Prog.pure_eq_ret]
  iintro ⟨#HR, ⟨HO, Hk, Hv, Hc⟩⟩ Hcont
  iapply (wp_ctxload m c 1) $$ Hc; iintro %v249 Hc
  iapply (wp_ctxstore m c 1 0 1 2 rfl rfl rfl (tile_1_0 _ _ _)) $$ Hc; iintro Hc
  iapply wp_end
  iapply Hcont
  isplitl [HO]; · iexact HO
  isplitl [Hk]; · iexact Hk
  isplitl [Hv]; · iexact Hv
  iexact Hc

theorem part10  {Q : _ → sProp 𝕄} :
    iprop(recs m K ∗ att m c l 8 8 1 1 2) ⊢ iprop((iprop(att m c l 8 8 2 1 4) -∗ Q ⟨⟩)
      -∗ WP c (k0_part10 (F := F) aX (iw _) aQ (iw _) aK (iw _) aV (iw _) aW (iw _) aY (iw _) a6 (iw _) a7 (iw _) a8 a9 (iw _) a10 (iw _) a11 (iw _) a12 (iw _) a13 (iw _) a14 (iw _) a15 (iw _) a16 (iw _) a17 (iw _) a18 a19 a20 c (k0_pay3 (slabH c (kvA m c false) 0)) (k0_pay4 (slabH c (kvA m c true) 0)) (k0_pay5 (qv m c)) (k0_pay9 (k0_pay3 (slabH c (kvA m c false) 0)) (k0_pay4 (slabH c (kvA m c true) 0)) (k0_pay5 (qv m c)))) Q) := by
  rw [k0_part10_eq_skeleton]; unfold k0_part10_skel att
  simp only [Prog.lift, Prog.bind_op, Prog.bind_ret, Prog.pure_eq_ret]
  iintro ⟨#HR, ⟨HO, Hk, Hv, Hc⟩⟩ Hcont
  iapply (wp_ctxload m c 2) $$ Hc; iintro %v274 Hc
  iapply (wp_ctxstore m c 2 0 2 3 rfl rfl rfl (tile_2_0 _ _ _)) $$ Hc; iintro Hc
  iapply (wp_ctxload m c 3) $$ Hc; iintro %v299 Hc
  iapply (wp_ctxstore m c 3 0 3 4 rfl rfl rfl (tile_3_0 _ _ _)) $$ Hc; iintro Hc
  iapply (wp_kvwait m K c false 1 8 1 2 rfl rfl (by decide) l hl (kvSem' false 1 _)) $$ [HO Hk]
  · isplitr; · iexact HR
    isplitl [HO]; · iexact HO
    iexact Hk
  iintro ⟨HO, Hk⟩
  iapply wp_end
  iapply Hcont
  isplitl [HO]; · iexact HO
  isplitl [Hk]; · iexact Hk
  isplitl [Hv]; · iexact Hv
  iexact Hc

theorem part11  {Q : _ → sProp 𝕄} :
    iprop(recs m K ∗ att m c l 8 8 2 1 4) ⊢ iprop((iprop(att m c l 8 8 2 2 5) -∗ Q ⟨k0_pay12 (slabH c (kvA m c false) 1), k0_pay13 (slabH c (kvA m c true) 1), k0_pay14 (qv m c), k0_pay16 (qv m c), k0_pay17 (slabH c (kvA m c false) 1)⟩)
      -∗ WP c (k0_part11 (F := F) aX (iw _) aQ (iw _) aK (iw _) aV (iw _) aW (iw _) aY (iw _) a6 (iw _) a7 (iw _) a8 a9 (iw _) a10 (iw _) a11 (iw _) a12 (iw _) a13 (iw _) a14 (iw _) a15 (iw _) a16 (iw _) a17 (iw _) a18 a19 a20 c (qv m c)) Q) := by
  rw [k0_part11_eq_skeleton]; unfold k0_part11_skel att
  simp only [Prog.lift, Prog.bind_op, Prog.bind_ret, Prog.pure_eq_ret]
  iintro ⟨#HR, ⟨HO, Hk, Hv, Hc⟩⟩ Hcont
  iapply (wp_kvwait m K c true 1 8 1 2 rfl rfl (by decide) l hl (kvSem' true 1 _)) $$ [HO Hv]
  · isplitr; · iexact HR
    isplitl [HO]; · iexact HO
    iexact Hv
  iintro ⟨HO, Hv⟩
  iapply (wp_kvload m c false 1 8 2 (by decide)) $$ Hk; iintro Hk
  iapply (wp_kvload m c true 1 8 2 (by decide)) $$ Hv; iintro Hv
  iapply (wp_ctxload m c 4) $$ Hc; iintro %v346 Hc
  iapply (wp_ctxstore m c 0 1 4 5 rfl rfl rfl (tile_0_1 _ _ _)) $$ Hc; iintro Hc
  iapply wp_end
  iapply Hcont
  isplitl [HO]; · iexact HO
  isplitl [Hk]; · iexact Hk
  isplitl [Hv]; · iexact Hv
  iexact Hc

theorem part12  {Q : _ → sProp 𝕄} :
    iprop(recs m K ∗ att m c l 8 8 2 2 5) ⊢ iprop((∀ v396 : Vec F S64x128 .bf16, iprop(att m c l 8 8 2 2 6) -∗ Q ⟨k0_pay19 (k0_pay12 (slabH c (kvA m c false) 1)) (k0_pay13 (slabH c (kvA m c true) 1)) (k0_pay14 (qv m c)), v396⟩)
      -∗ WP c (k0_part12 (F := F) aX (iw _) aQ (iw _) aK (iw _) aV (iw _) aW (iw _) aY (iw _) a6 (iw _) a7 (iw _) a8 a9 (iw _) a10 (iw _) a11 (iw _) a12 (iw _) a13 (iw _) a14 (iw _) a15 (iw _) a16 (iw _) a17 (iw _) a18 a19 a20 (k0_pay12 (slabH c (kvA m c false) 1)) (k0_pay13 (slabH c (kvA m c true) 1)) (k0_pay14 (qv m c)) (k0_pay16 (qv m c)) (k0_pay17 (slabH c (kvA m c false) 1))) Q) := by
  rw [k0_part12_eq_skeleton]; unfold k0_part12_skel att
  simp only [Prog.lift, Prog.bind_op, Prog.bind_ret, Prog.pure_eq_ret]
  iintro ⟨#HR, ⟨HO, Hk, Hv, Hc⟩⟩ Hcont
  iapply (wp_ctxload m c 5) $$ Hc; iintro %v371 Hc
  iapply (wp_ctxstore m c 1 1 5 6 rfl rfl rfl (tile_1_1 _ _ _)) $$ Hc; iintro Hc
  iapply (wp_ctxload m c 6) $$ Hc; iintro %v396 Hc
  iapply wp_end
  ispecialize Hcont $$ %v396
  iapply Hcont
  isplitl [HO]; · iexact HO
  isplitl [Hk]; · iexact Hk
  isplitl [Hv]; · iexact Hv
  iexact Hc

theorem part13 (v396 : Vec F S64x128 .bf16) {Q : _ → sProp 𝕄} :
    iprop(recs m K ∗ att m c l 8 8 2 2 6) ⊢ iprop((iprop(att m c l 8 8 3 2 8) -∗ Q ⟨⟩)
      -∗ WP c (k0_part13 (F := F) aX (iw _) aQ (iw _) aK (iw _) aV (iw _) aW (iw _) aY (iw _) a6 (iw _) a7 (iw _) a8 a9 (iw _) a10 (iw _) a11 (iw _) a12 (iw _) a13 (iw _) a14 (iw _) a15 (iw _) a16 (iw _) a17 (iw _) a18 a19 a20 c (k0_pay12 (slabH c (kvA m c false) 1)) (k0_pay13 (slabH c (kvA m c true) 1)) (k0_pay14 (qv m c)) (k0_pay19 (k0_pay12 (slabH c (kvA m c false) 1)) (k0_pay13 (slabH c (kvA m c true) 1)) (k0_pay14 (qv m c))) v396) Q) := by
  rw [k0_part13_eq_skeleton]; unfold k0_part13_skel att
  simp only [Prog.lift, Prog.bind_op, Prog.bind_ret, Prog.pure_eq_ret]
  iintro ⟨#HR, ⟨HO, Hk, Hv, Hc⟩⟩ Hcont
  iapply (wp_ctxstore m c 2 1 6 7 rfl rfl rfl (tile_2_1 _ _ _)) $$ Hc; iintro Hc
  iapply (wp_ctxload m c 7) $$ Hc; iintro %v421 Hc
  iapply (wp_ctxstore m c 3 1 7 8 rfl rfl rfl (tile_3_1 _ _ _)) $$ Hc; iintro Hc
  iapply (wp_kvwait m K c false 2 8 2 3 rfl rfl (by decide) l hl (kvSem' false 2 _)) $$ [HO Hk]
  · isplitr; · iexact HR
    isplitl [HO]; · iexact HO
    iexact Hk
  iintro ⟨HO, Hk⟩
  iapply wp_end
  iapply Hcont
  isplitl [HO]; · iexact HO
  isplitl [Hk]; · iexact Hk
  isplitl [Hv]; · iexact Hv
  iexact Hc

theorem part14  {Q : _ → sProp 𝕄} :
    iprop(recs m K ∗ att m c l 8 8 3 2 8) ⊢ iprop((iprop(att m c l 8 8 3 3 9) -∗ Q ⟨k0_pay22 (slabH c (kvA m c false) 2), k0_pay23 (slabH c (kvA m c true) 2), k0_pay24 (qv m c), k0_pay26 (qv m c), k0_pay27 (slabH c (kvA m c false) 2), k0_pay28 (slabH c (kvA m c true) 2)⟩)
      -∗ WP c (k0_part14 (F := F) aX (iw _) aQ (iw _) aK (iw _) aV (iw _) aW (iw _) aY (iw _) a6 (iw _) a7 (iw _) a8 a9 (iw _) a10 (iw _) a11 (iw _) a12 (iw _) a13 (iw _) a14 (iw _) a15 (iw _) a16 (iw _) a17 (iw _) a18 a19 a20 c (qv m c)) Q) := by
  rw [k0_part14_eq_skeleton]; unfold k0_part14_skel att
  simp only [Prog.lift, Prog.bind_op, Prog.bind_ret, Prog.pure_eq_ret]
  iintro ⟨#HR, ⟨HO, Hk, Hv, Hc⟩⟩ Hcont
  iapply (wp_kvwait m K c true 2 8 2 3 rfl rfl (by decide) l hl (kvSem' true 2 _)) $$ [HO Hv]
  · isplitr; · iexact HR
    isplitl [HO]; · iexact HO
    iexact Hv
  iintro ⟨HO, Hv⟩
  iapply (wp_kvload m c false 2 8 3 (by decide)) $$ Hk; iintro Hk
  iapply (wp_kvload m c true 2 8 3 (by decide)) $$ Hv; iintro Hv
  iapply (wp_ctxload m c 8) $$ Hc; iintro %v468 Hc
  iapply (wp_ctxstore m c 0 2 8 9 rfl rfl rfl (tile_0_2 _ _ _)) $$ Hc; iintro Hc
  iapply wp_end
  iapply Hcont
  isplitl [HO]; · iexact HO
  isplitl [Hk]; · iexact Hk
  isplitl [Hv]; · iexact Hv
  iexact Hc

theorem part15  {Q : _ → sProp 𝕄} :
    iprop(recs m K ∗ att m c l 8 8 3 3 9) ⊢ iprop((iprop(att m c l 8 8 3 3 10) -∗ Q (k0_pay30 (k0_pay22 (slabH c (kvA m c false) 2)) (k0_pay23 (slabH c (kvA m c true) 2)) (k0_pay24 (qv m c))))
      -∗ WP c (k0_part15 (F := F) aX (iw _) aQ (iw _) aK (iw _) aV (iw _) aW (iw _) aY (iw _) a6 (iw _) a7 (iw _) a8 a9 (iw _) a10 (iw _) a11 (iw _) a12 (iw _) a13 (iw _) a14 (iw _) a15 (iw _) a16 (iw _) a17 (iw _) a18 a19 a20 (k0_pay22 (slabH c (kvA m c false) 2)) (k0_pay23 (slabH c (kvA m c true) 2)) (k0_pay24 (qv m c)) (k0_pay26 (qv m c)) (k0_pay27 (slabH c (kvA m c false) 2)) (k0_pay28 (slabH c (kvA m c true) 2))) Q) := by
  rw [k0_part15_eq_skeleton]; unfold k0_part15_skel att
  simp only [Prog.lift, Prog.bind_op, Prog.bind_ret, Prog.pure_eq_ret]
  iintro ⟨#HR, ⟨HO, Hk, Hv, Hc⟩⟩ Hcont
  iapply (wp_ctxload m c 9) $$ Hc; iintro %v493 Hc
  iapply (wp_ctxstore m c 1 2 9 10 rfl rfl rfl (tile_1_2 _ _ _)) $$ Hc; iintro Hc
  iapply (wp_ctxload m c 10) $$ Hc; iintro %v518 Hc
  iapply wp_end
  iapply Hcont
  isplitl [HO]; · iexact HO
  isplitl [Hk]; · iexact Hk
  isplitl [Hv]; · iexact Hv
  iexact Hc

theorem part16  {Q : _ → sProp 𝕄} :
    iprop(recs m K ∗ att m c l 8 8 3 3 10) ⊢ iprop((iprop(att m c l 8 8 4 3 12) -∗ Q ⟨⟩)
      -∗ WP c (k0_part16 (F := F) aX (iw _) aQ (iw _) aK (iw _) aV (iw _) aW (iw _) aY (iw _) a6 (iw _) a7 (iw _) a8 a9 (iw _) a10 (iw _) a11 (iw _) a12 (iw _) a13 (iw _) a14 (iw _) a15 (iw _) a16 (iw _) a17 (iw _) a18 a19 a20 c (k0_pay22 (slabH c (kvA m c false) 2)) (k0_pay23 (slabH c (kvA m c true) 2)) (k0_pay24 (qv m c)) (k0_pay30 (k0_pay22 (slabH c (kvA m c false) 2)) (k0_pay23 (slabH c (kvA m c true) 2)) (k0_pay24 (qv m c)))) Q) := by
  rw [k0_part16_eq_skeleton]; unfold k0_part16_skel att
  simp only [Prog.lift, Prog.bind_op, Prog.bind_ret, Prog.pure_eq_ret]
  iintro ⟨#HR, ⟨HO, Hk, Hv, Hc⟩⟩ Hcont
  iapply (wp_ctxstore m c 2 2 10 11 rfl rfl rfl (tile_2_2 _ _ _)) $$ Hc; iintro Hc
  iapply (wp_ctxload m c 11) $$ Hc; iintro %v543 Hc
  iapply (wp_ctxstore m c 3 2 11 12 rfl rfl rfl (tile_3_2 _ _ _)) $$ Hc; iintro Hc
  iapply (wp_kvwait m K c false 3 8 3 4 rfl rfl (by decide) l hl (kvSem' false 3 _)) $$ [HO Hk]
  · isplitr; · iexact HR
    isplitl [HO]; · iexact HO
    iexact Hk
  iintro ⟨HO, Hk⟩
  iapply wp_end
  iapply Hcont
  isplitl [HO]; · iexact HO
  isplitl [Hk]; · iexact Hk
  isplitl [Hv]; · iexact Hv
  iexact Hc

theorem part17  {Q : _ → sProp 𝕄} :
    iprop(recs m K ∗ att m c l 8 8 4 3 12) ⊢ iprop((iprop(att m c l 8 8 4 4 13) -∗ Q ⟨k0_pay32 (slabH c (kvA m c false) 3), k0_pay33 (slabH c (kvA m c true) 3), k0_pay34 (qv m c), k0_pay36 (qv m c), k0_pay37 (slabH c (kvA m c false) 3), k0_pay38 (slabH c (kvA m c true) 3)⟩)
      -∗ WP c (k0_part17 (F := F) aX (iw _) aQ (iw _) aK (iw _) aV (iw _) aW (iw _) aY (iw _) a6 (iw _) a7 (iw _) a8 a9 (iw _) a10 (iw _) a11 (iw _) a12 (iw _) a13 (iw _) a14 (iw _) a15 (iw _) a16 (iw _) a17 (iw _) a18 a19 a20 c (qv m c)) Q) := by
  rw [k0_part17_eq_skeleton]; unfold k0_part17_skel att
  simp only [Prog.lift, Prog.bind_op, Prog.bind_ret, Prog.pure_eq_ret]
  iintro ⟨#HR, ⟨HO, Hk, Hv, Hc⟩⟩ Hcont
  iapply (wp_kvwait m K c true 3 8 3 4 rfl rfl (by decide) l hl (kvSem' true 3 _)) $$ [HO Hv]
  · isplitr; · iexact HR
    isplitl [HO]; · iexact HO
    iexact Hv
  iintro ⟨HO, Hv⟩
  iapply (wp_kvload m c false 3 8 4 (by decide)) $$ Hk; iintro Hk
  iapply (wp_kvload m c true 3 8 4 (by decide)) $$ Hv; iintro Hv
  iapply (wp_ctxload m c 12) $$ Hc; iintro %v590 Hc
  iapply (wp_ctxstore m c 0 3 12 13 rfl rfl rfl (tile_0_3 _ _ _)) $$ Hc; iintro Hc
  iapply wp_end
  iapply Hcont
  isplitl [HO]; · iexact HO
  isplitl [Hk]; · iexact Hk
  isplitl [Hv]; · iexact Hv
  iexact Hc

theorem part18  {Q : _ → sProp 𝕄} :
    iprop(recs m K ∗ att m c l 8 8 4 4 13) ⊢ iprop((iprop(att m c l 8 8 4 4 15) -∗ Q (k0_pay41 (k0_pay34 (qv m c))))
      -∗ WP c (k0_part18 (F := F) aX (iw _) aQ (iw _) aK (iw _) aV (iw _) aW (iw _) aY (iw _) a6 (iw _) a7 (iw _) a8 a9 (iw _) a10 (iw _) a11 (iw _) a12 (iw _) a13 (iw _) a14 (iw _) a15 (iw _) a16 (iw _) a17 (iw _) a18 a19 a20 (k0_pay32 (slabH c (kvA m c false) 3)) (k0_pay33 (slabH c (kvA m c true) 3)) (k0_pay34 (qv m c)) (k0_pay36 (qv m c)) (k0_pay37 (slabH c (kvA m c false) 3)) (k0_pay38 (slabH c (kvA m c true) 3))) Q) := by
  rw [k0_part18_eq_skeleton]; unfold k0_part18_skel att
  simp only [Prog.lift, Prog.bind_op, Prog.bind_ret, Prog.pure_eq_ret]
  iintro ⟨#HR, ⟨HO, Hk, Hv, Hc⟩⟩ Hcont
  iapply (wp_ctxload m c 13) $$ Hc; iintro %v615 Hc
  iapply (wp_ctxstore m c 1 3 13 14 rfl rfl rfl (tile_1_3 _ _ _)) $$ Hc; iintro Hc
  iapply (wp_ctxload m c 14) $$ Hc; iintro %v640 Hc
  iapply (wp_ctxstore m c 2 3 14 15 rfl rfl rfl (tile_2_3 _ _ _)) $$ Hc; iintro Hc
  iapply wp_end
  iapply Hcont
  isplitl [HO]; · iexact HO
  isplitl [Hk]; · iexact Hk
  isplitl [Hv]; · iexact Hv
  iexact Hc

theorem part19  {Q : _ → sProp 𝕄} :
    iprop(recs m K ∗ att m c l 8 8 4 4 15) ⊢ iprop((iprop(att m c l 8 8 5 4 16) -∗ Q ⟨⟩)
      -∗ WP c (k0_part19 (F := F) aX (iw _) aQ (iw _) aK (iw _) aV (iw _) aW (iw _) aY (iw _) a6 (iw _) a7 (iw _) a8 a9 (iw _) a10 (iw _) a11 (iw _) a12 (iw _) a13 (iw _) a14 (iw _) a15 (iw _) a16 (iw _) a17 (iw _) a18 a19 a20 c (k0_pay32 (slabH c (kvA m c false) 3)) (k0_pay33 (slabH c (kvA m c true) 3)) (k0_pay41 (k0_pay34 (qv m c)))) Q) := by
  rw [k0_part19_eq_skeleton]; unfold k0_part19_skel att
  simp only [Prog.lift, Prog.bind_op, Prog.bind_ret, Prog.pure_eq_ret]
  iintro ⟨#HR, ⟨HO, Hk, Hv, Hc⟩⟩ Hcont
  iapply (wp_ctxload m c 15) $$ Hc; iintro %v665 Hc
  iapply (wp_ctxstore m c 3 3 15 16 rfl rfl rfl (tile_3_3 _ _ _)) $$ Hc; iintro Hc
  iapply (wp_kvwait m K c false 4 8 4 5 rfl rfl (by decide) l hl (kvSem' false 4 _)) $$ [HO Hk]
  · isplitr; · iexact HR
    isplitl [HO]; · iexact HO
    iexact Hk
  iintro ⟨HO, Hk⟩
  iapply wp_end
  iapply Hcont
  isplitl [HO]; · iexact HO
  isplitl [Hk]; · iexact Hk
  isplitl [Hv]; · iexact Hv
  iexact Hc

theorem part20  {Q : _ → sProp 𝕄} :
    iprop(recs m K ∗ att m c l 8 8 5 4 16) ⊢ iprop((iprop(att m c l 8 8 5 5 17) -∗ Q ⟨k0_pay43 (slabH c (kvA m c false) 4), k0_pay44 (slabH c (kvA m c true) 4), k0_pay45 (qv m c), k0_pay47 (slabH c (kvA m c true) 4), k0_pay48 (qv m c) (slabH c (kvA m c false) 4)⟩)
      -∗ WP c (k0_part20 (F := F) aX (iw _) aQ (iw _) aK (iw _) aV (iw _) aW (iw _) aY (iw _) a6 (iw _) a7 (iw _) a8 a9 (iw _) a10 (iw _) a11 (iw _) a12 (iw _) a13 (iw _) a14 (iw _) a15 (iw _) a16 (iw _) a17 (iw _) a18 a19 a20 c (qv m c)) Q) := by
  rw [k0_part20_eq_skeleton]; unfold k0_part20_skel att
  simp only [Prog.lift, Prog.bind_op, Prog.bind_ret, Prog.pure_eq_ret]
  iintro ⟨#HR, ⟨HO, Hk, Hv, Hc⟩⟩ Hcont
  iapply (wp_kvwait m K c true 4 8 4 5 rfl rfl (by decide) l hl (kvSem' true 4 _)) $$ [HO Hv]
  · isplitr; · iexact HR
    isplitl [HO]; · iexact HO
    iexact Hv
  iintro ⟨HO, Hv⟩
  iapply (wp_kvload m c false 4 8 5 (by decide)) $$ Hk; iintro Hk
  iapply (wp_kvload m c true 4 8 5 (by decide)) $$ Hv; iintro Hv
  iapply (wp_ctxload m c 16) $$ Hc; iintro %v712 Hc
  iapply (wp_ctxstore m c 0 4 16 17 rfl rfl rfl (tile_0_4 _ _ _)) $$ Hc; iintro Hc
  iapply wp_end
  iapply Hcont
  isplitl [HO]; · iexact HO
  isplitl [Hk]; · iexact Hk
  isplitl [Hv]; · iexact Hv
  iexact Hc

theorem part21  {Q : _ → sProp 𝕄} :
    iprop(recs m K ∗ att m c l 8 8 5 5 17) ⊢ iprop((iprop(att m c l 8 8 5 5 19) -∗ Q ⟨k0_pay51 (k0_pay45 (qv m c)), k0_pay52 (k0_pay43 (slabH c (kvA m c false) 4))⟩)
      -∗ WP c (k0_part21 (F := F) aX (iw _) aQ (iw _) aK (iw _) aV (iw _) aW (iw _) aY (iw _) a6 (iw _) a7 (iw _) a8 a9 (iw _) a10 (iw _) a11 (iw _) a12 (iw _) a13 (iw _) a14 (iw _) a15 (iw _) a16 (iw _) a17 (iw _) a18 a19 a20 (k0_pay43 (slabH c (kvA m c false) 4)) (k0_pay44 (slabH c (kvA m c true) 4)) (k0_pay45 (qv m c)) (k0_pay47 (slabH c (kvA m c true) 4)) (k0_pay48 (qv m c) (slabH c (kvA m c false) 4))) Q) := by
  rw [k0_part21_eq_skeleton]; unfold k0_part21_skel att
  simp only [Prog.lift, Prog.bind_op, Prog.bind_ret, Prog.pure_eq_ret]
  iintro ⟨#HR, ⟨HO, Hk, Hv, Hc⟩⟩ Hcont
  iapply (wp_ctxload m c 17) $$ Hc; iintro %v737 Hc
  iapply (wp_ctxstore m c 1 4 17 18 rfl rfl rfl (tile_1_4 _ _ _)) $$ Hc; iintro Hc
  iapply (wp_ctxload m c 18) $$ Hc; iintro %v762 Hc
  iapply (wp_ctxstore m c 2 4 18 19 rfl rfl rfl (tile_2_4 _ _ _)) $$ Hc; iintro Hc
  iapply wp_end
  iapply Hcont
  isplitl [HO]; · iexact HO
  isplitl [Hk]; · iexact Hk
  isplitl [Hv]; · iexact Hv
  iexact Hc

theorem part22  {Q : _ → sProp 𝕄} :
    iprop(recs m K ∗ att m c l 8 8 5 5 19) ⊢ iprop((iprop(att m c l 8 8 6 6 20) -∗ Q ⟨⟩)
      -∗ WP c (k0_part22 (F := F) aX (iw _) aQ (iw _) aK (iw _) aV (iw _) aW (iw _) aY (iw _) a6 (iw _) a7 (iw _) a8 a9 (iw _) a10 (iw _) a11 (iw _) a12 (iw _) a13 (iw _) a14 (iw _) a15 (iw _) a16 (iw _) a17 (iw _) a18 a19 a20 c (k0_pay44 (slabH c (kvA m c true) 4)) (k0_pay51 (k0_pay45 (qv m c))) (k0_pay52 (k0_pay43 (slabH c (kvA m c false) 4)))) Q) := by
  rw [k0_part22_eq_skeleton]; unfold k0_part22_skel att
  simp only [Prog.lift, Prog.bind_op, Prog.bind_ret, Prog.pure_eq_ret]
  iintro ⟨#HR, ⟨HO, Hk, Hv, Hc⟩⟩ Hcont
  iapply (wp_ctxload m c 19) $$ Hc; iintro %v787 Hc
  iapply (wp_ctxstore m c 3 4 19 20 rfl rfl rfl (tile_3_4 _ _ _)) $$ Hc; iintro Hc
  iapply (wp_kvwait m K c false 5 8 5 6 rfl rfl (by decide) l hl (kvSem' false 5 _)) $$ [HO Hk]
  · isplitr; · iexact HR
    isplitl [HO]; · iexact HO
    iexact Hk
  iintro ⟨HO, Hk⟩
  iapply (wp_kvwait m K c true 5 8 5 6 rfl rfl (by decide) l hl (kvSem' true 5 _)) $$ [HO Hv]
  · isplitr; · iexact HR
    isplitl [HO]; · iexact HO
    iexact Hv
  iintro ⟨HO, Hv⟩
  iapply wp_end
  iapply Hcont
  isplitl [HO]; · iexact HO
  isplitl [Hk]; · iexact Hk
  isplitl [Hv]; · iexact Hv
  iexact Hc

theorem part23  {Q : _ → sProp 𝕄} :
    iprop(recs m K ∗ att m c l 8 8 6 6 20) ⊢ iprop((iprop(att m c l 8 8 6 6 21) -∗ Q ⟨k0_pay54 (slabH c (kvA m c false) 5), k0_pay55 (slabH c (kvA m c true) 5), k0_pay56 (qv m c), k0_pay58 (slabH c (kvA m c true) 5), k0_pay59 (qv m c) (slabH c (kvA m c false) 5), k0_pay60 (F := F)⟩)
      -∗ WP c (k0_part23 (F := F) aX (iw _) aQ (iw _) aK (iw _) aV (iw _) aW (iw _) aY (iw _) a6 (iw _) a7 (iw _) a8 a9 (iw _) a10 (iw _) a11 (iw _) a12 (iw _) a13 (iw _) a14 (iw _) a15 (iw _) a16 (iw _) a17 (iw _) a18 a19 a20 (qv m c)) Q) := by
  rw [k0_part23_eq_skeleton]; unfold k0_part23_skel att
  simp only [Prog.lift, Prog.bind_op, Prog.bind_ret, Prog.pure_eq_ret]
  iintro ⟨#HR, ⟨HO, Hk, Hv, Hc⟩⟩ Hcont
  iapply (wp_kvload m c false 5 8 6 (by decide)) $$ Hk; iintro Hk
  iapply (wp_kvload m c true 5 8 6 (by decide)) $$ Hv; iintro Hv
  iapply (wp_ctxload m c 20) $$ Hc; iintro %v834 Hc
  iapply (wp_ctxstore m c 0 5 20 21 rfl rfl rfl (tile_0_5 _ _ _)) $$ Hc; iintro Hc
  iapply wp_end
  iapply Hcont
  isplitl [HO]; · iexact HO
  isplitl [Hk]; · iexact Hk
  isplitl [Hv]; · iexact Hv
  iexact Hc

theorem part24  {Q : _ → sProp 𝕄} :
    iprop(recs m K ∗ att m c l 8 8 6 6 21) ⊢ iprop((iprop(att m c l 8 8 6 6 23) -∗ Q ⟨k0_pay63 (k0_pay56 (qv m c)), k0_pay64 (k0_pay54 (slabH c (kvA m c false) 5)), k0_pay65 (k0_pay55 (slabH c (kvA m c true) 5))⟩)
      -∗ WP c (k0_part24 (F := F) aX (iw _) aQ (iw _) aK (iw _) aV (iw _) aW (iw _) aY (iw _) a6 (iw _) a7 (iw _) a8 a9 (iw _) a10 (iw _) a11 (iw _) a12 (iw _) a13 (iw _) a14 (iw _) a15 (iw _) a16 (iw _) a17 (iw _) a18 a19 a20 (k0_pay54 (slabH c (kvA m c false) 5)) (k0_pay55 (slabH c (kvA m c true) 5)) (k0_pay56 (qv m c)) (k0_pay58 (slabH c (kvA m c true) 5)) (k0_pay59 (qv m c) (slabH c (kvA m c false) 5)) (k0_pay60 (F := F))) Q) := by
  rw [k0_part24_eq_skeleton]; unfold k0_part24_skel att
  simp only [Prog.lift, Prog.bind_op, Prog.bind_ret, Prog.pure_eq_ret]
  iintro ⟨#HR, ⟨HO, Hk, Hv, Hc⟩⟩ Hcont
  iapply (wp_ctxload m c 21) $$ Hc; iintro %v859 Hc
  iapply (wp_ctxstore m c 1 5 21 22 rfl rfl rfl (tile_1_5 _ _ _)) $$ Hc; iintro Hc
  iapply (wp_ctxload m c 22) $$ Hc; iintro %v884 Hc
  iapply (wp_ctxstore m c 2 5 22 23 rfl rfl rfl (tile_2_5 _ _ _)) $$ Hc; iintro Hc
  iapply wp_end
  iapply Hcont
  isplitl [HO]; · iexact HO
  isplitl [Hk]; · iexact Hk
  isplitl [Hv]; · iexact Hv
  iexact Hc

theorem part25  {Q : _ → sProp 𝕄} :
    iprop(recs m K ∗ att m c l 8 8 6 6 23) ⊢ iprop((iprop(att m c l 8 8 7 7 24) -∗ Q ⟨⟩)
      -∗ WP c (k0_part25 (F := F) aX (iw _) aQ (iw _) aK (iw _) aV (iw _) aW (iw _) aY (iw _) a6 (iw _) a7 (iw _) a8 a9 (iw _) a10 (iw _) a11 (iw _) a12 (iw _) a13 (iw _) a14 (iw _) a15 (iw _) a16 (iw _) a17 (iw _) a18 a19 a20 c (k0_pay63 (k0_pay56 (qv m c))) (k0_pay64 (k0_pay54 (slabH c (kvA m c false) 5))) (k0_pay65 (k0_pay55 (slabH c (kvA m c true) 5)))) Q) := by
  rw [k0_part25_eq_skeleton]; unfold k0_part25_skel att
  simp only [Prog.lift, Prog.bind_op, Prog.bind_ret, Prog.pure_eq_ret]
  iintro ⟨#HR, ⟨HO, Hk, Hv, Hc⟩⟩ Hcont
  iapply (wp_ctxload m c 23) $$ Hc; iintro %v909 Hc
  iapply (wp_ctxstore m c 3 5 23 24 rfl rfl rfl (tile_3_5 _ _ _)) $$ Hc; iintro Hc
  iapply (wp_kvwait m K c false 6 8 6 7 rfl rfl (by decide) l hl (kvSem' false 6 _)) $$ [HO Hk]
  · isplitr; · iexact HR
    isplitl [HO]; · iexact HO
    iexact Hk
  iintro ⟨HO, Hk⟩
  iapply (wp_kvwait m K c true 6 8 6 7 rfl rfl (by decide) l hl (kvSem' true 6 _)) $$ [HO Hv]
  · isplitr; · iexact HR
    isplitl [HO]; · iexact HO
    iexact Hv
  iintro ⟨HO, Hv⟩
  iapply wp_end
  iapply Hcont
  isplitl [HO]; · iexact HO
  isplitl [Hk]; · iexact Hk
  isplitl [Hv]; · iexact Hv
  iexact Hc

theorem part26  {Q : _ → sProp 𝕄} :
    iprop(recs m K ∗ att m c l 8 8 7 7 24) ⊢ iprop((iprop(att m c l 8 8 7 7 25) -∗ Q ⟨k0_pay67 (slabH c (kvA m c false) 6), k0_pay68 (slabH c (kvA m c true) 6), k0_pay69 (qv m c), k0_pay71 (slabH c (kvA m c true) 6), k0_pay72 (qv m c) (slabH c (kvA m c false) 6)⟩)
      -∗ WP c (k0_part26 (F := F) aX (iw _) aQ (iw _) aK (iw _) aV (iw _) aW (iw _) aY (iw _) a6 (iw _) a7 (iw _) a8 a9 (iw _) a10 (iw _) a11 (iw _) a12 (iw _) a13 (iw _) a14 (iw _) a15 (iw _) a16 (iw _) a17 (iw _) a18 a19 a20 (qv m c)) Q) := by
  rw [k0_part26_eq_skeleton]; unfold k0_part26_skel att
  simp only [Prog.lift, Prog.bind_op, Prog.bind_ret, Prog.pure_eq_ret]
  iintro ⟨#HR, ⟨HO, Hk, Hv, Hc⟩⟩ Hcont
  iapply (wp_kvload m c false 6 8 7 (by decide)) $$ Hk; iintro Hk
  iapply (wp_kvload m c true 6 8 7 (by decide)) $$ Hv; iintro Hv
  iapply (wp_ctxload m c 24) $$ Hc; iintro %v956 Hc
  iapply (wp_ctxstore m c 0 6 24 25 rfl rfl rfl (tile_0_6 _ _ _)) $$ Hc; iintro Hc
  iapply wp_end
  iapply Hcont
  isplitl [HO]; · iexact HO
  isplitl [Hk]; · iexact Hk
  isplitl [Hv]; · iexact Hv
  iexact Hc

theorem part27  {Q : _ → sProp 𝕄} :
    iprop(recs m K ∗ att m c l 8 8 7 7 25) ⊢ iprop((iprop(att m c l 8 8 7 7 27) -∗ Q ⟨k0_pay75 (k0_pay69 (qv m c)), k0_pay76 (k0_pay67 (slabH c (kvA m c false) 6)), k0_pay77 (k0_pay68 (slabH c (kvA m c true) 6))⟩)
      -∗ WP c (k0_part27 (F := F) aX (iw _) aQ (iw _) aK (iw _) aV (iw _) aW (iw _) aY (iw _) a6 (iw _) a7 (iw _) a8 a9 (iw _) a10 (iw _) a11 (iw _) a12 (iw _) a13 (iw _) a14 (iw _) a15 (iw _) a16 (iw _) a17 (iw _) a18 a19 a20 (k0_pay67 (slabH c (kvA m c false) 6)) (k0_pay68 (slabH c (kvA m c true) 6)) (k0_pay69 (qv m c)) (k0_pay71 (slabH c (kvA m c true) 6)) (k0_pay72 (qv m c) (slabH c (kvA m c false) 6))) Q) := by
  rw [k0_part27_eq_skeleton]; unfold k0_part27_skel att
  simp only [Prog.lift, Prog.bind_op, Prog.bind_ret, Prog.pure_eq_ret]
  iintro ⟨#HR, ⟨HO, Hk, Hv, Hc⟩⟩ Hcont
  iapply (wp_ctxload m c 25) $$ Hc; iintro %v981 Hc
  iapply (wp_ctxstore m c 1 6 25 26 rfl rfl rfl (tile_1_6 _ _ _)) $$ Hc; iintro Hc
  iapply (wp_ctxload m c 26) $$ Hc; iintro %v1006 Hc
  iapply (wp_ctxstore m c 2 6 26 27 rfl rfl rfl (tile_2_6 _ _ _)) $$ Hc; iintro Hc
  iapply wp_end
  iapply Hcont
  isplitl [HO]; · iexact HO
  isplitl [Hk]; · iexact Hk
  isplitl [Hv]; · iexact Hv
  iexact Hc

theorem part28  {Q : _ → sProp 𝕄} :
    iprop(recs m K ∗ att m c l 8 8 7 7 27) ⊢ iprop((iprop(att m c l 8 8 8 8 28) -∗ Q (slabH c (kvA m c false) 7))
      -∗ WP c (k0_part28 (F := F) aX (iw _) aQ (iw _) aK (iw _) aV (iw _) aW (iw _) aY (iw _) a6 (iw _) a7 (iw _) a8 a9 (iw _) a10 (iw _) a11 (iw _) a12 (iw _) a13 (iw _) a14 (iw _) a15 (iw _) a16 (iw _) a17 (iw _) a18 a19 a20 c (k0_pay75 (k0_pay69 (qv m c))) (k0_pay76 (k0_pay67 (slabH c (kvA m c false) 6))) (k0_pay77 (k0_pay68 (slabH c (kvA m c true) 6)))) Q) := by
  rw [k0_part28_eq_skeleton]; unfold k0_part28_skel att
  simp only [Prog.lift, Prog.bind_op, Prog.bind_ret, Prog.pure_eq_ret]
  iintro ⟨#HR, ⟨HO, Hk, Hv, Hc⟩⟩ Hcont
  iapply (wp_ctxload m c 27) $$ Hc; iintro %v1031 Hc
  iapply (wp_ctxstore m c 3 6 27 28 rfl rfl rfl (tile_3_6 _ _ _)) $$ Hc; iintro Hc
  iapply (wp_kvwait m K c false 7 8 7 8 rfl rfl (by decide) l hl (kvSem' false 7 _)) $$ [HO Hk]
  · isplitr; · iexact HR
    isplitl [HO]; · iexact HO
    iexact Hk
  iintro ⟨HO, Hk⟩
  iapply (wp_kvwait m K c true 7 8 7 8 rfl rfl (by decide) l hl (kvSem' true 7 _)) $$ [HO Hv]
  · isplitr; · iexact HR
    isplitl [HO]; · iexact HO
    iexact Hv
  iintro ⟨HO, Hv⟩
  iapply (wp_kvload m c false 7 8 8 (by decide)) $$ Hk; iintro Hk
  iapply wp_end
  iapply Hcont
  isplitl [HO]; · iexact HO
  isplitl [Hk]; · iexact Hk
  isplitl [Hv]; · iexact Hv
  iexact Hc

theorem part29  {Q : _ → sProp 𝕄} :
    iprop(recs m K ∗ att m c l 8 8 8 8 28) ⊢ iprop((iprop(att m c l 8 8 8 8 29) -∗ Q ⟨k0_pay79 (slabH c (kvA m c false) 7), k0_pay80 (slabH c (kvA m c true) 7), k0_pay81 (qv m c), k0_pay83 (slabH c (kvA m c true) 7), k0_pay84 (qv m c) (slabH c (kvA m c false) 7), k0_pay85 (qv m c) (slabH c (kvA m c false) 7)⟩)
      -∗ WP c (k0_part29 (F := F) aX (iw _) aQ (iw _) aK (iw _) aV (iw _) aW (iw _) aY (iw _) a6 (iw _) a7 (iw _) a8 a9 (iw _) a10 (iw _) a11 (iw _) a12 (iw _) a13 (iw _) a14 (iw _) a15 (iw _) a16 (iw _) a17 (iw _) a18 a19 a20 (qv m c) (slabH c (kvA m c false) 7)) Q) := by
  rw [k0_part29_eq_skeleton]; unfold k0_part29_skel att
  simp only [Prog.lift, Prog.bind_op, Prog.bind_ret, Prog.pure_eq_ret]
  iintro ⟨#HR, ⟨HO, Hk, Hv, Hc⟩⟩ Hcont
  iapply (wp_kvload m c true 7 8 8 (by decide)) $$ Hv; iintro Hv
  iapply (wp_ctxload m c 28) $$ Hc; iintro %v1078 Hc
  iapply (wp_ctxstore m c 0 7 28 29 rfl rfl rfl (tile_0_7 _ _ _)) $$ Hc; iintro Hc
  iapply wp_end
  iapply Hcont
  isplitl [HO]; · iexact HO
  isplitl [Hk]; · iexact Hk
  isplitl [Hv]; · iexact Hv
  iexact Hc

theorem part30  {Q : _ → sProp 𝕄} :
    iprop(recs m K ∗ att m c l 8 8 8 8 29) ⊢ iprop((iprop(att m c l 8 8 8 8 31) -∗ Q ⟨k0_pay88 (k0_pay80 (slabH c (kvA m c true) 7)), k0_pay89 (k0_pay79 (slabH c (kvA m c false) 7)) (k0_pay81 (qv m c))⟩)
      -∗ WP c (k0_part30 (F := F) aX (iw _) aQ (iw _) aK (iw _) aV (iw _) aW (iw _) aY (iw _) a6 (iw _) a7 (iw _) a8 a9 (iw _) a10 (iw _) a11 (iw _) a12 (iw _) a13 (iw _) a14 (iw _) a15 (iw _) a16 (iw _) a17 (iw _) a18 a19 a20 (k0_pay79 (slabH c (kvA m c false) 7)) (k0_pay80 (slabH c (kvA m c true) 7)) (k0_pay81 (qv m c)) (k0_pay83 (slabH c (kvA m c true) 7)) (k0_pay84 (qv m c) (slabH c (kvA m c false) 7)) (k0_pay85 (qv m c) (slabH c (kvA m c false) 7))) Q) := by
  rw [k0_part30_eq_skeleton]; unfold k0_part30_skel att
  simp only [Prog.lift, Prog.bind_op, Prog.bind_ret, Prog.pure_eq_ret]
  iintro ⟨#HR, ⟨HO, Hk, Hv, Hc⟩⟩ Hcont
  iapply (wp_ctxload m c 29) $$ Hc; iintro %v1103 Hc
  iapply (wp_ctxstore m c 1 7 29 30 rfl rfl rfl (tile_1_7 _ _ _)) $$ Hc; iintro Hc
  iapply (wp_ctxload m c 30) $$ Hc; iintro %v1128 Hc
  iapply (wp_ctxstore m c 2 7 30 31 rfl rfl rfl (tile_2_7 _ _ _)) $$ Hc; iintro Hc
  iapply wp_end
  iapply Hcont
  isplitl [HO]; · iexact HO
  isplitl [Hk]; · iexact Hk
  isplitl [Hv]; · iexact Hv
  iexact Hc

end Cert.KernelIdealRun

end
-- ==== Proof.Stage.lean ====
/- The body's parts from the barrier wait on: the partial products and the four stages. -/
module

public import proofs.«01_k».proof.Proof.StRules
public import proofs.«01_k».proof.Proof.Attn

@[expose] public section

noncomputable section

namespace Cert.KernelIdealRun
open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

variable (K : Dev nD × Cell → ℕ)

/-! ## Where the accesses lie -/

theorem set_s64 (j : Fin 4) {off : Fin 2 → ℕ} {inb} (h : off = ![64 * j.val, 0]) :
    ((Memref.whole cc0_scratch5 : Memref sig .tc .vmem S256x1024 .bf16).access (Rect.unit (s := S256x1024) off S64x1024.size inb)).set = s64 j := by
  subst h; exact (View.set_slice_whole _ _).trans (rect_s64 j _)
theorem sub_s64 (j : Fin 4) {off : Fin 2 → ℕ} {inb} (h : off = ![64 * j.val, 0]) :
    ((Memref.whole cc0_scratch5 : Memref sig .tc .vmem S256x1024 .bf16).access (Rect.unit (s := S256x1024) off S64x1024.size inb)).set ⊆ s64 j := (set_s64 j h).le
theorem set_sA (j : Fin 4) {off : Fin 3 → ℕ} {inb} (h : off = ![j.val, 0, 0]) :
    ((Memref.whole cc0_scratch6 : Memref sig .tc .vmem S4x64x1024 .bf16).access (Rect.unit (s := S4x64x1024) off S1x64x1024.size inb)).set = sA j := by
  subst h; exact (View.set_slice_whole _ _).trans (rect_sA j _)
theorem sub_sA (j : Fin 4) {off : Fin 3 → ℕ} {inb} (h : off = ![j.val, 0, 0]) :
    ((Memref.whole cc0_scratch6 : Memref sig .tc .vmem S4x64x1024 .bf16).access (Rect.unit (s := S4x64x1024) off S1x64x1024.size inb)).set ⊆ sA j := (set_sA j h).le
theorem set_s16_7 (j : Fin 4) {off : Fin 2 → ℕ} {inb} (h : off = ![16 * j.val, 0]) :
    ((Memref.whole cc0_scratch7 : Memref sig .tc .vmem S64x1024 .bf16).access (Rect.unit (s := S64x1024) off S16x1024.size inb)).set = s16 j := by
  subst h; exact (View.set_slice_whole _ _).trans (rect_s16 j _)
theorem sub_s16_7 (j : Fin 4) {off : Fin 2 → ℕ} {inb} (h : off = ![16 * j.val, 0]) :
    ((Memref.whole cc0_scratch7 : Memref sig .tc .vmem S64x1024 .bf16).access (Rect.unit (s := S64x1024) off S16x1024.size inb)).set ⊆ s16 j := (set_s16_7 j h).le
theorem set_sB (j : Fin 4) {off : Fin 3 → ℕ} {inb} (h : off = ![j.val, 0, 0]) :
    ((Memref.whole cc0_scratch8 : Memref sig .tc .vmem S4x16x1024 .bf16).access (Rect.unit (s := S4x16x1024) off S1x16x1024.size inb)).set = sB j := by
  subst h; exact (View.set_slice_whole _ _).trans (rect_sB j _)
theorem sub_sB (j : Fin 4) {off : Fin 3 → ℕ} {inb} (h : off = ![j.val, 0, 0]) :
    ((Memref.whole cc0_scratch8 : Memref sig .tc .vmem S4x16x1024 .bf16).access (Rect.unit (s := S4x16x1024) off S1x16x1024.size inb)).set ⊆ sB j := (set_sB j h).le
theorem set_s16_10 (j : Fin 4) {off : Fin 2 → ℕ} {inb} (h : off = ![16 * j.val, 0]) :
    ((Memref.whole cc0_scratch10 : Memref sig .tc .vmem S64x1024 .bf16).access (Rect.unit (s := S64x1024) off S16x1024.size inb)).set = s16 j := by
  subst h; exact (View.set_slice_whole _ _).trans (rect_s16 j _)
theorem sub_s16_10 (j : Fin 4) {off : Fin 2 → ℕ} {inb} (h : off = ![16 * j.val, 0]) :
    ((Memref.whole cc0_scratch10 : Memref sig .tc .vmem S64x1024 .bf16).access (Rect.unit (s := S64x1024) off S16x1024.size inb)).set ⊆ s16 j := (set_s16_10 j h).le
theorem set_s64_11 (j : Fin 4) {off : Fin 2 → ℕ} {inb} (h : off = ![64 * j.val, 0]) :
    ((Memref.whole cc0_scratch11 : Memref sig .tc .vmem S256x1024 .bf16).access (Rect.unit (s := S256x1024) off S64x1024.size inb)).set = s64 j := by
  subst h; exact (View.set_slice_whole _ _).trans (rect_s64 j _)
theorem sub_s64_11 (j : Fin 4) {off : Fin 2 → ℕ} {inb} (h : off = ![64 * j.val, 0]) :
    ((Memref.whole cc0_scratch11 : Memref sig .tc .vmem S256x1024 .bf16).access (Rect.unit (s := S256x1024) off S64x1024.size inb)).set ⊆ s64 j := (set_s64_11 j h).le
omit [FloatOps F] in
theorem full_7 {inb} (w : Vec F S64x1024 .bf16) (f) : (a13.access (Rect.unit (s := S64x1024) ![0, 0] S64x1024.size inb)).write (Elt F) f w Finset.univ = w :=
  Memref.write_access_unit_zero_univ (Elt F) cc0_scratch7 hz2 _ f w
omit [FloatOps F] in
theorem full_9 {inb} (w : Vec F S16x1024 .bf16) (f) : (a15.access (Rect.unit (s := S16x1024) ![0, 0] S16x1024.size inb)).write (Elt F) f w Finset.univ = w :=
  Memref.write_access_unit_zero_univ (Elt F) cc0_scratch9 hz2 _ f w
omit [FloatOps F] in
theorem full_Y {inb} (w : Vec F S1x256x1024 .f32) (f) : (aY.access (Rect.unit (s := S1x256x1024) ![0, 0, 0] S1x256x1024.size inb)).write (Elt F) f w Finset.univ = w :=
  Memref.write_access_unit_zero_univ (Elt F) cc0_stg3_0 hz3 _ f w
theorem tile_3_7 (q : FVec F S256x8x128 .bf16) (k v : Vec F S1x4096x128 .f32) : k0_pay90 (k0_pay88 (k0_pay80 v)) (k0_pay89 (k0_pay79 k) (k0_pay81 q)) = attnTile q k v 3 7 := rfl
abbrev b4 (c : Dev nD) : Loc nD τ sig := (c : Thread nD τ).loc cc0_scratch4

/-! ## The parts -/

variable (c : Dev nD)

theorem part31 (v3 : BitVec 32) {Q : _ → sProp 𝕄} :
    iprop(recs m K ∗ ctxTo m c 31 ∗ (bW c ↦{fullShare} woB m c) ∗ ow c (debtA c) ∗ atPos ER (kcell (c, .bar)) 0 ∅ 0 ∗ cred (tallyAt (kcell (c, .bar)) () 6) ∗ (∃ f, b4 c ↦{fullShare} f) ∗ (∃ f, b5 c ↦[s64 (pslot 0 c 0)]{fullShare} f))
      ⊢ iprop((∀ v1160 : BitVec 32, iprop((bW c ↦{fullShare} woB m c) ∗ ow c (debtA c) ∗ semVal (kcell (c, .bar)) 0 ∗ dstP (F := F) 0 (peer 0 c 0) (slot 0 c) ∗ dstP (F := F) 0 (peer 0 c 1) (slot 0 c) ∗ dstP (F := F) 0 (peer 0 c 2) (slot 0 c) ∗ dstP (F := F) 1 (peer 1 c 0) (slot 1 c) ∗ dstP (F := F) 1 (peer 1 c 1) (slot 1 c) ∗ dstP (F := F) 1 (peer 1 c 2) (slot 1 c) ∗ dstP (F := F) 2 (peer 2 c 0) (slot 2 c) ∗ dstP (F := F) 2 (peer 2 c 1) (slot 2 c) ∗ dstP (F := F) 2 (peer 2 c 2) (slot 2 c) ∗ dstP (F := F) 3 (peer 3 c 0) (slot 3 c) ∗ dstP (F := F) 3 (peer 3 c 1) (slot 3 c) ∗ dstP (F := F) 3 (peer 3 c 2) (slot 3 c) ∗ (b3 c ↦{fullShare} CTX m c) ∗ (∃ f, b4 c ↦{fullShare} f) ∗ sP m 0 c 0) -∗ Q ⟨k0_pay91 (woB m c), v1160⟩)
        -∗ WP c (k0_part31 (F := F) aX (iw _) aQ (iw _) aK (iw _) aV (iw _) aW (iw _) aY (iw _) a6 (iw _) a7 (iw _) a8 a9 (iw _) a10 (iw _) a11 (iw _) a12 (iw _) a13 (iw _) a14 (iw _) a15 (iw _) a16 (iw _) a17 (iw _) a18 a19 a20 c v3 (SemArray.scalar (sig.barrier 0 rfl)) (k0_pay88 (k0_pay80 (slabH c (kvA m c true) 7))) (k0_pay89 (k0_pay79 (slabH c (kvA m c false) 7)) (k0_pay81 (qv m c)))) Q) := by
  rw [k0_part31_eq_skeleton]; unfold k0_part31_skel
  simp only [semWaitWord, Prog.lift, Prog.bind_op, Prog.bind_ret, Prog.pure_eq_ret]
  iintro ⟨#HR, Hc, W, HO, PB, CB, P4, A0⟩ Hcont
  iapply (wp_ctxload m c 31) $$ Hc; iintro %v1153 Hc
  iapply (wp_ctxstore m c 3 7 31 32 rfl rfl rfl (tile_3_7 _ _ _)) $$ Hc; iintro Hc
  iapply (wp_ldXU c (mm := aW) fullShare (woB m c) (Memref.readAt_unit_zero (Elt F) cc0_stg2_0 hz2 _ _)) $$ W; iintro W
  iapply (wp_barWait m K c (debtA c) (lvl_A c 1 (by decide))) $$ [HO PB CB]
  · isplitr; · iexact HR
    isplitl [HO]; · iexact HO
    isplitl [PB]; · iexact PB
    iexact CB
  iintro ⟨HO, Zb, Hbar⟩
  ihave Hbar := (Entails.of_eq (barPay_all c)) $$ Hbar
  icases Hbar with ⟨⟨D00, D30⟩, ⟨D01, D31⟩, ⟨D02, D32⟩, ⟨D10, D20⟩, ⟨D11, D21⟩, ⟨D12, D22⟩⟩
  ihave C := (ctxTo_all m c) $$ Hc
  iapply (wp_ldXU c (mm := a9) fullShare (CTX m c) (read_CTX m c (pslot 0 c 0) (o2 c 0))) $$ C; iintro C
  iapply (wp_ldAnyU c (mm := a10)) $$ P4; iintro %v1167 P4
  iapply (wp_stAny c (mm := a10)) $$ P4; iintro P4
  iapply (wp_ldAny c (mm := a11) (s64 (pslot 0 c 0)) (sub_s64 (pslot 0 c 0) (o2 c 0))) $$ A0; iintro %v1173 A0
  iapply (wp_stX c (mm := a11) (s64 (pslot 0 c 0)) (PB m c) (set_s64 (pslot 0 c 0) (o2 c 0)) (pb_store m c (pslot 0 c 0) (o2 c 0) rfl)) $$ A0; iintro A0
  ihave S00 := (src_0 m c 0) $$ A0
  iapply wp_end
  iapply Hcont
  isplitl [W]; · iexact W
  isplitl [HO]; · iexact HO
  isplitl [Zb]; · iexact Zb
  isplitl [D00]; · iexact D00
  isplitl [D01]; · iexact D01
  isplitl [D02]; · iexact D02
  isplitl [D10]; · iexact D10
  isplitl [D11]; · iexact D11
  isplitl [D12]; · iexact D12
  isplitl [D20]; · iexact D20
  isplitl [D21]; · iexact D21
  isplitl [D22]; · iexact D22
  isplitl [D30]; · iexact D30
  isplitl [D31]; · iexact D31
  isplitl [D32]; · iexact D32
  isplitl [C]; · iexact C
  isplitl [P4]; · iexact P4
  iexact S00

theorem part32 (v3 : BitVec 32) (v20 : BitVec 32) (v1160 : BitVec 32) {Q : _ → sProp 𝕄} :
    iprop(recs m K ∗ ow c (debtA c) ∗ dutyTok ER (kcell (c, .s 0 0)) 0 dd ∗ dutyTok ER (kcell (peer 0 c 0, .r 0 (slot 0 c))) 0 dd ∗ sP m 0 c 0 ∗ dstP (F := F) 0 (peer 0 c 0) (slot 0 c) ∗ (b3 c ↦{fullShare} CTX m c) ∗ (∃ f, b4 c ↦{fullShare} f) ∗ (∃ f, b5 c ↦[s64 (pslot 0 c 1)]{fullShare} f))
      ⊢ iprop((iprop(ow c ((peer 0 c 1, .r 0 (slot 0 c)) :: (peer 0 c 2, .r 0 (slot 0 c)) :: debtB c) ∗ cred (tallyAt (kcell (c, .s 0 0)) () (NN 0)) ∗ (b3 c ↦{fullShare} CTX m c) ∗ (∃ f, b4 c ↦{fullShare} f) ∗ sP m 0 c 1) -∗ Q ⟨⟩)
        -∗ WP c (k0_part32 (F := F) aX (iw _) aQ (iw _) aK (iw _) aV (iw _) aW (iw _) aY (iw _) a6 (iw _) a7 (iw _) a8 a9 (iw _) a10 (iw _) a11 (iw _) a12 (iw _) a13 (iw _) a14 (iw _) a15 (iw _) a16 (iw _) a17 (iw _) a18 a19 a20 c v3 v20 (k0_pay91 (woB m c)) v1160) Q) := by
  rw [k0_part32_eq_skeleton]; unfold k0_part32_skel
  simp only [semWaitWord, Prog.lift, Prog.bind_op, Prog.bind_ret, Prog.pure_eq_ret]
  iintro ⟨#HR, HO, TS00, TR00, S00, D00, C, P4, A1⟩ Hcont
  ihave HO := (owe c (debtA_eq c)) $$ HO
  iapply (wp_sendA m K c _ 0 ((peer 0 c 1, .r 0 (slot 0 c)) :: (peer 0 c 2, .r 0 (slot 0 c)) :: debtB c) (dev7_eq c) (o5 c 0) (o4 c) (ssem 0 0 rfl) (rsem1_0 (slot 0 c) (o3 c))) $$ [HO TS00 TR00 S00 D00]
  · unfold sndPre
    isplitr; · iexact HR
    isplitl [HO]; · iexact HO
    isplitl [TS00]; · iexact TS00
    isplitl [TR00]; · iexact TR00
    isplitl [S00]; · iexact S00
    iexact D00
  iintro ⟨HO, CS00⟩
  iapply (wp_ldXU c (mm := a9) fullShare (CTX m c) (read_CTX m c (pslot 0 c 1) (o2 c 1))) $$ C; iintro C
  iapply (wp_ldAnyU c (mm := a10)) $$ P4; iintro %v1196 P4
  iapply (wp_stAny c (mm := a10)) $$ P4; iintro P4
  iapply (wp_ldAny c (mm := a11) (s64 (pslot 0 c 1)) (sub_s64 (pslot 0 c 1) (o2 c 1))) $$ A1; iintro %v1202 A1
  iapply (wp_stX c (mm := a11) (s64 (pslot 0 c 1)) (PB m c) (set_s64 (pslot 0 c 1) (o2 c 1)) (pb_store m c (pslot 0 c 1) (o2 c 1) (pay97 m c _))) $$ A1; iintro A1
  ihave S01 := (src_0 m c 1) $$ A1
  iapply wp_end
  iapply Hcont
  isplitl [HO]; · iexact HO
  isplitl [CS00]; · iexact CS00
  isplitl [C]; · iexact C
  isplitl [P4]; · iexact P4
  iexact S01

theorem part33 (v3 : BitVec 32) (v20 : BitVec 32) {Q : _ → sProp 𝕄} :
    iprop(recs m K ∗ ow c ((peer 0 c 1, .r 0 (slot 0 c)) :: (peer 0 c 2, .r 0 (slot 0 c)) :: debtB c) ∗ dutyTok ER (kcell (c, .s 0 1)) 0 dd ∗ dutyTok ER (kcell (peer 0 c 1, .r 0 (slot 0 c))) 0 dd ∗ sP m 0 c 1 ∗ dstP (F := F) 0 (peer 0 c 1) (slot 0 c) ∗ (b3 c ↦{fullShare} CTX m c) ∗ (∃ f, b4 c ↦{fullShare} f) ∗ (∃ f, b5 c ↦[s64 (pslot 0 c 2)]{fullShare} f) ∗ dutyTok ER (kcell (c, .s 0 2)) 0 dd ∗ dutyTok ER (kcell (peer 0 c 2, .r 0 (slot 0 c))) 0 dd ∗ dstP (F := F) 0 (peer 0 c 2) (slot 0 c))
      ⊢ iprop((iprop(ow c (debtB c) ∗ cred (tallyAt (kcell (c, .s 0 1)) () (NN 0)) ∗ (b3 c ↦{fullShare} CTX m c) ∗ (∃ f, b4 c ↦{fullShare} f) ∗ cred (tallyAt (kcell (c, .s 0 2)) () (NN 0))) -∗ Q (64#32))
        -∗ WP c (k0_part33 (F := F) aX (iw _) aQ (iw _) aK (iw _) aV (iw _) aW (iw _) aY (iw _) a6 (iw _) a7 (iw _) a8 a9 (iw _) a10 (iw _) a11 (iw _) a12 (iw _) a13 (iw _) a14 (iw _) a15 (iw _) a16 (iw _) a17 (iw _) a18 a19 a20 c v3 v20 (k0_pay91 (woB m c))) Q) := by
  rw [k0_part33_eq_skeleton]; unfold k0_part33_skel
  simp only [semWaitWord, Prog.lift, Prog.bind_op, Prog.bind_ret, Prog.pure_eq_ret]
  iintro ⟨#HR, HO, TS01, TR01, S01, D01, C, P4, A2, TS02, TR02, D02⟩ Hcont
  iapply (wp_sendA m K c _ 1 ((peer 0 c 2, .r 0 (slot 0 c)) :: debtB c) (dev8_eq c) (o5 c 1) (o4 c) (ssem 0 1 rfl) (rsem1_0 (slot 0 c) (o3 c))) $$ [HO TS01 TR01 S01 D01]
  · unfold sndPre
    isplitr; · iexact HR
    isplitl [HO]; · iexact HO
    isplitl [TS01]; · iexact TS01
    isplitl [TR01]; · iexact TR01
    isplitl [S01]; · iexact S01
    iexact D01
  iintro ⟨HO, CS01⟩
  iapply (wp_ldXU c (mm := a9) fullShare (CTX m c) (read_CTX m c (pslot 0 c 2) (o2 c 2))) $$ C; iintro C
  iapply (wp_ldAnyU c (mm := a10)) $$ P4; iintro %v1225 P4
  iapply (wp_stAny c (mm := a10)) $$ P4; iintro P4
  iapply (wp_ldAny c (mm := a11) (s64 (pslot 0 c 2)) (sub_s64 (pslot 0 c 2) (o2 c 2))) $$ A2; iintro %v1231 A2
  iapply (wp_stX c (mm := a11) (s64 (pslot 0 c 2)) (PB m c) (set_s64 (pslot 0 c 2) (o2 c 2)) (pb_store m c (pslot 0 c 2) (o2 c 2) (pay100 m c _))) $$ A2; iintro A2
  ihave S02 := (src_0 m c 2) $$ A2
  iapply (wp_sendA m K c _ 2 (debtB c) (dev9_eq c) (o5 c 2) (o4 c) (ssem 0 2 rfl) (rsem1_0 (slot 0 c) (o3 c))) $$ [HO TS02 TR02 S02 D02]
  · unfold sndPre
    isplitr; · iexact HR
    isplitl [HO]; · iexact HO
    isplitl [TS02]; · iexact TS02
    isplitl [TR02]; · iexact TR02
    isplitl [S02]; · iexact S02
    iexact D02
  iintro ⟨HO, CS02⟩
  iapply wp_end
  iapply Hcont
  isplitl [HO]; · iexact HO
  isplitl [CS01]; · iexact CS01
  isplitl [C]; · iexact C
  isplitl [P4]; · iexact P4
  iexact CS02

theorem part34 (v2 : BitVec 32) (v3 : BitVec 32) {Q : _ → sProp 𝕄} :
    iprop(recs m K ∗ (b3 c ↦{fullShare} CTX m c) ∗ (∃ f, b4 c ↦{fullShare} f) ∗ dstP (F := F) 0 c (slot 0 c) ∗ ow c (debtB c) ∗ atPos ER (kcell (c, .r 0 (pslot 0 c 0))) 0 ∅ 0 ∗ cred (tallyAt (kcell (c, .r 0 (pslot 0 c 0))) () (NN 0)))
      ⊢ iprop((iprop((b3 c ↦{fullShare} CTX m c) ∗ (∃ f, b4 c ↦{fullShare} f) ∗ rP m 0 c (slot 0 c) ∗ ow c (debtB c) ∗ semVal (kcell (c, .r 0 (pslot 0 c 0))) 0 ∗ rP m 0 c (pslot 0 c 0)) -∗ Q ⟨⟩)
        -∗ WP c (k0_part34 (F := F) aX (iw _) aQ (iw _) aK (iw _) aV (iw _) aW (iw _) aY (iw _) a6 (iw _) a7 (iw _) a8 a9 (iw _) a10 (iw _) a11 (iw _) a12 (iw _) a13 (iw _) a14 (iw _) a15 (iw _) a16 (iw _) a17 (iw _) a18 a19 a20 c v2 v3 (k0_pay91 (woB m c)) (64#32)) Q) := by
  rw [k0_part34_eq_skeleton]; unfold k0_part34_skel
  simp only [semWaitWord, Prog.lift, Prog.bind_op, Prog.bind_ret, Prog.pure_eq_ret]
  iintro ⟨#HR, C, P4, O0, HO, PR00, CR00⟩ Hcont
  iapply (wp_ldXU c (mm := a9) fullShare (CTX m c) (read_CTX m c (slot 0 c) (o6 c))) $$ C; iintro C
  iapply (wp_ldAnyU c (mm := a10)) $$ P4; iintro %v1252 P4
  iapply (wp_stAny c (mm := a10)) $$ P4; iintro P4
  ihave O0 := (dst_0 c (slot 0 c)) $$ O0
  iapply (wp_ldAny c (mm := a12) (sA (slot 0 c)) (sub_sA (slot 0 c) (o7 c))) $$ O0; iintro %v1258 O0
  iapply (wp_stX c (mm := a12) (sA (slot 0 c)) (BA m c) (set_sA (slot 0 c) (o7 c)) (ba_store m c (o7 c) (pay103 m c))) $$ O0; iintro O0
  ihave RO0 := (land_0 m c _) $$ O0
  iapply (wp_recvW m K c 0 (pslot 0 c 0) (pslot_ne 0 c 0) (debtB c) (lvl_B c _ (by decide)) (rsem1_0 (pslot 0 c 0) (o8 c 0)) NN_0.symm) $$ [HO PR00 CR00]
  · isplitr; · iexact HR
    isplitl [HO]; · iexact HO
    isplitl [PR00]; · iexact PR00
    iexact CR00
  iintro ⟨HO, ZR00, R00⟩
  iapply wp_end
  iapply Hcont
  isplitl [C]; · iexact C
  isplitl [P4]; · iexact P4
  isplitl [RO0]; · iexact RO0
  isplitl [HO]; · iexact HO
  isplitl [ZR00]; · iexact ZR00
  iexact R00

theorem part35 (v2 : BitVec 32) (v3 : BitVec 32) {Q : _ → sProp 𝕄} :
    iprop(recs m K ∗ ow c (debtB c) ∗ atPos ER (kcell (c, .r 0 (pslot 0 c 1))) 0 ∅ 0 ∗ cred (tallyAt (kcell (c, .r 0 (pslot 0 c 1))) () (NN 0)) ∗ atPos ER (kcell (c, .r 0 (pslot 0 c 2))) 0 ∅ 0 ∗ cred (tallyAt (kcell (c, .r 0 (pslot 0 c 2))) () (NN 0)) ∗ rP m 0 c (slot 0 c) ∗ rP m 0 c (pslot 0 c 0) ∗ atPos ER (kcell (c, .s 0 0)) 0 ∅ 0 ∗ cred (tallyAt (kcell (c, .s 0 0)) () (NN 0)) ∗ atPos ER (kcell (c, .s 0 1)) 0 ∅ 0 ∗ cred (tallyAt (kcell (c, .s 0 1)) () (NN 0)) ∗ atPos ER (kcell (c, .s 0 2)) 0 ∅ 0 ∗ cred (tallyAt (kcell (c, .s 0 2)) () (NN 0)))
      ⊢ iprop((iprop(ow c (debtB c) ∗ semVal (kcell (c, .r 0 (pslot 0 c 1))) 0 ∗ semVal (kcell (c, .r 0 (pslot 0 c 2))) 0 ∗ (b6 c ↦{fullShare} BA m c) ∗ semVal (kcell (c, .s 0 0)) 0 ∗ sP m 0 c 0 ∗ semVal (kcell (c, .s 0 1)) 0 ∗ sP m 0 c 1 ∗ semVal (kcell (c, .s 0 2)) 0 ∗ sP m 0 c 2) -∗ Q (k0_pay104 (BA m c)))
        -∗ WP c (k0_part35 (F := F) aX (iw _) aQ (iw _) aK (iw _) aV (iw _) aW (iw _) aY (iw _) a6 (iw _) a7 (iw _) a8 a9 (iw _) a10 (iw _) a11 (iw _) a12 (iw _) a13 (iw _) a14 (iw _) a15 (iw _) a16 (iw _) a17 (iw _) a18 a19 a20 c v2 v3) Q) := by
  rw [k0_part35_eq_skeleton]; unfold k0_part35_skel
  simp only [semWaitWord, Prog.lift, Prog.bind_op, Prog.bind_ret, Prog.pure_eq_ret]
  iintro ⟨#HR, HO, PR01, CR01, PR02, CR02, RO0, R00, PS00, CS00, PS01, CS01, PS02, CS02⟩ Hcont
  iapply (wp_recvW m K c 0 (pslot 0 c 1) (pslot_ne 0 c 1) (debtB c) (lvl_B c _ (by decide)) (rsem1_0 (pslot 0 c 1) (o8 c 1)) NN_0.symm) $$ [HO PR01 CR01]
  · isplitr; · iexact HR
    isplitl [HO]; · iexact HO
    isplitl [PR01]; · iexact PR01
    iexact CR01
  iintro ⟨HO, ZR01, R01⟩
  iapply (wp_recvW m K c 0 (pslot 0 c 2) (pslot_ne 0 c 2) (debtB c) (lvl_B c _ (by decide)) (rsem1_0 (pslot 0 c 2) (o8 c 2)) NN_0.symm) $$ [HO PR02 CR02]
  · isplitr; · iexact HR
    isplitl [HO]; · iexact HO
    isplitl [PR02]; · iexact PR02
    iexact CR02
  iintro ⟨HO, ZR02, R02⟩
  ihave B6 := (joinA m c) $$ [RO0 R00 R01 R02]
  · isplitl [RO0]; · iexact RO0
    isplitl [R00]; · iexact R00
    isplitl [R01]; · iexact R01
    iexact R02
  iapply (wp_ldXU c (mm := a12) fullShare (BA m c) (Memref.readAt_unit_zero (Elt F) cc0_scratch6 hz3 _ _)) $$ B6; iintro B6
  iapply (wp_sendW m K c 0 0 (debtB c) (lvl_B c _ (by decide)) (ssem 0 0 rfl) NS_0.symm) $$ [HO PS00 CS00]
  · isplitr; · iexact HR
    isplitl [HO]; · iexact HO
    isplitl [PS00]; · iexact PS00
    iexact CS00
  iintro ⟨HO, ZS00, S00⟩
  iapply (wp_sendW m K c 0 1 (debtB c) (lvl_B c _ (by decide)) (ssem 0 1 rfl) NS_0.symm) $$ [HO PS01 CS01]
  · isplitr; · iexact HR
    isplitl [HO]; · iexact HO
    isplitl [PS01]; · iexact PS01
    iexact CS01
  iintro ⟨HO, ZS01, S01⟩
  iapply (wp_sendW m K c 0 2 (debtB c) (lvl_B c _ (by decide)) (ssem 0 2 rfl) NS_0.symm) $$ [HO PS02 CS02]
  · isplitr; · iexact HR
    isplitl [HO]; · iexact HO
    isplitl [PS02]; · iexact PS02
    iexact CS02
  iintro ⟨HO, ZS02, S02⟩
  iapply wp_end
  iapply Hcont
  isplitl [HO]; · iexact HO
  isplitl [ZR01]; · iexact ZR01
  isplitl [ZR02]; · iexact ZR02
  isplitl [B6]; · iexact B6
  isplitl [ZS00]; · iexact ZS00
  isplitl [S00]; · iexact S00
  isplitl [ZS01]; · iexact ZS01
  isplitl [S01]; · iexact S01
  isplitl [ZS02]; · iexact ZS02
  iexact S02

theorem part36 (v3 : BitVec 32) (v20 : BitVec 32) {Q : _ → sProp 𝕄} :
    iprop(recs m K ∗ (∃ f, b7 c ↦{fullShare} f) ∗ ow c (debtB c) ∗ dutyTok ER (kcell (c, .s 1 0)) 0 dd ∗ dutyTok ER (kcell (peer 1 c 0, .r 1 (slot 1 c))) 0 dd ∗ dstP (F := F) 1 (peer 1 c 0) (slot 1 c))
      ⊢ iprop((iprop(ow c ((peer 1 c 1, .r 1 (slot 1 c)) :: (peer 1 c 2, .r 1 (slot 1 c)) :: debtC c) ∗ (b7 c ↦[s16 (slot 1 c)]{fullShare} CS m c) ∗ sP m 1 c 1 ∗ sP m 1 c 2 ∗ cred (tallyAt (kcell (c, .s 1 0)) () (NN 1))) -∗ Q ⟨⟩)
        -∗ WP c (k0_part36 (F := F) aX (iw _) aQ (iw _) aK (iw _) aV (iw _) aW (iw _) aY (iw _) a6 (iw _) a7 (iw _) a8 a9 (iw _) a10 (iw _) a11 (iw _) a12 (iw _) a13 (iw _) a14 (iw _) a15 (iw _) a16 (iw _) a17 (iw _) a18 a19 a20 c v3 v20 (k0_pay104 (BA m c))) Q) := by
  rw [k0_part36_eq_skeleton]; unfold k0_part36_skel
  simp only [semWaitWord, Prog.lift, Prog.bind_op, Prog.bind_ret, Prog.pure_eq_ret]
  iintro ⟨#HR, B7, HO, TS10, TR10, D10⟩ Hcont
  iapply (wp_ldAnyU c (mm := a13)) $$ B7; iintro %v1307 B7
  iapply (wp_stW c (mm := a13) (CS m c) (full_7 (CS m c))) $$ B7; iintro B7
  ihave HO := (owe c (debtB_eq c)) $$ HO
  ihave B7 := (srcB m c).1 $$ B7
  icases B7 with ⟨O7, S10, S11, S12⟩
  iapply (wp_sendB m K c _ 0 ((peer 1 c 1, .r 1 (slot 1 c)) :: (peer 1 c 2, .r 1 (slot 1 c)) :: debtC c) (dev10_eq c) (o12 c 0) (o11 c) (ssem 1 0 rfl) (rsem1_1 (slot 1 c) (o10 c))) $$ [HO TS10 TR10 S10 D10]
  · unfold sndPre
    isplitr; · iexact HR
    isplitl [HO]; · iexact HO
    isplitl [TS10]; · iexact TS10
    isplitl [TR10]; · iexact TR10
    isplitl [S10]; · iexact S10
    iexact D10
  iintro ⟨HO, CS10⟩
  iapply wp_end
  iapply Hcont
  isplitl [HO]; · iexact HO
  isplitl [O7]; · iexact O7
  isplitl [S11]; · iexact S11
  isplitl [S12]; · iexact S12
  iexact CS10

theorem part37 (v2 : BitVec 32) (v3 : BitVec 32) (v20 : BitVec 32) {Q : _ → sProp 𝕄} :
    iprop(recs m K ∗ ow c ((peer 1 c 1, .r 1 (slot 1 c)) :: (peer 1 c 2, .r 1 (slot 1 c)) :: debtC c) ∗ dutyTok ER (kcell (c, .s 1 1)) 0 dd ∗ dutyTok ER (kcell (peer 1 c 1, .r 1 (slot 1 c))) 0 dd ∗ sP m 1 c 1 ∗ dstP (F := F) 1 (peer 1 c 1) (slot 1 c) ∗ dutyTok ER (kcell (c, .s 1 2)) 0 dd ∗ dutyTok ER (kcell (peer 1 c 2, .r 1 (slot 1 c))) 0 dd ∗ sP m 1 c 2 ∗ dstP (F := F) 1 (peer 1 c 2) (slot 1 c) ∗ (b7 c ↦[s16 (slot 1 c)]{fullShare} CS m c) ∗ dstP (F := F) 1 c (slot 1 c))
      ⊢ iprop((iprop(ow c (debtC c) ∗ cred (tallyAt (kcell (c, .s 1 1)) () (NN 1)) ∗ cred (tallyAt (kcell (c, .s 1 2)) () (NN 1)) ∗ (b7 c ↦[s16 (slot 1 c)]{fullShare} CS m c) ∗ rP m 1 c (slot 1 c)) -∗ Q ⟨⟩)
        -∗ WP c (k0_part37 (F := F) aX (iw _) aQ (iw _) aK (iw _) aV (iw _) aW (iw _) aY (iw _) a6 (iw _) a7 (iw _) a8 a9 (iw _) a10 (iw _) a11 (iw _) a12 (iw _) a13 (iw _) a14 (iw _) a15 (iw _) a16 (iw _) a17 (iw _) a18 a19 a20 c v2 v3 v20) Q) := by
  rw [k0_part37_eq_skeleton]; unfold k0_part37_skel
  simp only [semWaitWord, Prog.lift, Prog.bind_op, Prog.bind_ret, Prog.pure_eq_ret]
  iintro ⟨#HR, HO, TS11, TR11, S11, D11, TS12, TR12, S12, D12, O7, O1⟩ Hcont
  iapply (wp_sendB m K c _ 1 ((peer 1 c 2, .r 1 (slot 1 c)) :: debtC c) (dev11_eq c) (o12 c 1) (o11 c) (ssem 1 1 rfl) (rsem1_1 (slot 1 c) (o10 c))) $$ [HO TS11 TR11 S11 D11]
  · unfold sndPre
    isplitr; · iexact HR
    isplitl [HO]; · iexact HO
    isplitl [TS11]; · iexact TS11
    isplitl [TR11]; · iexact TR11
    isplitl [S11]; · iexact S11
    iexact D11
  iintro ⟨HO, CS11⟩
  iapply (wp_sendB m K c _ 2 (debtC c) (dev12_eq c) (o12 c 2) (o11 c) (ssem 1 2 rfl) (rsem1_1 (slot 1 c) (o10 c))) $$ [HO TS12 TR12 S12 D12]
  · unfold sndPre
    isplitr; · iexact HR
    isplitl [HO]; · iexact HO
    isplitl [TS12]; · iexact TS12
    isplitl [TR12]; · iexact TR12
    isplitl [S12]; · iexact S12
    iexact D12
  iintro ⟨HO, CS12⟩
  iapply (wp_ldX c (mm := a13) (s16 (slot 1 c)) fullShare (CS m c) (sub_s16_7 (slot 1 c) (o13 c)) (read_CS m c (slot 1 c) (o13 c))) $$ O7; iintro O7
  ihave O1 := (dst_1 c (slot 1 c)) $$ O1
  iapply (wp_ldAny c (mm := a14) (sB (slot 1 c)) (sub_sB (slot 1 c) (o14 c))) $$ O1; iintro %v1360 O1
  iapply (wp_stX c (mm := a14) (sB (slot 1 c)) (BB m c) (set_sB (slot 1 c) (o14 c)) (bb_store m c (o14 c) (pay106 m c))) $$ O1; iintro O1
  ihave RO1 := (land_1 m c _) $$ O1
  iapply wp_end
  iapply Hcont
  isplitl [HO]; · iexact HO
  isplitl [CS11]; · iexact CS11
  isplitl [CS12]; · iexact CS12
  isplitl [O7]; · iexact O7
  iexact RO1

theorem part38 (v2 : BitVec 32) (v20 : BitVec 32) {Q : _ → sProp 𝕄} :
    iprop(recs m K ∗ ow c (debtC c) ∗ atPos ER (kcell (c, .r 1 (pslot 1 c 0))) 0 ∅ 0 ∗ cred (tallyAt (kcell (c, .r 1 (pslot 1 c 0))) () (NN 1)) ∗ atPos ER (kcell (c, .r 1 (pslot 1 c 1))) 0 ∅ 0 ∗ cred (tallyAt (kcell (c, .r 1 (pslot 1 c 1))) () (NN 1)) ∗ atPos ER (kcell (c, .r 1 (pslot 1 c 2))) 0 ∅ 0 ∗ cred (tallyAt (kcell (c, .r 1 (pslot 1 c 2))) () (NN 1)) ∗ rP m 1 c (slot 1 c))
      ⊢ iprop((iprop(ow c (debtC c) ∗ semVal (kcell (c, .r 1 (pslot 1 c 0))) 0 ∗ semVal (kcell (c, .r 1 (pslot 1 c 1))) 0 ∗ semVal (kcell (c, .r 1 (pslot 1 c 2))) 0 ∗ (b8 c ↦{fullShare} BB m c)) -∗ Q (k0_pay107 (BB m c)))
        -∗ WP c (k0_part38 (F := F) aX (iw _) aQ (iw _) aK (iw _) aV (iw _) aW (iw _) aY (iw _) a6 (iw _) a7 (iw _) a8 a9 (iw _) a10 (iw _) a11 (iw _) a12 (iw _) a13 (iw _) a14 (iw _) a15 (iw _) a16 (iw _) a17 (iw _) a18 a19 a20 c v2 v20) Q) := by
  rw [k0_part38_eq_skeleton]; unfold k0_part38_skel
  simp only [semWaitWord, Prog.lift, Prog.bind_op, Prog.bind_ret, Prog.pure_eq_ret]
  iintro ⟨#HR, HO, PR10, CR10, PR11, CR11, PR12, CR12, RO1⟩ Hcont
  iapply (wp_recvW m K c 1 (pslot 1 c 0) (pslot_ne 1 c 0) (debtC c) (lvl_C c _ (by decide)) (rsem1_1 (pslot 1 c 0) (o15 c 0)) NN_1.symm) $$ [HO PR10 CR10]
  · isplitr; · iexact HR
    isplitl [HO]; · iexact HO
    isplitl [PR10]; · iexact PR10
    iexact CR10
  iintro ⟨HO, ZR10, R10⟩
  iapply (wp_recvW m K c 1 (pslot 1 c 1) (pslot_ne 1 c 1) (debtC c) (lvl_C c _ (by decide)) (rsem1_1 (pslot 1 c 1) (o15 c 1)) NN_1.symm) $$ [HO PR11 CR11]
  · isplitr; · iexact HR
    isplitl [HO]; · iexact HO
    isplitl [PR11]; · iexact PR11
    iexact CR11
  iintro ⟨HO, ZR11, R11⟩
  iapply (wp_recvW m K c 1 (pslot 1 c 2) (pslot_ne 1 c 2) (debtC c) (lvl_C c _ (by decide)) (rsem1_1 (pslot 1 c 2) (o15 c 2)) NN_1.symm) $$ [HO PR12 CR12]
  · isplitr; · iexact HR
    isplitl [HO]; · iexact HO
    isplitl [PR12]; · iexact PR12
    iexact CR12
  iintro ⟨HO, ZR12, R12⟩
  ihave B8 := (joinB m c) $$ [RO1 R10 R11 R12]
  · isplitl [RO1]; · iexact RO1
    isplitl [R10]; · iexact R10
    isplitl [R11]; · iexact R11
    iexact R12
  iapply (wp_ldXU c (mm := a14) fullShare (BB m c) (Memref.readAt_unit_zero (Elt F) cc0_scratch8 hz3 _ _)) $$ B8; iintro B8
  iapply wp_end
  iapply Hcont
  isplitl [HO]; · iexact HO
  isplitl [ZR10]; · iexact ZR10
  isplitl [ZR11]; · iexact ZR11
  isplitl [ZR12]; · iexact ZR12
  iexact B8

theorem part39 (v3 : BitVec 32) (v20 : BitVec 32) {Q : _ → sProp 𝕄} :
    iprop(recs m K ∗ ow c (debtC c) ∗ atPos ER (kcell (c, .s 1 0)) 0 ∅ 0 ∗ cred (tallyAt (kcell (c, .s 1 0)) () (NN 1)) ∗ atPos ER (kcell (c, .s 1 1)) 0 ∅ 0 ∗ cred (tallyAt (kcell (c, .s 1 1)) () (NN 1)) ∗ atPos ER (kcell (c, .s 1 2)) 0 ∅ 0 ∗ cred (tallyAt (kcell (c, .s 1 2)) () (NN 1)) ∗ (∃ f, b9 c ↦{fullShare} f) ∗ dutyTok ER (kcell (c, .s 2 0)) 0 dd ∗ dutyTok ER (kcell (peer 2 c 0, .r 2 (slot 2 c))) 0 dd ∗ dstP (F := F) 2 (peer 2 c 0) (slot 2 c))
      ⊢ iprop((∀ v1430 : BitVec 32, iprop(ow c ((peer 2 c 1, .r 2 (slot 2 c)) :: (peer 2 c 2, .r 2 (slot 2 c)) :: debtD c) ∗ semVal (kcell (c, .s 1 0)) 0 ∗ sP m 1 c 0 ∗ semVal (kcell (c, .s 1 1)) 0 ∗ sP m 1 c 1 ∗ semVal (kcell (c, .s 1 2)) 0 ∗ sP m 1 c 2 ∗ (b9 c ↦{Transfers.shareDrop fullShare 3} AG m c) ∗ sP m 2 c 1 ∗ sP m 2 c 2 ∗ cred (tallyAt (kcell (c, .s 2 0)) () (NN 2))) -∗ Q v1430)
        -∗ WP c (k0_part39 (F := F) aX (iw _) aQ (iw _) aK (iw _) aV (iw _) aW (iw _) aY (iw _) a6 (iw _) a7 (iw _) a8 a9 (iw _) a10 (iw _) a11 (iw _) a12 (iw _) a13 (iw _) a14 (iw _) a15 (iw _) a16 (iw _) a17 (iw _) a18 a19 a20 c v3 v20 (k0_pay107 (BB m c))) Q) := by
  rw [k0_part39_eq_skeleton]; unfold k0_part39_skel
  simp only [semWaitWord, Prog.lift, Prog.bind_op, Prog.bind_ret, Prog.pure_eq_ret]
  iintro ⟨#HR, HO, PS10, CS10, PS11, CS11, PS12, CS12, B9, TS20, TR20, D20⟩ Hcont
  iapply (wp_sendW m K c 1 0 (debtC c) (lvl_C c _ (by decide)) (ssem 1 0 rfl) NS_1.symm) $$ [HO PS10 CS10]
  · isplitr; · iexact HR
    isplitl [HO]; · iexact HO
    isplitl [PS10]; · iexact PS10
    iexact CS10
  iintro ⟨HO, ZS10, S10⟩
  iapply (wp_sendW m K c 1 1 (debtC c) (lvl_C c _ (by decide)) (ssem 1 1 rfl) NS_1.symm) $$ [HO PS11 CS11]
  · isplitr; · iexact HR
    isplitl [HO]; · iexact HO
    isplitl [PS11]; · iexact PS11
    iexact CS11
  iintro ⟨HO, ZS11, S11⟩
  iapply (wp_sendW m K c 1 2 (debtC c) (lvl_C c _ (by decide)) (ssem 1 2 rfl) NS_1.symm) $$ [HO PS12 CS12]
  · isplitr; · iexact HR
    isplitl [HO]; · iexact HO
    isplitl [PS12]; · iexact PS12
    iexact CS12
  iintro ⟨HO, ZS12, S12⟩
  iapply (wp_ldAnyU c (mm := a15)) $$ B9; iintro %v1412 B9
  iapply (wp_stW c (mm := a15) (AG m c) (full_9 (AG m c))) $$ B9; iintro B9
  ihave HO := (owe c (debtC_eq c)) $$ HO
  ihave B9 := (srcC m c).1 $$ B9
  icases B9 with ⟨G9, S20, S21, S22⟩
  iapply (wp_sendC m K c _ 0 ((peer 2 c 1, .r 2 (slot 2 c)) :: (peer 2 c 2, .r 2 (slot 2 c)) :: debtD c) (dev13_eq c) (o18 c) (ssem 2 0 rfl) (rsem2_0 (slot 2 c) (o17 c))) $$ [HO TS20 TR20 S20 D20]
  · unfold sndPre
    isplitr; · iexact HR
    isplitl [HO]; · iexact HO
    isplitl [TS20]; · iexact TS20
    isplitl [TR20]; · iexact TR20
    isplitl [S20]; · iexact S20
    iexact D20
  iintro ⟨HO, CS20⟩
  iapply wp_end
  iapply Hcont
  isplitl [HO]; · iexact HO
  isplitl [ZS10]; · iexact ZS10
  isplitl [S10]; · iexact S10
  isplitl [ZS11]; · iexact ZS11
  isplitl [S11]; · iexact S11
  isplitl [ZS12]; · iexact ZS12
  isplitl [S12]; · iexact S12
  isplitl [G9]; · iexact G9
  isplitl [S21]; · iexact S21
  isplitl [S22]; · iexact S22
  iexact CS20

theorem part40 (v2 : BitVec 32) (v3 : BitVec 32) (v20 : BitVec 32) (v1430 : BitVec 32) {Q : _ → sProp 𝕄} :
    iprop(recs m K ∗ ow c ((peer 2 c 1, .r 2 (slot 2 c)) :: (peer 2 c 2, .r 2 (slot 2 c)) :: debtD c) ∗ dutyTok ER (kcell (c, .s 2 1)) 0 dd ∗ dutyTok ER (kcell (peer 2 c 1, .r 2 (slot 2 c))) 0 dd ∗ sP m 2 c 1 ∗ dstP (F := F) 2 (peer 2 c 1) (slot 2 c) ∗ dutyTok ER (kcell (c, .s 2 2)) 0 dd ∗ dutyTok ER (kcell (peer 2 c 2, .r 2 (slot 2 c))) 0 dd ∗ sP m 2 c 2 ∗ dstP (F := F) 2 (peer 2 c 2) (slot 2 c) ∗ (b9 c ↦{Transfers.shareDrop fullShare 3} AG m c) ∗ dstP (F := F) 2 c (slot 2 c))
      ⊢ iprop((iprop(ow c (debtD c) ∗ cred (tallyAt (kcell (c, .s 2 1)) () (NN 2)) ∗ cred (tallyAt (kcell (c, .s 2 2)) () (NN 2)) ∗ (b9 c ↦{Transfers.shareDrop fullShare 3} AG m c) ∗ rP m 2 c (slot 2 c)) -∗ Q ⟨⟩)
        -∗ WP c (k0_part40 (F := F) aX (iw _) aQ (iw _) aK (iw _) aV (iw _) aW (iw _) aY (iw _) a6 (iw _) a7 (iw _) a8 a9 (iw _) a10 (iw _) a11 (iw _) a12 (iw _) a13 (iw _) a14 (iw _) a15 (iw _) a16 (iw _) a17 (iw _) a18 a19 a20 c v2 v3 v20 v1430) Q) := by
  rw [k0_part40_eq_skeleton]; unfold k0_part40_skel
  simp only [semWaitWord, Prog.lift, Prog.bind_op, Prog.bind_ret, Prog.pure_eq_ret]
  iintro ⟨#HR, HO, TS21, TR21, S21, D21, TS22, TR22, S22, D22, G9, O2⟩ Hcont
  iapply (wp_sendC m K c _ 1 ((peer 2 c 2, .r 2 (slot 2 c)) :: debtD c) (dev14_eq c) (o18 c) (ssem 2 1 rfl) (rsem2_0 (slot 2 c) (o17 c))) $$ [HO TS21 TR21 S21 D21]
  · unfold sndPre
    isplitr; · iexact HR
    isplitl [HO]; · iexact HO
    isplitl [TS21]; · iexact TS21
    isplitl [TR21]; · iexact TR21
    isplitl [S21]; · iexact S21
    iexact D21
  iintro ⟨HO, CS21⟩
  iapply (wp_sendC m K c _ 2 (debtD c) (dev15_eq c) (o18 c) (ssem 2 2 rfl) (rsem2_0 (slot 2 c) (o17 c))) $$ [HO TS22 TR22 S22 D22]
  · unfold sndPre
    isplitr; · iexact HR
    isplitl [HO]; · iexact HO
    isplitl [TS22]; · iexact TS22
    isplitl [TR22]; · iexact TR22
    isplitl [S22]; · iexact S22
    iexact D22
  iintro ⟨HO, CS22⟩
  iapply (wp_ldXU c (mm := a15) (Transfers.shareDrop fullShare 3) (AG m c) (Memref.readAt_unit_zero (Elt F) cc0_scratch9 hz2 _ _)) $$ G9; iintro G9
  ihave O2 := (dst_2 c (slot 2 c)) $$ O2
  iapply (wp_ldAny c (mm := a16) (s16 (slot 2 c)) (sub_s16_10 (slot 2 c) (o13' c))) $$ O2; iintro %v1454 O2
  iapply (wp_stX c (mm := a16) (s16 (slot 2 c)) (CB m c) (set_s16_10 (slot 2 c) (o13' c)) (cb_store m c (o13' c) (pay109 m c))) $$ O2; iintro O2
  ihave RO2 := (land_2 m c _) $$ O2
  iapply wp_end
  iapply Hcont
  isplitl [HO]; · iexact HO
  isplitl [CS21]; · iexact CS21
  isplitl [CS22]; · iexact CS22
  isplitl [G9]; · iexact G9
  iexact RO2

theorem part41 (v2 : BitVec 32) (v3 : BitVec 32) (v20 : BitVec 32) {Q : _ → sProp 𝕄} :
    iprop(recs m K ∗ ow c (debtD c) ∗ atPos ER (kcell (c, .r 2 (pslot 2 c 0))) 0 ∅ 0 ∗ cred (tallyAt (kcell (c, .r 2 (pslot 2 c 0))) () (NN 2)) ∗ atPos ER (kcell (c, .r 2 (pslot 2 c 1))) 0 ∅ 0 ∗ cred (tallyAt (kcell (c, .r 2 (pslot 2 c 1))) () (NN 2)) ∗ atPos ER (kcell (c, .r 2 (pslot 2 c 2))) 0 ∅ 0 ∗ cred (tallyAt (kcell (c, .r 2 (pslot 2 c 2))) () (NN 2)) ∗ atPos ER (kcell (c, .s 2 0)) 0 ∅ 0 ∗ cred (tallyAt (kcell (c, .s 2 0)) () (NN 2)) ∗ atPos ER (kcell (c, .s 2 1)) 0 ∅ 0 ∗ cred (tallyAt (kcell (c, .s 2 1)) () (NN 2)) ∗ atPos ER (kcell (c, .s 2 2)) 0 ∅ 0 ∗ cred (tallyAt (kcell (c, .s 2 2)) () (NN 2)))
      ⊢ iprop((∀ v1491 : BitVec 32, iprop(ow c (debtD c) ∗ semVal (kcell (c, .r 2 (pslot 2 c 0))) 0 ∗ rP m 2 c (pslot 2 c 0) ∗ semVal (kcell (c, .r 2 (pslot 2 c 1))) 0 ∗ rP m 2 c (pslot 2 c 1) ∗ semVal (kcell (c, .r 2 (pslot 2 c 2))) 0 ∗ rP m 2 c (pslot 2 c 2) ∗ semVal (kcell (c, .s 2 0)) 0 ∗ sP m 2 c 0 ∗ semVal (kcell (c, .s 2 1)) 0 ∗ sP m 2 c 1 ∗ semVal (kcell (c, .s 2 2)) 0 ∗ sP m 2 c 2) -∗ Q v1491)
        -∗ WP c (k0_part41 (F := F) aX (iw _) aQ (iw _) aK (iw _) aV (iw _) aW (iw _) aY (iw _) a6 (iw _) a7 (iw _) a8 a9 (iw _) a10 (iw _) a11 (iw _) a12 (iw _) a13 (iw _) a14 (iw _) a15 (iw _) a16 (iw _) a17 (iw _) a18 a19 a20 c v2 v3 v20) Q) := by
  rw [k0_part41_eq_skeleton]; unfold k0_part41_skel
  simp only [semWaitWord, Prog.lift, Prog.bind_op, Prog.bind_ret, Prog.pure_eq_ret]
  iintro ⟨#HR, HO, PR20, CR20, PR21, CR21, PR22, CR22, PS20, CS20, PS21, CS21, PS22, CS22⟩ Hcont
  iapply (wp_recvW m K c 2 (pslot 2 c 0) (pslot_ne 2 c 0) (debtD c) (lvl_D c _ (by decide)) (rsem2_0 (pslot 2 c 0) (o19 c 0)) NN_2.symm) $$ [HO PR20 CR20]
  · isplitr; · iexact HR
    isplitl [HO]; · iexact HO
    isplitl [PR20]; · iexact PR20
    iexact CR20
  iintro ⟨HO, ZR20, R20⟩
  iapply (wp_recvW m K c 2 (pslot 2 c 1) (pslot_ne 2 c 1) (debtD c) (lvl_D c _ (by decide)) (rsem2_0 (pslot 2 c 1) (o19 c 1)) NN_2.symm) $$ [HO PR21 CR21]
  · isplitr; · iexact HR
    isplitl [HO]; · iexact HO
    isplitl [PR21]; · iexact PR21
    iexact CR21
  iintro ⟨HO, ZR21, R21⟩
  iapply (wp_recvW m K c 2 (pslot 2 c 2) (pslot_ne 2 c 2) (debtD c) (lvl_D c _ (by decide)) (rsem2_0 (pslot 2 c 2) (o19 c 2)) NN_2.symm) $$ [HO PR22 CR22]
  · isplitr; · iexact HR
    isplitl [HO]; · iexact HO
    isplitl [PR22]; · iexact PR22
    iexact CR22
  iintro ⟨HO, ZR22, R22⟩
  iapply (wp_sendW m K c 2 0 (debtD c) (lvl_D c _ (by decide)) (ssem 2 0 rfl) NS_2.symm) $$ [HO PS20 CS20]
  · isplitr; · iexact HR
    isplitl [HO]; · iexact HO
    isplitl [PS20]; · iexact PS20
    iexact CS20
  iintro ⟨HO, ZS20, S20⟩
  iapply (wp_sendW m K c 2 1 (debtD c) (lvl_D c _ (by decide)) (ssem 2 1 rfl) NS_2.symm) $$ [HO PS21 CS21]
  · isplitr; · iexact HR
    isplitl [HO]; · iexact HO
    isplitl [PS21]; · iexact PS21
    iexact CS21
  iintro ⟨HO, ZS21, S21⟩
  iapply (wp_sendW m K c 2 2 (debtD c) (lvl_D c _ (by decide)) (ssem 2 2 rfl) NS_2.symm) $$ [HO PS22 CS22]
  · isplitr; · iexact HR
    isplitl [HO]; · iexact HO
    isplitl [PS22]; · iexact PS22
    iexact CS22
  iintro ⟨HO, ZS22, S22⟩
  iapply wp_end
  iapply Hcont
  isplitl [HO]; · iexact HO
  isplitl [ZR20]; · iexact ZR20
  isplitl [R20]; · iexact R20
  isplitl [ZR21]; · iexact ZR21
  isplitl [R21]; · iexact R21
  isplitl [ZR22]; · iexact ZR22
  isplitl [R22]; · iexact R22
  isplitl [ZS20]; · iexact ZS20
  isplitl [S20]; · iexact S20
  isplitl [ZS21]; · iexact ZS21
  isplitl [S21]; · iexact S21
  isplitl [ZS22]; · iexact ZS22
  iexact S22

theorem part42 (v3 : BitVec 32) (v20 : BitVec 32) (v1491 : BitVec 32) {Q : _ → sProp 𝕄} :
    iprop(recs m K ∗ ow c (debtD c) ∗ rP m 2 c (slot 2 c) ∗ rP m 2 c (pslot 2 c 0) ∗ rP m 2 c (pslot 2 c 1) ∗ rP m 2 c (pslot 2 c 2) ∗ dutyTok ER (kcell (c, .s 3 0)) 0 dd ∗ dutyTok ER (kcell (peer 3 c 0, .r 3 (slot 3 c))) 0 dd ∗ dstP (F := F) 3 (peer 3 c 0) (slot 3 c) ∗ dutyTok ER (kcell (c, .s 3 1)) 0 dd ∗ dutyTok ER (kcell (peer 3 c 1, .r 3 (slot 3 c))) 0 dd ∗ dstP (F := F) 3 (peer 3 c 1) (slot 3 c))
      ⊢ iprop((iprop(ow c ((peer 3 c 2, .r 3 (slot 3 c)) :: []) ∗ (b10 c ↦{Transfers.shareDrop fullShare 3} CB m c) ∗ sP m 3 c 2 ∗ cred (tallyAt (kcell (c, .s 3 0)) () (NN 3)) ∗ cred (tallyAt (kcell (c, .s 3 1)) () (NN 3))) -∗ Q ⟨⟩)
        -∗ WP c (k0_part42 (F := F) aX (iw _) aQ (iw _) aK (iw _) aV (iw _) aW (iw _) aY (iw _) a6 (iw _) a7 (iw _) a8 a9 (iw _) a10 (iw _) a11 (iw _) a12 (iw _) a13 (iw _) a14 (iw _) a15 (iw _) a16 (iw _) a17 (iw _) a18 a19 a20 c v3 v20 v1491) Q) := by
  rw [k0_part42_eq_skeleton]; unfold k0_part42_skel
  simp only [semWaitWord, Prog.lift, Prog.bind_op, Prog.bind_ret, Prog.pure_eq_ret]
  iintro ⟨#HR, HO, RO2, R20, R21, R22, TS30, TR30, D30, TS31, TR31, D31⟩ Hcont
  ihave HO := (owe c (debtD_eq c)) $$ HO
  ihave B10 := (joinC m c) $$ [RO2 R20 R21 R22]
  · isplitl [RO2]; · iexact RO2
    isplitl [R20]; · iexact R20
    isplitl [R21]; · iexact R21
    iexact R22
  ihave B10 := (srcD m c).1 $$ B10
  icases B10 with ⟨G10, S30, S31, S32⟩
  iapply (wp_sendD m K c _ 0 ((peer 3 c 1, .r 3 (slot 3 c)) :: (peer 3 c 2, .r 3 (slot 3 c)) :: []) (dev16_eq c) (o21 c) (ssem 3 0 rfl) (rsem2_1 (slot 3 c) (o20 c))) $$ [HO TS30 TR30 S30 D30]
  · unfold sndPre
    isplitr; · iexact HR
    isplitl [HO]; · iexact HO
    isplitl [TS30]; · iexact TS30
    isplitl [TR30]; · iexact TR30
    isplitl [S30]; · iexact S30
    iexact D30
  iintro ⟨HO, CS30⟩
  iapply (wp_sendD m K c _ 1 ((peer 3 c 2, .r 3 (slot 3 c)) :: []) (dev17_eq c) (o21 c) (ssem 3 1 rfl) (rsem2_1 (slot 3 c) (o20 c))) $$ [HO TS31 TR31 S31 D31]
  · unfold sndPre
    isplitr; · iexact HR
    isplitl [HO]; · iexact HO
    isplitl [TS31]; · iexact TS31
    isplitl [TR31]; · iexact TR31
    isplitl [S31]; · iexact S31
    iexact D31
  iintro ⟨HO, CS31⟩
  iapply wp_end
  iapply Hcont
  isplitl [HO]; · iexact HO
  isplitl [G10]; · iexact G10
  isplitl [S32]; · iexact S32
  isplitl [CS30]; · iexact CS30
  iexact CS31

theorem part43 (v2 : BitVec 32) (v3 : BitVec 32) {Q : _ → sProp 𝕄} :
    iprop(recs m K ∗ ow c ((peer 3 c 2, .r 3 (slot 3 c)) :: []) ∗ dutyTok ER (kcell (c, .s 3 2)) 0 dd ∗ dutyTok ER (kcell (peer 3 c 2, .r 3 (slot 3 c))) 0 dd ∗ sP m 3 c 2 ∗ dstP (F := F) 3 (peer 3 c 2) (slot 3 c) ∗ (b10 c ↦{Transfers.shareDrop fullShare 3} CB m c) ∗ dstP (F := F) 3 c (slot 3 c) ∗ atPos ER (kcell (c, .r 3 (pslot 3 c 0))) 0 ∅ 0 ∗ cred (tallyAt (kcell (c, .r 3 (pslot 3 c 0))) () (NN 3)) ∗ atPos ER (kcell (c, .r 3 (pslot 3 c 1))) 0 ∅ 0 ∗ cred (tallyAt (kcell (c, .r 3 (pslot 3 c 1))) () (NN 3)))
      ⊢ iprop((iprop(ow c [] ∗ cred (tallyAt (kcell (c, .s 3 2)) () (NN 3)) ∗ (b10 c ↦{Transfers.shareDrop fullShare 3} CB m c) ∗ rP m 3 c (slot 3 c) ∗ semVal (kcell (c, .r 3 (pslot 3 c 0))) 0 ∗ rP m 3 c (pslot 3 c 0) ∗ semVal (kcell (c, .r 3 (pslot 3 c 1))) 0 ∗ rP m 3 c (pslot 3 c 1)) -∗ Q (1#32))
        -∗ WP c (k0_part43 (F := F) aX (iw _) aQ (iw _) aK (iw _) aV (iw _) aW (iw _) aY (iw _) a6 (iw _) a7 (iw _) a8 a9 (iw _) a10 (iw _) a11 (iw _) a12 (iw _) a13 (iw _) a14 (iw _) a15 (iw _) a16 (iw _) a17 (iw _) a18 a19 a20 c v2 v3) Q) := by
  rw [k0_part43_eq_skeleton]; unfold k0_part43_skel
  simp only [semWaitWord, Prog.lift, Prog.bind_op, Prog.bind_ret, Prog.pure_eq_ret]
  iintro ⟨#HR, HO, TS32, TR32, S32, D32, G10, O3, PR30, CR30, PR31, CR31⟩ Hcont
  iapply (wp_sendD m K c _ 2 ([]) (dev18_eq c) (o21 c) (ssem 3 2 rfl) (rsem2_1 (slot 3 c) (o20 c))) $$ [HO TS32 TR32 S32 D32]
  · unfold sndPre
    isplitr; · iexact HR
    isplitl [HO]; · iexact HO
    isplitl [TS32]; · iexact TS32
    isplitl [TR32]; · iexact TR32
    isplitl [S32]; · iexact S32
    iexact D32
  iintro ⟨HO, CS32⟩
  iapply (wp_ldXU c (mm := a16) (Transfers.shareDrop fullShare 3) (CB m c) (Memref.readAt_unit_zero (Elt F) cc0_scratch10 hz2 _ _)) $$ G10; iintro G10
  ihave O3 := (dst_3 c (slot 3 c)) $$ O3
  iapply (wp_ldAny c (mm := a17) (s64 (slot 3 c)) (sub_s64_11 (slot 3 c) (o6' c))) $$ O3; iintro %v1532 O3
  iapply (wp_stX c (mm := a17) (s64 (slot 3 c)) (OB m c) (set_s64_11 (slot 3 c) (o6' c)) (ob_store m c (o6' c) (pay110 m c))) $$ O3; iintro O3
  ihave RO3 := (land_3 m c _) $$ O3
  iapply (wp_recvW m K c 3 (pslot 3 c 0) (pslot_ne 3 c 0) [] (lvl_nil _) (rsem2_1 (pslot 3 c 0) (o22 c 0)) NN_3.symm) $$ [HO PR30 CR30]
  · isplitr; · iexact HR
    isplitl [HO]; · iexact HO
    isplitl [PR30]; · iexact PR30
    iexact CR30
  iintro ⟨HO, ZR30, R30⟩
  iapply (wp_recvW m K c 3 (pslot 3 c 1) (pslot_ne 3 c 1) [] (lvl_nil _) (rsem2_1 (pslot 3 c 1) (o22 c 1)) NN_3.symm) $$ [HO PR31 CR31]
  · isplitr; · iexact HR
    isplitl [HO]; · iexact HO
    isplitl [PR31]; · iexact PR31
    iexact CR31
  iintro ⟨HO, ZR31, R31⟩
  iapply wp_end
  iapply Hcont
  isplitl [HO]; · iexact HO
  isplitl [CS32]; · iexact CS32
  isplitl [G10]; · iexact G10
  isplitl [RO3]; · iexact RO3
  isplitl [ZR30]; · iexact ZR30
  isplitl [R30]; · iexact R30
  isplitl [ZR31]; · iexact ZR31
  iexact R31

end Cert.KernelIdealRun

end
-- ==== Proof.Signal.lean ====
/- The six signals of the entry barrier, and what the body starts from and leaves. -/
module

public import proofs.«01_k».proof.Proof.Stage

@[expose] public section

noncomputable section

namespace Cert.KernelIdealRun
open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)
/-- The scratch, tokens and positions of the four stages. -/
def stStart (c : Dev nD) : sProp 𝕄 := iprop((bW c ↦{fullShare} woB m c) ∗ (∃ f, b4 c ↦{fullShare} f) ∗ atPos ER (kcell (c, .bar)) 0 ∅ 0 ∗ cred (tallyAt (kcell (c, .bar)) () 6) ∗ (∃ f, b5 c ↦[s64 (pslot 0 c 0)]{fullShare} f) ∗ (∃ f, b5 c ↦[s64 (pslot 0 c 1)]{fullShare} f) ∗ (∃ f, b5 c ↦[s64 (pslot 0 c 2)]{fullShare} f) ∗ dutyTok ER (kcell (c, .s 0 0)) 0 dd ∗ dutyTok ER (kcell (peer 0 c 0, .r 0 (slot 0 c))) 0 dd ∗ atPos ER (kcell (c, .s 0 0)) 0 ∅ 0 ∗ atPos ER (kcell (c, .r 0 (pslot 0 c 0))) 0 ∅ 0 ∗ cred (tallyAt (kcell (c, .r 0 (pslot 0 c 0))) () (NN 0)) ∗ dutyTok ER (kcell (c, .s 0 1)) 0 dd ∗ dutyTok ER (kcell (peer 0 c 1, .r 0 (slot 0 c))) 0 dd ∗ atPos ER (kcell (c, .s 0 1)) 0 ∅ 0 ∗ atPos ER (kcell (c, .r 0 (pslot 0 c 1))) 0 ∅ 0 ∗ cred (tallyAt (kcell (c, .r 0 (pslot 0 c 1))) () (NN 0)) ∗ dutyTok ER (kcell (c, .s 0 2)) 0 dd ∗ dutyTok ER (kcell (peer 0 c 2, .r 0 (slot 0 c))) 0 dd ∗ atPos ER (kcell (c, .s 0 2)) 0 ∅ 0 ∗ atPos ER (kcell (c, .r 0 (pslot 0 c 2))) 0 ∅ 0 ∗ cred (tallyAt (kcell (c, .r 0 (pslot 0 c 2))) () (NN 0)) ∗ dstP (F := F) 0 c (slot 0 c) ∗ dutyTok ER (kcell (c, .s 1 0)) 0 dd ∗ dutyTok ER (kcell (peer 1 c 0, .r 1 (slot 1 c))) 0 dd ∗ atPos ER (kcell (c, .s 1 0)) 0 ∅ 0 ∗ atPos ER (kcell (c, .r 1 (pslot 1 c 0))) 0 ∅ 0 ∗ cred (tallyAt (kcell (c, .r 1 (pslot 1 c 0))) () (NN 1)) ∗ dutyTok ER (kcell (c, .s 1 1)) 0 dd ∗ dutyTok ER (kcell (peer 1 c 1, .r 1 (slot 1 c))) 0 dd ∗ atPos ER (kcell (c, .s 1 1)) 0 ∅ 0 ∗ atPos ER (kcell (c, .r 1 (pslot 1 c 1))) 0 ∅ 0 ∗ cred (tallyAt (kcell (c, .r 1 (pslot 1 c 1))) () (NN 1)) ∗ dutyTok ER (kcell (c, .s 1 2)) 0 dd ∗ dutyTok ER (kcell (peer 1 c 2, .r 1 (slot 1 c))) 0 dd ∗ atPos ER (kcell (c, .s 1 2)) 0 ∅ 0 ∗ atPos ER (kcell (c, .r 1 (pslot 1 c 2))) 0 ∅ 0 ∗ cred (tallyAt (kcell (c, .r 1 (pslot 1 c 2))) () (NN 1)) ∗ dstP (F := F) 1 c (slot 1 c) ∗ dutyTok ER (kcell (c, .s 2 0)) 0 dd ∗ dutyTok ER (kcell (peer 2 c 0, .r 2 (slot 2 c))) 0 dd ∗ atPos ER (kcell (c, .s 2 0)) 0 ∅ 0 ∗ atPos ER (kcell (c, .r 2 (pslot 2 c 0))) 0 ∅ 0 ∗ cred (tallyAt (kcell (c, .r 2 (pslot 2 c 0))) () (NN 2)) ∗ dutyTok ER (kcell (c, .s 2 1)) 0 dd ∗ dutyTok ER (kcell (peer 2 c 1, .r 2 (slot 2 c))) 0 dd ∗ atPos ER (kcell (c, .s 2 1)) 0 ∅ 0 ∗ atPos ER (kcell (c, .r 2 (pslot 2 c 1))) 0 ∅ 0 ∗ cred (tallyAt (kcell (c, .r 2 (pslot 2 c 1))) () (NN 2)) ∗ dutyTok ER (kcell (c, .s 2 2)) 0 dd ∗ dutyTok ER (kcell (peer 2 c 2, .r 2 (slot 2 c))) 0 dd ∗ atPos ER (kcell (c, .s 2 2)) 0 ∅ 0 ∗ atPos ER (kcell (c, .r 2 (pslot 2 c 2))) 0 ∅ 0 ∗ cred (tallyAt (kcell (c, .r 2 (pslot 2 c 2))) () (NN 2)) ∗ dstP (F := F) 2 c (slot 2 c) ∗ dutyTok ER (kcell (c, .s 3 0)) 0 dd ∗ dutyTok ER (kcell (peer 3 c 0, .r 3 (slot 3 c))) 0 dd ∗ atPos ER (kcell (c, .s 3 0)) 0 ∅ 0 ∗ atPos ER (kcell (c, .r 3 (pslot 3 c 0))) 0 ∅ 0 ∗ cred (tallyAt (kcell (c, .r 3 (pslot 3 c 0))) () (NN 3)) ∗ dutyTok ER (kcell (c, .s 3 1)) 0 dd ∗ dutyTok ER (kcell (peer 3 c 1, .r 3 (slot 3 c))) 0 dd ∗ atPos ER (kcell (c, .s 3 1)) 0 ∅ 0 ∗ atPos ER (kcell (c, .r 3 (pslot 3 c 1))) 0 ∅ 0 ∗ cred (tallyAt (kcell (c, .r 3 (pslot 3 c 1))) () (NN 3)) ∗ dutyTok ER (kcell (c, .s 3 2)) 0 dd ∗ dutyTok ER (kcell (peer 3 c 2, .r 3 (slot 3 c))) 0 dd ∗ atPos ER (kcell (c, .s 3 2)) 0 ∅ 0 ∗ atPos ER (kcell (c, .r 3 (pslot 3 c 2))) 0 ∅ 0 ∗ cred (tallyAt (kcell (c, .r 3 (pslot 3 c 2))) () (NN 3)) ∗ dstP (F := F) 3 c (slot 3 c) ∗ (∃ f, b7 c ↦{fullShare} f) ∗ (∃ f, b9 c ↦{fullShare} f) ∗ (∃ f, bY c ↦{fullShare} f))

/-- The tokens and payments of the six barrier signals. -/
def sigStart (c : Dev nD) : sProp 𝕄 := iprop((dutyTok ER (kcell (peer (kst false) c 0, .bar)) 0 (false, opp 0) ∗ barPay (F := F) (peer (kst false) c 0) (false, opp 0)) ∗ (dutyTok ER (kcell (peer (kst true) c 0, .bar)) 0 (true, opp 0) ∗ barPay (F := F) (peer (kst true) c 0) (true, opp 0)) ∗ (dutyTok ER (kcell (peer (kst false) c 1, .bar)) 0 (false, opp 1) ∗ barPay (F := F) (peer (kst false) c 1) (false, opp 1)) ∗ (dutyTok ER (kcell (peer (kst true) c 1, .bar)) 0 (true, opp 1) ∗ barPay (F := F) (peer (kst true) c 1) (true, opp 1)) ∗ (dutyTok ER (kcell (peer (kst false) c 2, .bar)) 0 (false, opp 2) ∗ barPay (F := F) (peer (kst false) c 2) (false, opp 2)) ∗ (dutyTok ER (kcell (peer (kst true) c 2, .bar)) 0 (true, opp 2) ∗ barPay (F := F) (peer (kst true) c 2) (true, opp 2)))

/-- What the stages leave. -/
def stEnd (c : Dev nD) : sProp 𝕄 := iprop((bW c ↦{fullShare} woB m c) ∗ (∃ f, b4 c ↦{fullShare} f) ∗ (bY c ↦{fullShare} outB m c) ∗ semVal (kcell (c, .bar)) 0 ∗ (b3 c ↦{fullShare} CTX m c) ∗ semVal (kcell (c, .r 0 (pslot 0 c 0))) 0 ∗ semVal (kcell (c, .r 0 (pslot 0 c 1))) 0 ∗ semVal (kcell (c, .r 0 (pslot 0 c 2))) 0 ∗ (b6 c ↦{fullShare} BA m c) ∗ semVal (kcell (c, .s 0 0)) 0 ∗ sP m 0 c 0 ∗ semVal (kcell (c, .s 0 1)) 0 ∗ sP m 0 c 1 ∗ semVal (kcell (c, .s 0 2)) 0 ∗ sP m 0 c 2 ∗ (b7 c ↦[s16 (slot 1 c)]{fullShare} CS m c) ∗ semVal (kcell (c, .r 1 (pslot 1 c 0))) 0 ∗ semVal (kcell (c, .r 1 (pslot 1 c 1))) 0 ∗ semVal (kcell (c, .r 1 (pslot 1 c 2))) 0 ∗ (b8 c ↦{fullShare} BB m c) ∗ semVal (kcell (c, .s 1 0)) 0 ∗ sP m 1 c 0 ∗ semVal (kcell (c, .s 1 1)) 0 ∗ sP m 1 c 1 ∗ semVal (kcell (c, .s 1 2)) 0 ∗ sP m 1 c 2 ∗ (b9 c ↦{Transfers.shareDrop fullShare 3} AG m c) ∗ semVal (kcell (c, .r 2 (pslot 2 c 0))) 0 ∗ semVal (kcell (c, .r 2 (pslot 2 c 1))) 0 ∗ semVal (kcell (c, .r 2 (pslot 2 c 2))) 0 ∗ semVal (kcell (c, .s 2 0)) 0 ∗ sP m 2 c 0 ∗ semVal (kcell (c, .s 2 1)) 0 ∗ sP m 2 c 1 ∗ semVal (kcell (c, .s 2 2)) 0 ∗ sP m 2 c 2 ∗ (b10 c ↦{Transfers.shareDrop fullShare 3} CB m c) ∗ semVal (kcell (c, .r 3 (pslot 3 c 0))) 0 ∗ semVal (kcell (c, .r 3 (pslot 3 c 1))) 0 ∗ semVal (kcell (c, .r 3 (pslot 3 c 2))) 0 ∗ (b11 c ↦{fullShare} OB m c) ∗ semVal (kcell (c, .s 3 0)) 0 ∗ sP m 3 c 0 ∗ semVal (kcell (c, .s 3 1)) 0 ∗ sP m 3 c 1 ∗ semVal (kcell (c, .s 3 2)) 0 ∗ sP m 3 c 2)

variable (K : Dev nD × Cell → ℕ) (c : Dev nD)

theorem debt_eq : debt c = (peer 0 c 0, .bar) :: (peer 1 c 0, .bar) :: (peer 0 c 1, .bar) :: (peer 1 c 1, .bar) :: (peer 0 c 2, .bar) :: (peer 1 c 2, .bar) :: debtA c := rfl

theorem wp_seq {α β : Type} {p : Prog (TpuEff nD τ sig (Elt F) Λ₀ .tc) α} {k : α → Prog (TpuEff nD τ sig (Elt F) Λ₀ .tc) β} {Q : β → sProp 𝕄} :
    WP c p (fun x => WP c (k x) Q) ⊢ WP c (p >>= k) Q := Entails.of_eq (wp_bind _ _ _ _ _ _).symm

theorem part1 {Q : _ → sProp 𝕄} :
    iprop(recs m K ∗ ow c ((peer 0 c 0, .bar) :: (peer 1 c 0, .bar) :: (peer 0 c 1, .bar) :: (peer 1 c 1, .bar) :: (peer 0 c 2, .bar) :: (peer 1 c 2, .bar) :: debtA c) ∗ (dutyTok ER (kcell (peer (kst false) c 0, .bar)) 0 (false, opp 0) ∗ barPay (F := F) (peer (kst false) c 0) (false, opp 0)) ∗ (dutyTok ER (kcell (peer (kst true) c 0, .bar)) 0 (true, opp 0) ∗ barPay (F := F) (peer (kst true) c 0) (true, opp 0)))
      ⊢ iprop((∀ (v2 v3 v20 : BitVec 32), iprop(ow c ((peer 0 c 1, .bar) :: (peer 1 c 1, .bar) :: (peer 0 c 2, .bar) :: (peer 1 c 2, .bar) :: debtA c)) -∗ Q ⟨c, v2, v3, v20, SemArray.scalar (sig.barrier 0 rfl), 4#32⟩)
        -∗ WP c (k0_part1 (F := F) aX (iw _) aQ (iw _) aK (iw _) aV (iw _) aW (iw _) aY (iw _) a6 (iw _) a7 (iw _) a8 a9 (iw _) a10 (iw _) a11 (iw _) a12 (iw _) a13 (iw _) a14 (iw _) a15 (iw _) a16 (iw _) a17 (iw _) a18 a19 a20) Q) := by
  rw [k0_part1_eq_skeleton]; unfold k0_part1_skel
  simp only [semSignalWord, Prog.lift, Prog.bind_op, Prog.bind_ret, Prog.pure_eq_ret]
  iintro ⟨#HR, HO, ⟨T00, P00⟩, ⟨T10, P10⟩⟩ Hcont
  iapply (Entails.of_eq (wp_deviceId 𝒱₀ (c : Thread nD τ) none Set.univ).symm)
  iapply (wp_sig m K c _ false 0 (dev1_eq c) ((peer 1 c 0, .bar) :: (peer 0 c 1, .bar) :: (peer 1 c 1, .bar) :: (peer 0 c 2, .bar) :: (peer 1 c 2, .bar) :: debtA c)) $$ [HO T00 P00]
  · isplitr; · iexact HR
    isplitl [HO]; · iexact HO
    isplitl [T00]; · iexact T00
    iexact P00
  iintro HO
  iapply (wp_sig m K c _ true 0 (dev2_eq c) ((peer 0 c 1, .bar) :: (peer 1 c 1, .bar) :: (peer 0 c 2, .bar) :: (peer 1 c 2, .bar) :: debtA c)) $$ [HO T10 P10]
  · isplitr; · iexact HR
    isplitl [HO]; · iexact HO
    isplitl [T10]; · iexact T10
    iexact P10
  iintro HO
  iapply wp_end
  iapply Hcont
  iexact HO

theorem part2 (v2 v3 v20 : BitVec 32) {Q : _ → sProp 𝕄} :
    iprop(recs m K ∗ ow c ((peer 0 c 1, .bar) :: (peer 1 c 1, .bar) :: (peer 0 c 2, .bar) :: (peer 1 c 2, .bar) :: debtA c) ∗ (dutyTok ER (kcell (peer (kst false) c 1, .bar)) 0 (false, opp 1) ∗ barPay (F := F) (peer (kst false) c 1) (false, opp 1)) ∗ (dutyTok ER (kcell (peer (kst true) c 1, .bar)) 0 (true, opp 1) ∗ barPay (F := F) (peer (kst true) c 1) (true, opp 1)) ∗ (dutyTok ER (kcell (peer (kst false) c 2, .bar)) 0 (false, opp 2) ∗ barPay (F := F) (peer (kst false) c 2) (false, opp 2)) ∗ (dutyTok ER (kcell (peer (kst true) c 2, .bar)) 0 (true, opp 2) ∗ barPay (F := F) (peer (kst true) c 2) (true, opp 2)))
      ⊢ iprop((∀ (v58 : BitVec 32), iprop(ow c (debtA c)) -∗ Q v58)
        -∗ WP c (k0_part2 (F := F) aX (iw _) aQ (iw _) aK (iw _) aV (iw _) aW (iw _) aY (iw _) a6 (iw _) a7 (iw _) a8 a9 (iw _) a10 (iw _) a11 (iw _) a12 (iw _) a13 (iw _) a14 (iw _) a15 (iw _) a16 (iw _) a17 (iw _) a18 a19 a20 c v2 v3 v20 (SemArray.scalar (sig.barrier 0 rfl)) 4#32) Q) := by
  rw [k0_part2_eq_skeleton]; unfold k0_part2_skel
  simp only [semSignalWord, Prog.lift, Prog.bind_op, Prog.bind_ret, Prog.pure_eq_ret]
  iintro ⟨#HR, HO, ⟨T01, P01⟩, ⟨T11, P11⟩, ⟨T02, P02⟩, ⟨T12, P12⟩⟩ Hcont
  iapply (wp_sig m K c _ false 1 (dev3_eq c) ((peer 1 c 1, .bar) :: (peer 0 c 2, .bar) :: (peer 1 c 2, .bar) :: debtA c)) $$ [HO T01 P01]
  · isplitr; · iexact HR
    isplitl [HO]; · iexact HO
    isplitl [T01]; · iexact T01
    iexact P01
  iintro HO
  iapply (wp_sig m K c _ true 1 (dev4_eq c) ((peer 0 c 2, .bar) :: (peer 1 c 2, .bar) :: debtA c)) $$ [HO T11 P11]
  · isplitr; · iexact HR
    isplitl [HO]; · iexact HO
    isplitl [T11]; · iexact T11
    iexact P11
  iintro HO
  iapply (wp_sig m K c _ false 2 (dev5_eq c) ((peer 1 c 2, .bar) :: debtA c)) $$ [HO T02 P02]
  · isplitr; · iexact HR
    isplitl [HO]; · iexact HO
    isplitl [T02]; · iexact T02
    iexact P02
  iintro HO
  iapply (wp_sig m K c _ true 2 (dev6_eq c) (debtA c)) $$ [HO T12 P12]
  · isplitr; · iexact HR
    isplitl [HO]; · iexact HO
    isplitl [T12]; · iexact T12
    iexact P12
  iintro HO
  iapply wp_end
  iapply Hcont
  iexact HO

theorem att_intro (n n' w w' t : ℕ) : iprop(ow c (debtA c) ∗ kvSt m c false n w ∗ kvSt m c true n' w' ∗ ctxTo m c t) ⊢ att m c (debtA c) n n' w w' t := .rfl

end Cert.KernelIdealRun

end
-- ==== Proof.Chain.lean ====
/- The body from its first operation to its last. -/
module

public import proofs.«01_k».proof.Proof.Signal

@[expose] public section

noncomputable section

namespace Cert.KernelIdealRun
open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)
variable (K : Dev nD × Cell → ℕ) (c : Dev nD)

/-- The body on device `c`, from what the launch hands it to what it leaves. -/
theorem body_wp {Q : _ → sProp 𝕄} :
    iprop(recs m K ∗ ow c (debt c) ∗ sigStart c ∗ kvSt m c false 0 0 ∗ kvSt m c true 0 0 ∗ ctxTo m c 0 ∗ (bX c ↦{fullShare} xB m c) ∗ (bQ c ↦{fullShare} wqB m c) ∗ stStart m c)
      ⊢ iprop((iprop(ow c [] ∗ kvSt m c false 8 8 ∗ kvSt m c true 8 8 ∗ (bX c ↦{fullShare} xB m c) ∗ (bQ c ↦{fullShare} wqB m c) ∗ stEnd m c) -∗ Q ⟨⟩)
        -∗ WP c (cc0_body (F := F) aX (iw _) aQ (iw _) aK (iw _) aV (iw _) aW (iw _) aY (iw _) a6 (iw _) a7 (iw _) a8 a9 (iw _) a10 (iw _) a11 (iw _) a12 (iw _) a13 (iw _) a14 (iw _) a15 (iw _) a16 (iw _) a17 (iw _) a18 a19 a20) Q) := by
  rw [cc0_body_eq_skeleton]; unfold cc0_body_skel
  rw [k0_part44_eq_skeleton]; unfold k0_part44_skel
  simp only [Prog.lift, Prog.bind_op, Prog.bind_ret, Prog.pure_eq_ret]
  iintro ⟨#HR, HO, HS, Hk, Hv, Hc, X, Wq, HI⟩ Hcont
  ihave HO := (owe c (debt_eq c)) $$ HO
  unfold sigStart
  icases HS with ⟨H10, H11, H12, H13, H14, H15⟩
  iapply (wp_seq c)
  iapply (wp_seq c)
  iapply (part1 m K c) $$ [HO H10 H11]
  · isplitr; · iexact HR
    isplitl [HO]; · iexact HO
    isplitl [H10]; · iexact H10
    iexact H11
  iintro %v2 %v3 %v20 HO
  iapply (wp_seq c)
  iapply (part2 m K c v2 v3 v20) $$ [HO H12 H13 H14 H15]
  · isplitr; · iexact HR
    isplitl [HO]; · iexact HO
    isplitl [H12]; · iexact H12
    isplitl [H13]; · iexact H13
    isplitl [H14]; · iexact H14
    iexact H15
  iintro %v58 HO
  ihave HA := (att_intro m c 0 0 0 0 0) $$ [HO Hk Hv Hc]
  · isplitl [HO]; · iexact HO
    isplitl [Hk]; · iexact Hk
    isplitl [Hv]; · iexact Hv
    iexact Hc
  iapply (wp_seq c)
  iapply (part3 m K c (debtA c) (lvl_A c 0 (by decide)) v58) $$ [HA]
  · isplitr; · iexact HR
    iexact HA
  iintro HA
  iapply (wp_seq c)
  iapply (part4 m K c (debtA c) (lvl_A c 0 (by decide)) v58) $$ [HA]
  · isplitr; · iexact HR
    iexact HA
  iintro HA
  iapply (wp_seq c)
  iapply (part5 m K c (debtA c) (lvl_A c 0 (by decide)) v58) $$ [HA]
  · isplitr; · iexact HR
    iexact HA
  iintro HA
  iapply (wp_seq c)
  iapply (part6 m K c (debtA c) (lvl_A c 0 (by decide)) v58) $$ [HA]
  · isplitr; · iexact HR
    iexact HA
  iintro HA
  iapply (wp_seq c)
  iapply (part7 m K c (debtA c) (lvl_A c 0 (by decide))) $$ [HA X Wq]
  · isplitr; · iexact HR
    isplitl [HA]; · iexact HA
    isplitl [X]; · iexact X
    iexact Wq
  iintro ⟨HA, X, Wq⟩
  iapply (wp_seq c)
  iapply (part8 m K c (debtA c) (lvl_A c 0 (by decide))) $$ [HA]
  · isplitr; · iexact HR
    iexact HA
  iintro HA
  iapply (wp_seq c)
  iapply (part9 m K c (debtA c) (lvl_A c 0 (by decide))) $$ [HA]
  · isplitr; · iexact HR
    iexact HA
  iintro HA
  iapply (wp_seq c)
  iapply (part10 m K c (debtA c) (lvl_A c 0 (by decide))) $$ [HA]
  · isplitr; · iexact HR
    iexact HA
  iintro HA
  iapply (wp_seq c)
  iapply (part11 m K c (debtA c) (lvl_A c 0 (by decide))) $$ [HA]
  · isplitr; · iexact HR
    iexact HA
  iintro HA
  iapply (wp_seq c)
  iapply (part12 m K c (debtA c) (lvl_A c 0 (by decide))) $$ [HA]
  · isplitr; · iexact HR
    iexact HA
  iintro %v396 HA
  iapply (wp_seq c)
  iapply (part13 m K c (debtA c) (lvl_A c 0 (by decide)) v396) $$ [HA]
  · isplitr; · iexact HR
    iexact HA
  iintro HA
  iapply (wp_seq c)
  iapply (part14 m K c (debtA c) (lvl_A c 0 (by decide))) $$ [HA]
  · isplitr; · iexact HR
    iexact HA
  iintro HA
  iapply (wp_seq c)
  iapply (part15 m K c (debtA c) (lvl_A c 0 (by decide))) $$ [HA]
  · isplitr; · iexact HR
    iexact HA
  iintro HA
  iapply (wp_seq c)
  iapply (part16 m K c (debtA c) (lvl_A c 0 (by decide))) $$ [HA]
  · isplitr; · iexact HR
    iexact HA
  iintro HA
  iapply (wp_seq c)
  iapply (part17 m K c (debtA c) (lvl_A c 0 (by decide))) $$ [HA]
  · isplitr; · iexact HR
    iexact HA
  iintro HA
  iapply (wp_seq c)
  iapply (part18 m K c (debtA c) (lvl_A c 0 (by decide))) $$ [HA]
  · isplitr; · iexact HR
    iexact HA
  iintro HA
  iapply (wp_seq c)
  iapply (part19 m K c (debtA c) (lvl_A c 0 (by decide))) $$ [HA]
  · isplitr; · iexact HR
    iexact HA
  iintro HA
  iapply (wp_seq c)
  iapply (part20 m K c (debtA c) (lvl_A c 0 (by decide))) $$ [HA]
  · isplitr; · iexact HR
    iexact HA
  iintro HA
  iapply (wp_seq c)
  iapply (part21 m K c (debtA c) (lvl_A c 0 (by decide))) $$ [HA]
  · isplitr; · iexact HR
    iexact HA
  iintro HA
  iapply (wp_seq c)
  iapply (part22 m K c (debtA c) (lvl_A c 0 (by decide))) $$ [HA]
  · isplitr; · iexact HR
    iexact HA
  iintro HA
  iapply (wp_seq c)
  iapply (part23 m K c (debtA c) (lvl_A c 0 (by decide))) $$ [HA]
  · isplitr; · iexact HR
    iexact HA
  iintro HA
  iapply (wp_seq c)
  iapply (part24 m K c (debtA c) (lvl_A c 0 (by decide))) $$ [HA]
  · isplitr; · iexact HR
    iexact HA
  iintro HA
  iapply (wp_seq c)
  iapply (part25 m K c (debtA c) (lvl_A c 0 (by decide))) $$ [HA]
  · isplitr; · iexact HR
    iexact HA
  iintro HA
  iapply (wp_seq c)
  iapply (part26 m K c (debtA c) (lvl_A c 0 (by decide))) $$ [HA]
  · isplitr; · iexact HR
    iexact HA
  iintro HA
  iapply (wp_seq c)
  iapply (part27 m K c (debtA c) (lvl_A c 0 (by decide))) $$ [HA]
  · isplitr; · iexact HR
    iexact HA
  iintro HA
  iapply (wp_seq c)
  iapply (part28 m K c (debtA c) (lvl_A c 0 (by decide))) $$ [HA]
  · isplitr; · iexact HR
    iexact HA
  iintro HA
  iapply (wp_seq c)
  iapply (part29 m K c (debtA c) (lvl_A c 0 (by decide))) $$ [HA]
  · isplitr; · iexact HR
    iexact HA
  iintro HA
  iapply (wp_seq c)
  iapply (part30 m K c (debtA c) (lvl_A c 0 (by decide))) $$ [HA]
  · isplitr; · iexact HR
    iexact HA
  iintro HA
  unfold att stStart
  icases HA with ⟨HO, Hk, Hv, Hc⟩
  icases HI with ⟨W, P4, PB, CB, A0, A1, A2, TS00, TR00, PS00, PR00, CR00, TS01, TR01, PS01, PR01, CR01, TS02, TR02, PS02, PR02, CR02, O0, TS10, TR10, PS10, PR10, CR10, TS11, TR11, PS11, PR11, CR11, TS12, TR12, PS12, PR12, CR12, O1, TS20, TR20, PS20, PR20, CR20, TS21, TR21, PS21, PR21, CR21, TS22, TR22, PS22, PR22, CR22, O2, TS30, TR30, PS30, PR30, CR30, TS31, TR31, PS31, PR31, CR31, TS32, TR32, PS32, PR32, CR32, O3, B7, B9, Y⟩
  iapply (wp_seq c)
  iapply (part31 m K c _) $$ [Hc W HO PB CB P4 A0]
  · isplitr; · iexact HR
    isplitl [Hc]; · iexact Hc
    isplitl [W]; · iexact W
    isplitl [HO]; · iexact HO
    isplitl [PB]; · iexact PB
    isplitl [CB]; · iexact CB
    isplitl [P4]; · iexact P4
    iexact A0
  iintro %v1160 ⟨W, HO, Zb, D00, D01, D02, D10, D11, D12, D20, D21, D22, D30, D31, D32, C, P4, S00⟩
  iapply (wp_seq c)
  iapply (part32 m K c _ _ _) $$ [HO TS00 TR00 S00 D00 C P4 A1]
  · isplitr; · iexact HR
    isplitl [HO]; · iexact HO
    isplitl [TS00]; · iexact TS00
    isplitl [TR00]; · iexact TR00
    isplitl [S00]; · iexact S00
    isplitl [D00]; · iexact D00
    isplitl [C]; · iexact C
    isplitl [P4]; · iexact P4
    iexact A1
  iintro ⟨HO, CS00, C, P4, S01⟩
  iapply (wp_seq c)
  iapply (part33 m K c _ _) $$ [HO TS01 TR01 S01 D01 C P4 A2 TS02 TR02 D02]
  · isplitr; · iexact HR
    isplitl [HO]; · iexact HO
    isplitl [TS01]; · iexact TS01
    isplitl [TR01]; · iexact TR01
    isplitl [S01]; · iexact S01
    isplitl [D01]; · iexact D01
    isplitl [C]; · iexact C
    isplitl [P4]; · iexact P4
    isplitl [A2]; · iexact A2
    isplitl [TS02]; · iexact TS02
    isplitl [TR02]; · iexact TR02
    iexact D02
  iintro ⟨HO, CS01, C, P4, CS02⟩
  iapply (wp_seq c)
  iapply (part34 m K c _ _) $$ [C P4 O0 HO PR00 CR00]
  · isplitr; · iexact HR
    isplitl [C]; · iexact C
    isplitl [P4]; · iexact P4
    isplitl [O0]; · iexact O0
    isplitl [HO]; · iexact HO
    isplitl [PR00]; · iexact PR00
    iexact CR00
  iintro ⟨C, P4, RO0, HO, ZR00, R00⟩
  iapply (wp_seq c)
  iapply (part35 m K c _ _) $$ [HO PR01 CR01 PR02 CR02 RO0 R00 PS00 CS00 PS01 CS01 PS02 CS02]
  · isplitr; · iexact HR
    isplitl [HO]; · iexact HO
    isplitl [PR01]; · iexact PR01
    isplitl [CR01]; · iexact CR01
    isplitl [PR02]; · iexact PR02
    isplitl [CR02]; · iexact CR02
    isplitl [RO0]; · iexact RO0
    isplitl [R00]; · iexact R00
    isplitl [PS00]; · iexact PS00
    isplitl [CS00]; · iexact CS00
    isplitl [PS01]; · iexact PS01
    isplitl [CS01]; · iexact CS01
    isplitl [PS02]; · iexact PS02
    iexact CS02
  iintro ⟨HO, ZR01, ZR02, B6, ZS00, S00, ZS01, S01, ZS02, S02⟩
  iapply (wp_seq c)
  iapply (part36 m K c _ _) $$ [B7 HO TS10 TR10 D10]
  · isplitr; · iexact HR
    isplitl [B7]; · iexact B7
    isplitl [HO]; · iexact HO
    isplitl [TS10]; · iexact TS10
    isplitl [TR10]; · iexact TR10
    iexact D10
  iintro ⟨HO, O7, S11, S12, CS10⟩
  iapply (wp_seq c)
  iapply (part37 m K c _ _ _) $$ [HO TS11 TR11 S11 D11 TS12 TR12 S12 D12 O7 O1]
  · isplitr; · iexact HR
    isplitl [HO]; · iexact HO
    isplitl [TS11]; · iexact TS11
    isplitl [TR11]; · iexact TR11
    isplitl [S11]; · iexact S11
    isplitl [D11]; · iexact D11
    isplitl [TS12]; · iexact TS12
    isplitl [TR12]; · iexact TR12
    isplitl [S12]; · iexact S12
    isplitl [D12]; · iexact D12
    isplitl [O7]; · iexact O7
    iexact O1
  iintro ⟨HO, CS11, CS12, O7, RO1⟩
  iapply (wp_seq c)
  iapply (part38 m K c _ _) $$ [HO PR10 CR10 PR11 CR11 PR12 CR12 RO1]
  · isplitr; · iexact HR
    isplitl [HO]; · iexact HO
    isplitl [PR10]; · iexact PR10
    isplitl [CR10]; · iexact CR10
    isplitl [PR11]; · iexact PR11
    isplitl [CR11]; · iexact CR11
    isplitl [PR12]; · iexact PR12
    isplitl [CR12]; · iexact CR12
    iexact RO1
  iintro ⟨HO, ZR10, ZR11, ZR12, B8⟩
  iapply (wp_seq c)
  iapply (part39 m K c _ _) $$ [HO PS10 CS10 PS11 CS11 PS12 CS12 B9 TS20 TR20 D20]
  · isplitr; · iexact HR
    isplitl [HO]; · iexact HO
    isplitl [PS10]; · iexact PS10
    isplitl [CS10]; · iexact CS10
    isplitl [PS11]; · iexact PS11
    isplitl [CS11]; · iexact CS11
    isplitl [PS12]; · iexact PS12
    isplitl [CS12]; · iexact CS12
    isplitl [B9]; · iexact B9
    isplitl [TS20]; · iexact TS20
    isplitl [TR20]; · iexact TR20
    iexact D20
  iintro %v1430 ⟨HO, ZS10, S10, ZS11, S11, ZS12, S12, G9, S21, S22, CS20⟩
  iapply (wp_seq c)
  iapply (part40 m K c _ _ _ _) $$ [HO TS21 TR21 S21 D21 TS22 TR22 S22 D22 G9 O2]
  · isplitr; · iexact HR
    isplitl [HO]; · iexact HO
    isplitl [TS21]; · iexact TS21
    isplitl [TR21]; · iexact TR21
    isplitl [S21]; · iexact S21
    isplitl [D21]; · iexact D21
    isplitl [TS22]; · iexact TS22
    isplitl [TR22]; · iexact TR22
    isplitl [S22]; · iexact S22
    isplitl [D22]; · iexact D22
    isplitl [G9]; · iexact G9
    iexact O2
  iintro ⟨HO, CS21, CS22, G9, RO2⟩
  iapply (wp_seq c)
  iapply (part41 m K c _ _ _) $$ [HO PR20 CR20 PR21 CR21 PR22 CR22 PS20 CS20 PS21 CS21 PS22 CS22]
  · isplitr; · iexact HR
    isplitl [HO]; · iexact HO
    isplitl [PR20]; · iexact PR20
    isplitl [CR20]; · iexact CR20
    isplitl [PR21]; · iexact PR21
    isplitl [CR21]; · iexact CR21
    isplitl [PR22]; · iexact PR22
    isplitl [CR22]; · iexact CR22
    isplitl [PS20]; · iexact PS20
    isplitl [CS20]; · iexact CS20
    isplitl [PS21]; · iexact PS21
    isplitl [CS21]; · iexact CS21
    isplitl [PS22]; · iexact PS22
    iexact CS22
  iintro %v1491 ⟨HO, ZR20, R20, ZR21, R21, ZR22, R22, ZS20, S20, ZS21, S21, ZS22, S22⟩
  iapply (wp_seq c)
  iapply (part42 m K c _ _ _) $$ [HO RO2 R20 R21 R22 TS30 TR30 D30 TS31 TR31 D31]
  · isplitr; · iexact HR
    isplitl [HO]; · iexact HO
    isplitl [RO2]; · iexact RO2
    isplitl [R20]; · iexact R20
    isplitl [R21]; · iexact R21
    isplitl [R22]; · iexact R22
    isplitl [TS30]; · iexact TS30
    isplitl [TR30]; · iexact TR30
    isplitl [D30]; · iexact D30
    isplitl [TS31]; · iexact TS31
    isplitl [TR31]; · iexact TR31
    iexact D31
  iintro ⟨HO, G10, S32, CS30, CS31⟩
  iapply (wp_seq c)
  iapply (part43 m K c _ _) $$ [HO TS32 TR32 S32 D32 G10 O3 PR30 CR30 PR31 CR31]
  · isplitr; · iexact HR
    isplitl [HO]; · iexact HO
    isplitl [TS32]; · iexact TS32
    isplitl [TR32]; · iexact TR32
    isplitl [S32]; · iexact S32
    isplitl [D32]; · iexact D32
    isplitl [G10]; · iexact G10
    isplitl [O3]; · iexact O3
    isplitl [PR30]; · iexact PR30
    isplitl [CR30]; · iexact CR30
    isplitl [PR31]; · iexact PR31
    iexact CR31
  iintro ⟨HO, CS32, G10, RO3, ZR30, R30, ZR31, R31⟩
  iapply (wp_recvW m K c 3 (pslot 3 c 2) (pslot_ne 3 c 2) [] (lvl_nil _) (rsem2_1 (pslot 3 c 2) (o22 c 2)) NN_3.symm) $$ [HO PR32 CR32]
  · isplitr; · iexact HR
    isplitl [HO]; · iexact HO
    isplitl [PR32]; · iexact PR32
    iexact CR32
  iintro ⟨HO, ZR32, R32⟩
  ihave B11 := (joinD m c) $$ [RO3 R30 R31 R32]
  · isplitl [RO3]; · iexact RO3
    isplitl [R30]; · iexact R30
    isplitl [R31]; · iexact R31
    iexact R32
  iapply (wp_ldXU c (mm := a17) fullShare (OB m c) (Memref.readAt_unit_zero (Elt F) cc0_scratch11 hz2 _ _)) $$ B11; iintro B11
  iapply (wp_ldAnyU c (mm := aY)) $$ Y; iintro %v1564 Y
  iapply wp_end
  iapply (wp_stW c (mm := aY) (outB m c) (full_Y (outB m c))) $$ Y; iintro Y
  iapply (wp_sendW m K c 3 0 [] (lvl_nil _) (ssem 3 0 rfl) NS_3.symm) $$ [HO PS30 CS30]
  · isplitr; · iexact HR
    isplitl [HO]; · iexact HO
    isplitl [PS30]; · iexact PS30
    iexact CS30
  iintro ⟨HO, ZS30, S30⟩
  iapply (wp_sendW m K c 3 1 [] (lvl_nil _) (ssem 3 1 rfl) NS_3.symm) $$ [HO PS31 CS31]
  · isplitr; · iexact HR
    isplitl [HO]; · iexact HO
    isplitl [PS31]; · iexact PS31
    iexact CS31
  iintro ⟨HO, ZS31, S31⟩
  iapply (wp_sendW m K c 3 2 [] (lvl_nil _) (ssem 3 2 rfl) NS_3.symm) $$ [HO PS32 CS32]
  · isplitr; · iexact HR
    isplitl [HO]; · iexact HO
    isplitl [PS32]; · iexact PS32
    iexact CS32
  iintro ⟨HO, ZS32, S32⟩
  iapply wp_end
  iapply Hcont
  unfold stEnd
  isplitl [HO]; · iexact HO
  isplitl [Hk]; · iexact Hk
  isplitl [Hv]; · iexact Hv
  isplitl [X]; · iexact X
  isplitl [Wq]; · iexact Wq
  isplitl [W]; · iexact W
  isplitl [P4]; · iexact P4
  isplitl [Y]; · iexact Y
  isplitl [Zb]; · iexact Zb
  isplitl [C]; · iexact C
  isplitl [ZR00]; · iexact ZR00
  isplitl [ZR01]; · iexact ZR01
  isplitl [ZR02]; · iexact ZR02
  isplitl [B6]; · iexact B6
  isplitl [ZS00]; · iexact ZS00
  isplitl [S00]; · iexact S00
  isplitl [ZS01]; · iexact ZS01
  isplitl [S01]; · iexact S01
  isplitl [ZS02]; · iexact ZS02
  isplitl [S02]; · iexact S02
  isplitl [O7]; · iexact O7
  isplitl [ZR10]; · iexact ZR10
  isplitl [ZR11]; · iexact ZR11
  isplitl [ZR12]; · iexact ZR12
  isplitl [B8]; · iexact B8
  isplitl [ZS10]; · iexact ZS10
  isplitl [S10]; · iexact S10
  isplitl [ZS11]; · iexact ZS11
  isplitl [S11]; · iexact S11
  isplitl [ZS12]; · iexact ZS12
  isplitl [S12]; · iexact S12
  isplitl [G9]; · iexact G9
  isplitl [ZR20]; · iexact ZR20
  isplitl [ZR21]; · iexact ZR21
  isplitl [ZR22]; · iexact ZR22
  isplitl [ZS20]; · iexact ZS20
  isplitl [S20]; · iexact S20
  isplitl [ZS21]; · iexact ZS21
  isplitl [S21]; · iexact S21
  isplitl [ZS22]; · iexact ZS22
  isplitl [S22]; · iexact S22
  isplitl [G10]; · iexact G10
  isplitl [ZR30]; · iexact ZR30
  isplitl [ZR31]; · iexact ZR31
  isplitl [ZR32]; · iexact ZR32
  isplitl [B11]; · iexact B11
  isplitl [ZS30]; · iexact ZS30
  isplitl [S30]; · iexact S30
  isplitl [ZS31]; · iexact ZS31
  isplitl [S31]; · iexact S31
  isplitl [ZS32]; · iexact ZS32
  iexact S32

end Cert.KernelIdealRun

end
-- ==== Proof.Deal.lean ====
/- What the launch deals a device and what it gets back, and the passage to the body's resources. -/
module

public import proofs.«01_k».proof.Proof.Chain

@[expose] public section

noncomputable section

namespace Cert.KernelIdealRun
open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

variable (c : Dev nD)

/-! ## Sums over the indices, written out -/

theorem fourL (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem cells_eq (Φ : Cell → sProp 𝕄) : bigSep Finset.univ Φ
    = iprop(Φ .bar ∗ bigSep Finset.univ (fun x : Fin 4 × Fin 3 => Φ (.s x.1 x.2)) ∗ bigSep Finset.univ (fun x : Fin 4 × Fin 4 => Φ (.r x.1 x.2))) := by
  rw [bigSep_univ_equiv Cell.equiv Φ, bigSep_univ_sum, bigSep_univ_sum]
  rw [show (bigSep Finset.univ fun a : Unit => Φ (Cell.equiv (.inl a))) = Φ .bar from bigSep_univ_eq_bigSepL [()] (by decide) (by decide) _]
  rfl
theorem s_flat (Φ : Fin 4 × Fin 3 → sProp 𝕄) : bigSep Finset.univ Φ
    = iprop((Φ (0, 0) ∗ Φ (0, 1) ∗ Φ (0, 2)) ∗ (Φ (1, 0) ∗ Φ (1, 1) ∗ Φ (1, 2)) ∗ (Φ (2, 0) ∗ Φ (2, 1) ∗ Φ (2, 2)) ∗ (Φ (3, 0) ∗ Φ (3, 1) ∗ Φ (3, 2))) := by
  rw [bigSep_univ_prod, fourL]; simp only [three]
theorem r_flat (Φ : Fin 4 × Fin 4 → sProp 𝕄) : bigSep Finset.univ Φ
    = iprop((Φ (0, slot 0 c) ∗ Φ (0, pslot 0 c 0) ∗ Φ (0, pslot 0 c 1) ∗ Φ (0, pslot 0 c 2)) ∗ (Φ (1, slot 1 c) ∗ Φ (1, pslot 1 c 0) ∗ Φ (1, pslot 1 c 1) ∗ Φ (1, pslot 1 c 2))
      ∗ (Φ (2, slot 2 c) ∗ Φ (2, pslot 2 c 0) ∗ Φ (2, pslot 2 c 1) ∗ Φ (2, pslot 2 c 2)) ∗ (Φ (3, slot 3 c) ∗ Φ (3, pslot 3 c 0) ∗ Φ (3, pslot 3 c 1) ∗ Φ (3, pslot 3 c 2))) := by
  rw [bigSep_univ_prod, fourL, four c 0, four c 1, four c 2, four c 3]
theorem six_flat (Φ : Bool × Fin 3 → sProp 𝕄) : bigSep Finset.univ Φ
    = iprop(Φ (false, 0) ∗ Φ (true, 0) ∗ Φ (false, 1) ∗ Φ (true, 1) ∗ Φ (false, 2) ∗ Φ (true, 2)) :=
  bigSep_univ_eq_bigSepL [(false, 0), (true, 0), (false, 1), (true, 1), (false, 2), (true, 2)] (by decide) (by decide) Φ
theorem cells_flat (Φ : Cell → sProp 𝕄) : bigSep Finset.univ Φ = iprop(Φ .bar
    ∗ ((Φ (.s 0 0) ∗ Φ (.s 0 1) ∗ Φ (.s 0 2)) ∗ (Φ (.s 1 0) ∗ Φ (.s 1 1) ∗ Φ (.s 1 2)) ∗ (Φ (.s 2 0) ∗ Φ (.s 2 1) ∗ Φ (.s 2 2)) ∗ (Φ (.s 3 0) ∗ Φ (.s 3 1) ∗ Φ (.s 3 2)))
    ∗ ((Φ (.r 0 (slot 0 c)) ∗ Φ (.r 0 (pslot 0 c 0)) ∗ Φ (.r 0 (pslot 0 c 1)) ∗ Φ (.r 0 (pslot 0 c 2))) ∗ (Φ (.r 1 (slot 1 c)) ∗ Φ (.r 1 (pslot 1 c 0)) ∗ Φ (.r 1 (pslot 1 c 1)) ∗ Φ (.r 1 (pslot 1 c 2)))
      ∗ (Φ (.r 2 (slot 2 c)) ∗ Φ (.r 2 (pslot 2 c 0)) ∗ Φ (.r 2 (pslot 2 c 1)) ∗ Φ (.r 2 (pslot 2 c 2))) ∗ (Φ (.r 3 (slot 3 c)) ∗ Φ (.r 3 (pslot 3 c 0)) ∗ Φ (.r 3 (pslot 3 c 1)) ∗ Φ (.r 3 (pslot 3 c 2))))) := by
  rw [cells_eq, s_flat, r_flat c]

/-! ## The payments a device makes -/

abbrev PayIx : Type := (Bool × Fin 3) ⊕ (Fin 4 × Fin 3) ⊕ (Fin 4 × Fin 3)

/-- The duty each payment of device `c` discharges. -/
def payCell (c : Dev nD) : PayIx → (Dev nD × Cell) × D
  | .inl x => ((peer (kst x.1) c x.2, .bar), (x.1, opp x.2))
  | .inr (.inl x) => ((c, .s x.1 x.2), dd)
  | .inr (.inr x) => ((peer x.1 c x.2, .r x.1 (slot x.1 c)), dd)

set_option maxRecDepth 10000 in
theorem peer_inj : ∀ (st : Fin 4) (c : Dev nD) (i j : Fin 3), peer st c i = peer st c j → i = j := by decide +kernel
theorem opp_inj {i j : Fin 3} (h : opp i = opp j) : i = j := (opp_opp i).symm.trans ((congrArg opp h).trans (opp_opp j))

theorem payCell_inj : Function.Injective (fun x : Dev nD × PayIx => payCell x.1 x.2) := by
  rintro ⟨c, p⟩ ⟨c', p'⟩ h
  have h : payCell c p = payCell c' p' := h
  rcases p with ⟨k, i⟩ | ⟨st, i⟩ | ⟨st, i⟩ <;> rcases p' with ⟨k', i'⟩ | ⟨st', i'⟩ | ⟨st', i'⟩ <;> unfold payCell at h <;> simp only [Prod.mk.injEq] at h
  · obtain ⟨⟨h1, -⟩, h2, h3⟩ := h
    subst h2
    have h3 := opp_inj h3
    subst h3
    have : c = c' := by rw [← peer_opp (kst k) c i, h1, peer_opp]
    subst this; rfl
  · exact absurd h.1.2 (fun h => by cases h)
  · exact absurd h.1.2 (fun h => by cases h)
  · exact absurd h.1.2 (fun h => by cases h)
  · obtain ⟨⟨h1, h2⟩, -⟩ := h
    injection h2 with h2 h3
    subst h1 h2 h3; rfl
  · exact absurd h.1.2 (fun h => by cases h)
  · exact absurd h.1.2 (fun h => by cases h)
  · exact absurd h.1.2 (fun h => by cases h)
  · obtain ⟨⟨h1, h2⟩, -⟩ := h
    injection h2 with h2 h3
    subst h2
    have : c = c' := by
      have e1 : at_ st (peer st c i) (slot st c) = c := (at_peer st c i _).trans (at_slot st c)
      have e2 : at_ st (peer st c' i') (slot st c') = c' := (at_peer st c' i' _).trans (at_slot st c')
      rw [← e1, h1, h3, e2]
    subst this
    have := peer_inj _ _ _ _ h1
    subst this; rfl

def payTok (x : Dev nD × PayIx) : GSem nD τ sig × ℕ × D := (kcell (payCell x.1 x.2).1, 0, (payCell x.1 x.2).2)
theorem payTok_inj : Function.Injective payTok := fun a b h => payCell_inj (by
  have h1 := kcell_injective (congrArg (fun x : GSem nD τ sig × ℕ × D => x.1) h)
  have h2 := congrArg (fun x : GSem nD τ sig × ℕ × D => x.2.2) h
  exact Prod.ext h1 h2)

/-! ## What the launch deals a device, and what it gets back -/

def poss : sProp 𝕄 := bigSep Finset.univ fun k : Cell => atPos ER (kcell (c, k)) 0 ∅ 0
def pays : sProp 𝕄 := bigSep Finset.univ fun p : PayIx => dutyTok ER (payTok (c, p)).1 (payTok (c, p)).2.1 (payTok (c, p)).2.2
def creds : sProp 𝕄 := bigSep Finset.univ fun k : Cell => cred (tallyAt (kcell (c, k)) () (due c k * amt k))
def zeros : sProp 𝕄 := bigSep Finset.univ fun k : Cell => semVal (kcell (c, k)) 0
def kvZeros (b : Bool) : sProp 𝕄 := bigSep Finset.univ fun h : Fin 8 => semVal ((c : Thread nD τ), SemLoc.dma (kvs b h)) 0
def kvShares (b : Bool) : sProp 𝕄 :=
  bigSep Finset.univ fun h : Fin 8 => ((hM b).view.loc (c : Thread nD τ) ↦{Transfers.shareTok fullShare 8 h} m ((hM b).view.loc (c : Thread nD τ)))
/-- The scratch buffers, each whole at some contents or other. -/
def scr : sProp 𝕄 :=
  iprop((∃ f, (c : Thread nD τ).loc cc0_scratch0 ↦{fullShare} f) ∗ (∃ f, (c : Thread nD τ).loc cc0_scratch1 ↦{fullShare} f) ∗ (∃ f, b3 c ↦{fullShare} f) ∗ (∃ f, b4 c ↦{fullShare} f)
    ∗ (∃ f, b5 c ↦{fullShare} f) ∗ (∃ f, b6 c ↦{fullShare} f) ∗ (∃ f, b7 c ↦{fullShare} f) ∗ (∃ f, b8 c ↦{fullShare} f) ∗ (∃ f, b9 c ↦{fullShare} f) ∗ (∃ f, b10 c ↦{fullShare} f) ∗ (∃ f, b11 c ↦{fullShare} f))
def start : sProp 𝕄 :=
  iprop(∃ K, recs m K ∗ poss c ∗ pays c ∗ creds c ∗ (kvZeros c false ∗ kvZeros c true) ∗ kvShares m c false ∗ kvShares m c true)
def fin : sProp 𝕄 := iprop(scr c ∗ zeros c ∗ kvZeros c false ∗ kvZeros c true)

/-! ## The slabs -/

theorem rH_mem (h : Fin 8) (i : S8x4096x128.Idx) : Iff (i ∈ (rH h).set) ((i 0).val = h.val) := by
  rw [Rect.mem_set_unit]
  have h1 : (i 1).val < 4096 := (i 1).isLt
  have h2 : (i 2).val < 128 := (i 2).isLt
  constructor
  · intro e
    have h0 : h.val ≤ (i 0).val ∧ (i 0).val < h.val + 1 := e 0
    omega
  · intro e a
    fin_cases a
    · show h.val ≤ (i 0).val ∧ (i 0).val < h.val + 1; omega
    · show 0 ≤ (i 1).val ∧ (i 1).val < 0 + 4096; omega
    · show 0 ≤ (i 2).val ∧ (i 2).val < 0 + 128; omega
/-- Slab `h` as a set of places of the buffer. -/
def rS (b : Bool) (h : Fin 8) : Finset (Idx ((sM b).view.loc (c : Thread nD τ))) := match b with
  | false => (rH h).set
  | true => (rH h).set
theorem rS_pts (b : Bool) (h : Fin 8) (f : Buf (Elt F) ((sM b).view.loc (c : Thread nD τ))) :
    ((sM b).view.loc (c : Thread nD τ) ↦[rS c b h]{fullShare} f : sProp 𝕄) = ((dstM b h).view.loc (c : Thread nD τ) ↦[(dstM b h).view.set]{fullShare} f) := by
  cases b
  · have e : (dstM false h).view.set = (rH h).set := (View.set_reshape _ _).trans (View.set_slice_whole _ _)
    exact congrArg (fun S => ((sM false).view.loc (c : Thread nD τ) ↦[S]{fullShare} f : sProp 𝕄)) e.symm
  · have e : (dstM true h).view.set = (rH h).set := (View.set_reshape _ _).trans (View.set_slice_whole _ _)
    exact congrArg (fun S => ((sM true).view.loc (c : Thread nD τ) ↦[S]{fullShare} f : sProp 𝕄)) e.symm
theorem rS_disj (b : Bool) (x y : Fin 8) (h : x ≠ y) : Disjoint (rS c b x) (rS c b y) := by
  cases b
  · exact Finset.disjoint_left.2 fun i hi hj => h (Fin.ext (((rH_mem x i).1 hi).symm.trans ((rH_mem y i).1 hj)))
  · exact Finset.disjoint_left.2 fun i hi hj => h (Fin.ext (((rH_mem x i).1 hi).symm.trans ((rH_mem y i).1 hj)))
theorem rS_cov (b : Bool) : Finset.univ.biUnion (rS c b) = Finset.univ := by
  cases b
  · refine Finset.ext fun i => ?_
    simp only [Finset.mem_univ, iff_true]
    exact Finset.mem_biUnion.2 ⟨(i : S8x4096x128.Idx) 0, Finset.mem_univ _, (rH_mem _ i).2 rfl⟩
  · refine Finset.ext fun i => ?_
    simp only [Finset.mem_univ, iff_true]
    exact Finset.mem_biUnion.2 ⟨(i : S8x4096x128.Idx) 0, Finset.mem_univ _, (rH_mem _ i).2 rfl⟩

section
variable {ℓ : Loc nD τ sig} (I : Fin 8 → Finset (Idx ℓ)) (hd : ∀ a b, a ≠ b → Disjoint (I a) (I b)) (hc : Finset.univ.biUnion I = Finset.univ)
include hd hc
theorem split8 (f : Buf (Elt F) ℓ) : (ℓ ↦{fullShare} f : sProp 𝕄) = bigSep Finset.univ fun h => ℓ ↦[I h]{fullShare} f := by
  rw [← pointsTo_biUnion Finset.univ I (fun b _ b' _ h => hd b b' h), hc]
theorem join8 (fs : Fin 8 → Buf (Elt F) ℓ) : (bigSep Finset.univ fun h => (ℓ ↦[I h]{fullShare} fs h : sProp 𝕄)) ⊢ iprop(∃ f, ℓ ↦{fullShare} f) := by
  refine (pointsTo_biUnion_join Finset.univ I fs (fs 0) fun b _ b' _ h => hd b b' h).trans ?_
  rw [hc]
  iintro ⟨%g, -, H⟩; iexists g; iexact H
end
theorem idle_piece (b : Bool) (h : Fin 8) (f : Buf (Elt F) ((sM b).view.loc (c : Thread nD τ))) :
    ((sM b).view.loc (c : Thread nD τ) ↦[rS c b h]{fullShare} f : sProp 𝕄)
      ⊢ iprop(∃ f : Buf (Elt F) ((dstM b h).view.loc (c : Thread nD τ)), (dstM b h).view.loc (c : Thread nD τ) ↦[(dstM b h).view.set]{fullShare} f) := by
  rw [rS_pts]
  generalize (dstM b h).view.set = S
  iintro H; iexists f; iexact H
theorem holds_piece (b : Bool) (h : Fin 8) : holds m c b h
    ⊢ iprop(∃ f : Buf (Elt F) ((sM b).view.loc (c : Thread nD τ)), (sM b).view.loc (c : Thread nD τ) ↦[rS c b h]{fullShare} f) := by
  unfold holds
  iintro ⟨%f, -, H⟩
  iexists f; iapply (Entails.of_eq (rS_pts c b h f).symm); iexact H

theorem kv_start (b : Bool) : iprop(kvShares m c b ∗ kvZeros c b ∗ ∃ f, (sM b).view.loc (c : Thread nD τ) ↦{fullShare} f) ⊢ kvSt m c b 0 0 := by
  have e : kvSt m c b 0 0 = bigSep Finset.univ (idle m c b) := bigSep_congr fun h _ => by
    unfold kvOf; rw [if_neg (Nat.not_lt_zero _), if_neg (Nat.not_lt_zero _)]
  rw [e]
  unfold idle kvShares kvZeros
  rw [bigSep_sep', bigSep_sep']
  iintro ⟨H1, H2, %f, H3⟩
  isplitl [H1]; · iexact H1
  isplitl [H3]
  · ihave H3 := (Entails.of_eq (split8 (rS c b) (rS_disj c b) (rS_cov c b) f)) $$ H3
    iapply (show (bigSep Finset.univ fun h => ((sM b).view.loc (c : Thread nD τ) ↦[rS c b h]{fullShare} f : sProp 𝕄))
      ⊢ bigSep Finset.univ fun h => iprop(∃ f : Buf (Elt F) ((dstM b h).view.loc (c : Thread nD τ)), (dstM b h).view.loc (c : Thread nD τ) ↦[(dstM b h).view.set]{fullShare} f) from bigSep_mono fun h _ => idle_piece c b h f)
    iexact H3
  iexact H2

theorem kv_end (b : Bool) : kvSt m c b 8 8 ⊢ iprop((∃ f, (sM b).view.loc (c : Thread nD τ) ↦{fullShare} f) ∗ kvZeros c b) := by
  have e : kvSt m c b 8 8 = bigSep Finset.univ (landedKV m c b) := bigSep_congr fun h _ => by
    unfold kvOf; rw [if_pos h.isLt]
  rw [e]
  unfold landedKV kvZeros
  rw [bigSep_sep']
  iintro ⟨H1, H2⟩
  isplitl [H1]
  · ihave H1 := (show (bigSep Finset.univ (holds m c b)) ⊢ bigSep Finset.univ (fun h => iprop(∃ f : Buf (Elt F) ((sM b).view.loc (c : Thread nD τ)), (sM b).view.loc (c : Thread nD τ) ↦[rS c b h]{fullShare} f)) from bigSep_mono fun h _ => holds_piece m c b h) $$ H1
    ihave H1 := (BI.bigSep_exists_pi Finset.univ (fun (h : Fin 8) (f : Buf (Elt F) ((sM b).view.loc (c : Thread nD τ))) => ((sM b).view.loc (c : Thread nD τ) ↦[rS c b h]{fullShare} f : sProp 𝕄))) $$ H1
    icases H1 with ⟨%fs, H1⟩
    iapply (join8 (rS c b) (rS_disj c b) (rS_cov c b) fs); iexact H1
  iexact H2

/-! ## Payments at the barrier -/

set_option maxRecDepth 10000 in
theorem peer3_0 : ∀ (c : Dev nD) (i : Fin 3), peer 3 (peer 0 c i) (opp i) = c := by decide +kernel
set_option maxRecDepth 10000 in
theorem peer2_1 : ∀ (c : Dev nD) (i : Fin 3), peer 2 (peer 1 c i) (opp i) = c := by decide +kernel
theorem slot3_0 : ∀ (c : Dev nD) (i : Fin 3), slot 3 (peer 0 c i) = pslot 3 c i := by decide +kernel
theorem slot2_1 : ∀ (c : Dev nD) (i : Fin 3), slot 2 (peer 1 c i) = pslot 2 c i := by decide +kernel
theorem pay_row (i : Fin 3) : iprop(dstP (F := F) 0 c (pslot 0 c i) ∗ dstP (F := F) 3 c (pslot 3 c i)) ⊢ barPay (F := F) (peer (kst false) c i) (false, opp i) :=
  Entails.of_eq (by
    show _ = iprop(dstP (F := F) 0 (peer 0 (peer 0 c i) (opp i)) (slot 0 (peer 0 c i)) ∗ dstP (F := F) 3 (peer 3 (peer 0 c i) (opp i)) (slot 3 (peer 0 c i)))
    rw [peer_opp, peer3_0, slot_peer, slot3_0])
theorem pay_col (i : Fin 3) : iprop(dstP (F := F) 1 c (pslot 1 c i) ∗ dstP (F := F) 2 c (pslot 2 c i)) ⊢ barPay (F := F) (peer (kst true) c i) (true, opp i) :=
  Entails.of_eq (by
    show _ = iprop(dstP (F := F) 1 (peer 1 (peer 1 c i) (opp i)) (slot 1 (peer 1 c i)) ∗ dstP (F := F) 2 (peer 2 (peer 1 c i) (opp i)) (slot 2 (peer 1 c i)))
    rw [peer_opp, peer2_1, slot_peer, slot2_1])

theorem ctxTo_none : iprop(∃ f, b3 c ↦{fullShare} f) ⊢ ctxTo m c 0 := by
  unfold ctxTo
  iintro ⟨%f, H⟩
  iexists f
  isplitr; · ipureintro; exact fun i h => absurd h (Nat.not_lt_zero _)
  iexact H
theorem due_cred (st : Fin 4) (i : Fin 3) : (cred (tallyAt (kcell (c, .r st (pslot st c i))) () (due c (.r st (pslot st c i)) * amt (.r st (pslot st c i)))) : sProp 𝕄)
    ⊢ cred (tallyAt (kcell (c, .r st (pslot st c i))) () (NN st)) :=
  Entails.of_eq (by
    have h : due c (.r st (pslot st c i)) * amt (.r st (pslot st c i)) = NN st := by
      show (if pslot st c i = slot st c then 0 else 1) * NN st = NN st
      rw [if_neg (pslot_ne st c i), Nat.one_mul]
    rw [h])
/-- The receive semaphore of a device's own slot gets nothing: it is closed at once. -/
theorem own_close (K : Dev nD × Cell → ℕ) (st : Fin 4) : iprop(recs m K ∗ atPos ER (kcell (c, .r st (slot st c))) 0 ∅ 0) ⊢ iprop(|={Set.univ}=> semVal (kcell (c, .r st (slot st c))) 0) := by
  iintro ⟨#HR, H⟩
  iapply (Rounds.cell_close ER (Rd m) (κ := K (c, .r st (slot st c))) (g := kcell (c, .r st (slot st c))) (Set.mem_univ _) (fun h => h) (R := 0) (fun r _ => by
    rcases Nat.eq_zero_or_pos r with rfl | hr
    · rw [duties_r, if_pos rfl]
    · exact duties_later m _ r hr))
  isplitr; · iapply (recs_inv m K (c, .r st (slot st c))); iexact HR
  iexact H

end Cert.KernelIdealRun

end
-- ==== Proof.Run.lean ====
/- The body's run from what the launch deals a device to what it gets back. -/
module

public import proofs.«01_k».proof.Proof.Deal

@[expose] public section

noncomputable section

namespace Cert.KernelIdealRun
open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

variable (c : Dev nD)

/-! ## The deal -/

theorem pays_flat : (pays c : sProp 𝕄) = iprop((dutyTok ER (kcell (peer (kst false) c 0, .bar)) 0 (false, opp 0) ∗ dutyTok ER (kcell (peer (kst true) c 0, .bar)) 0 (true, opp 0) ∗ dutyTok ER (kcell (peer (kst false) c 1, .bar)) 0 (false, opp 1) ∗ dutyTok ER (kcell (peer (kst true) c 1, .bar)) 0 (true, opp 1) ∗ dutyTok ER (kcell (peer (kst false) c 2, .bar)) 0 (false, opp 2) ∗ dutyTok ER (kcell (peer (kst true) c 2, .bar)) 0 (true, opp 2)) ∗ ((dutyTok ER (kcell (c, .s 0 0)) 0 dd ∗ dutyTok ER (kcell (c, .s 0 1)) 0 dd ∗ dutyTok ER (kcell (c, .s 0 2)) 0 dd) ∗ (dutyTok ER (kcell (c, .s 1 0)) 0 dd ∗ dutyTok ER (kcell (c, .s 1 1)) 0 dd ∗ dutyTok ER (kcell (c, .s 1 2)) 0 dd) ∗ (dutyTok ER (kcell (c, .s 2 0)) 0 dd ∗ dutyTok ER (kcell (c, .s 2 1)) 0 dd ∗ dutyTok ER (kcell (c, .s 2 2)) 0 dd) ∗ (dutyTok ER (kcell (c, .s 3 0)) 0 dd ∗ dutyTok ER (kcell (c, .s 3 1)) 0 dd ∗ dutyTok ER (kcell (c, .s 3 2)) 0 dd)) ∗ ((dutyTok ER (kcell (peer 0 c 0, .r 0 (slot 0 c))) 0 dd ∗ dutyTok ER (kcell (peer 0 c 1, .r 0 (slot 0 c))) 0 dd ∗ dutyTok ER (kcell (peer 0 c 2, .r 0 (slot 0 c))) 0 dd) ∗ (dutyTok ER (kcell (peer 1 c 0, .r 1 (slot 1 c))) 0 dd ∗ dutyTok ER (kcell (peer 1 c 1, .r 1 (slot 1 c))) 0 dd ∗ dutyTok ER (kcell (peer 1 c 2, .r 1 (slot 1 c))) 0 dd) ∗ (dutyTok ER (kcell (peer 2 c 0, .r 2 (slot 2 c))) 0 dd ∗ dutyTok ER (kcell (peer 2 c 1, .r 2 (slot 2 c))) 0 dd ∗ dutyTok ER (kcell (peer 2 c 2, .r 2 (slot 2 c))) 0 dd) ∗ (dutyTok ER (kcell (peer 3 c 0, .r 3 (slot 3 c))) 0 dd ∗ dutyTok ER (kcell (peer 3 c 1, .r 3 (slot 3 c))) 0 dd ∗ dutyTok ER (kcell (peer 3 c 2, .r 3 (slot 3 c))) 0 dd))) := by
  unfold pays
  rw [bigSep_univ_sum, bigSep_univ_sum, s_flat, s_flat, six_flat]
  rfl

/-- What the body's run does not need: its own slots' receive semaphores, and its own block of the partial sums. -/
def rest (c : Dev nD) : sProp 𝕄 :=
  iprop(semVal (kcell (c, .r 0 (slot 0 c))) 0 ∗ semVal (kcell (c, .r 1 (slot 1 c))) 0 ∗ semVal (kcell (c, .r 2 (slot 2 c))) 0 ∗ semVal (kcell (c, .r 3 (slot 3 c))) 0
    ∗ (∃ f, b5 c ↦[s64 (slot 0 c)]{fullShare} f))

theorem dst_split0 : (iprop(∃ f, b6 c ↦{fullShare} f) : sProp 𝕄) ⊢ iprop(dstP (F := F) 0 c (slot 0 c) ∗ dstP (F := F) 0 c (pslot 0 c 0) ∗ dstP (F := F) 0 c (pslot 0 c 1) ∗ dstP (F := F) 0 c (pslot 0 c 2)) :=
  split4any (ℓ := b6 c) c sA disjA covA 0
theorem dst_split1 : (iprop(∃ f, b8 c ↦{fullShare} f) : sProp 𝕄) ⊢ iprop(dstP (F := F) 1 c (slot 1 c) ∗ dstP (F := F) 1 c (pslot 1 c 0) ∗ dstP (F := F) 1 c (pslot 1 c 1) ∗ dstP (F := F) 1 c (pslot 1 c 2)) :=
  split4any (ℓ := b8 c) c sB disjB covB 1
theorem dst_split2 : (iprop(∃ f, b10 c ↦{fullShare} f) : sProp 𝕄) ⊢ iprop(dstP (F := F) 2 c (slot 2 c) ∗ dstP (F := F) 2 c (pslot 2 c 0) ∗ dstP (F := F) 2 c (pslot 2 c 1) ∗ dstP (F := F) 2 c (pslot 2 c 2)) :=
  split4any (ℓ := b10 c) c s16 disj16 cov16 2
theorem dst_split3 : (iprop(∃ f, b11 c ↦{fullShare} f) : sProp 𝕄) ⊢ iprop(dstP (F := F) 3 c (slot 3 c) ∗ dstP (F := F) 3 c (pslot 3 c 0) ∗ dstP (F := F) 3 c (pslot 3 c 1) ∗ dstP (F := F) 3 c (pslot 3 c 2)) :=
  split4any (ℓ := b11 c) c s64 disj64 cov64 3

theorem deal : iprop(start m c ∗ scr c ∗ (bW c ↦{fullShare} woB m c) ∗ (∃ f, bY c ↦{fullShare} f))
    ⊢ |={Set.univ}=> iprop(∃ K, recs m K ∗ sigStart (F := F) c ∗ kvSt m c false 0 0 ∗ kvSt m c true 0 0 ∗ ctxTo m c 0 ∗ stStart m c ∗ rest (F := F) c) := by
  unfold start scr poss creds
  rw [cells_flat c, cells_flat c, pays_flat c]
  iintro ⟨⟨%K, #HR, ⟨PB, ⟨⟨PS00, PS01, PS02⟩, ⟨PS10, PS11, PS12⟩, ⟨PS20, PS21, PS22⟩, ⟨PS30, PS31, PS32⟩⟩, ⟨⟨Q0, PR00, PR01, PR02⟩, ⟨Q1, PR10, PR11, PR12⟩, ⟨Q2, PR20, PR21, PR22⟩, ⟨Q3, PR30, PR31, PR32⟩⟩⟩, ⟨⟨TB00, TB10, TB01, TB11, TB02, TB12⟩, ⟨⟨TS00, TS01, TS02⟩, ⟨TS10, TS11, TS12⟩, ⟨TS20, TS21, TS22⟩, ⟨TS30, TS31, TS32⟩⟩, ⟨⟨TR00, TR01, TR02⟩, ⟨TR10, TR11, TR12⟩, ⟨TR20, TR21, TR22⟩, ⟨TR30, TR31, TR32⟩⟩⟩, ⟨CB, -, ⟨⟨-, CR00, CR01, CR02⟩, ⟨-, CR10, CR11, CR12⟩, ⟨-, CR20, CR21, CR22⟩, ⟨-, CR30, CR31, CR32⟩⟩⟩, ⟨ZK, ZV⟩, SK, SV⟩, ⟨KS, VS, B3, P4, B5, B6, B7, B8, B9, B10, B11⟩, W, Y⟩
  imod (own_close m c K 0) $$ [Q0] with Q0
  · isplitr; · iexact HR
    iexact Q0
  imod (own_close m c K 1) $$ [Q1] with Q1
  · isplitr; · iexact HR
    iexact Q1
  imod (own_close m c K 2) $$ [Q2] with Q2
  · isplitr; · iexact HR
    iexact Q2
  imod (own_close m c K 3) $$ [Q3] with Q3
  · isplitr; · iexact HR
    iexact Q3
  ihave CR00 := (due_cred c 0 0) $$ CR00
  ihave CR01 := (due_cred c 0 1) $$ CR01
  ihave CR02 := (due_cred c 0 2) $$ CR02
  ihave CR10 := (due_cred c 1 0) $$ CR10
  ihave CR11 := (due_cred c 1 1) $$ CR11
  ihave CR12 := (due_cred c 1 2) $$ CR12
  ihave CR20 := (due_cred c 2 0) $$ CR20
  ihave CR21 := (due_cred c 2 1) $$ CR21
  ihave CR22 := (due_cred c 2 2) $$ CR22
  ihave CR30 := (due_cred c 3 0) $$ CR30
  ihave CR31 := (due_cred c 3 1) $$ CR31
  ihave CR32 := (due_cred c 3 2) $$ CR32
  ihave B5 := (split4any (ℓ := b5 c) c s64 disj64 cov64 0) $$ B5
  icases B5 with ⟨A, A0, A1, A2⟩
  ihave O0 := (dst_split0 c) $$ B6
  icases O0 with ⟨O0, D00, D01, D02⟩
  ihave O1 := (dst_split1 c) $$ B8
  icases O1 with ⟨O1, D10, D11, D12⟩
  ihave O2 := (dst_split2 c) $$ B10
  icases O2 with ⟨O2, D20, D21, D22⟩
  ihave O3 := (dst_split3 c) $$ B11
  icases O3 with ⟨O3, D30, D31, D32⟩
  ihave SK := (kv_start m c false) $$ [SK ZK KS]
  · isplitl [SK]; · iexact SK
    isplitl [ZK]; · iexact ZK
    iexact KS
  ihave SV := (kv_start m c true) $$ [SV ZV VS]
  · isplitl [SV]; · iexact SV
    isplitl [ZV]; · iexact ZV
    iexact VS
  ihave BP00 := (pay_row (F := F) c 0) $$ [D00 D30]
  · isplitl [D00]; · iexact D00
    iexact D30
  ihave BP10 := (pay_col (F := F) c 0) $$ [D10 D20]
  · isplitl [D10]; · iexact D10
    iexact D20
  ihave BP01 := (pay_row (F := F) c 1) $$ [D01 D31]
  · isplitl [D01]; · iexact D01
    iexact D31
  ihave BP11 := (pay_col (F := F) c 1) $$ [D11 D21]
  · isplitl [D11]; · iexact D11
    iexact D21
  ihave BP02 := (pay_row (F := F) c 2) $$ [D02 D32]
  · isplitl [D02]; · iexact D02
    iexact D32
  ihave BP12 := (pay_col (F := F) c 2) $$ [D12 D22]
  · isplitl [D12]; · iexact D12
    iexact D22
  imodintro
  iexists K
  isplitr; · iexact HR
  isplitl [TB00 BP00 TB10 BP10 TB01 BP01 TB11 BP11 TB02 BP02 TB12 BP12]
  · unfold sigStart
    isplitl [TB00 BP00]
    · isplitl [TB00]; · iexact TB00
      iexact BP00
    isplitl [TB10 BP10]
    · isplitl [TB10]; · iexact TB10
      iexact BP10
    isplitl [TB01 BP01]
    · isplitl [TB01]; · iexact TB01
      iexact BP01
    isplitl [TB11 BP11]
    · isplitl [TB11]; · iexact TB11
      iexact BP11
    isplitl [TB02 BP02]
    · isplitl [TB02]; · iexact TB02
      iexact BP02
    isplitl [TB12]; · iexact TB12
    iexact BP12
  isplitl [SK]; · iexact SK
  isplitl [SV]; · iexact SV
  isplitl [B3]; · iapply (ctxTo_none m c); iexact B3
  isplitl [W P4 PB CB A0 A1 A2 TS00 TR00 PS00 PR00 CR00 TS01 TR01 PS01 PR01 CR01 TS02 TR02 PS02 PR02 CR02 O0 TS10 TR10 PS10 PR10 CR10 TS11 TR11 PS11 PR11 CR11 TS12 TR12 PS12 PR12 CR12 O1 TS20 TR20 PS20 PR20 CR20 TS21 TR21 PS21 PR21 CR21 TS22 TR22 PS22 PR22 CR22 O2 TS30 TR30 PS30 PR30 CR30 TS31 TR31 PS31 PR31 CR31 TS32 TR32 PS32 PR32 CR32 O3 B7 B9 Y]
  · unfold stStart
    isplitl [W]; · iexact W
    isplitl [P4]; · iexact P4
    isplitl [PB]; · iexact PB
    isplitl [CB]; · iexact CB
    isplitl [A0]; · iexact A0
    isplitl [A1]; · iexact A1
    isplitl [A2]; · iexact A2
    isplitl [TS00]; · iexact TS00
    isplitl [TR00]; · iexact TR00
    isplitl [PS00]; · iexact PS00
    isplitl [PR00]; · iexact PR00
    isplitl [CR00]; · iexact CR00
    isplitl [TS01]; · iexact TS01
    isplitl [TR01]; · iexact TR01
    isplitl [PS01]; · iexact PS01
    isplitl [PR01]; · iexact PR01
    isplitl [CR01]; · iexact CR01
    isplitl [TS02]; · iexact TS02
    isplitl [TR02]; · iexact TR02
    isplitl [PS02]; · iexact PS02
    isplitl [PR02]; · iexact PR02
    isplitl [CR02]; · iexact CR02
    isplitl [O0]; · iexact O0
    isplitl [TS10]; · iexact TS10
    isplitl [TR10]; · iexact TR10
    isplitl [PS10]; · iexact PS10
    isplitl [PR10]; · iexact PR10
    isplitl [CR10]; · iexact CR10
    isplitl [TS11]; · iexact TS11
    isplitl [TR11]; · iexact TR11
    isplitl [PS11]; · iexact PS11
    isplitl [PR11]; · iexact PR11
    isplitl [CR11]; · iexact CR11
    isplitl [TS12]; · iexact TS12
    isplitl [TR12]; · iexact TR12
    isplitl [PS12]; · iexact PS12
    isplitl [PR12]; · iexact PR12
    isplitl [CR12]; · iexact CR12
    isplitl [O1]; · iexact O1
    isplitl [TS20]; · iexact TS20
    isplitl [TR20]; · iexact TR20
    isplitl [PS20]; · iexact PS20
    isplitl [PR20]; · iexact PR20
    isplitl [CR20]; · iexact CR20
    isplitl [TS21]; · iexact TS21
    isplitl [TR21]; · iexact TR21
    isplitl [PS21]; · iexact PS21
    isplitl [PR21]; · iexact PR21
    isplitl [CR21]; · iexact CR21
    isplitl [TS22]; · iexact TS22
    isplitl [TR22]; · iexact TR22
    isplitl [PS22]; · iexact PS22
    isplitl [PR22]; · iexact PR22
    isplitl [CR22]; · iexact CR22
    isplitl [O2]; · iexact O2
    isplitl [TS30]; · iexact TS30
    isplitl [TR30]; · iexact TR30
    isplitl [PS30]; · iexact PS30
    isplitl [PR30]; · iexact PR30
    isplitl [CR30]; · iexact CR30
    isplitl [TS31]; · iexact TS31
    isplitl [TR31]; · iexact TR31
    isplitl [PS31]; · iexact PS31
    isplitl [PR31]; · iexact PR31
    isplitl [CR31]; · iexact CR31
    isplitl [TS32]; · iexact TS32
    isplitl [TR32]; · iexact TR32
    isplitl [PS32]; · iexact PS32
    isplitl [PR32]; · iexact PR32
    isplitl [CR32]; · iexact CR32
    isplitl [O3]; · iexact O3
    isplitl [B7]; · iexact B7
    isplitl [B9]; · iexact B9
    iexact Y
  unfold rest
  isplitl [Q0]; · iexact Q0
  isplitl [Q1]; · iexact Q1
  isplitl [Q2]; · iexact Q2
  isplitl [Q3]; · iexact Q3
  iexact A

theorem gather : iprop(kvSt m c false 8 8 ∗ kvSt m c true 8 8 ∗ stEnd m c ∗ rest (F := F) c)
    ⊢ iprop(fin c ∗ (bW c ↦{fullShare} woB m c) ∗ (bY c ↦{fullShare} outB m c)) := by
  unfold stEnd rest fin scr zeros
  rw [cells_flat c]
  iintro ⟨SK, SV, ⟨W, P4, Y, Zb, C, ZR00, ZR01, ZR02, B6, ZS00, S00, ZS01, S01, ZS02, S02, O7, ZR10, ZR11, ZR12, B8, ZS10, S10, ZS11, S11, ZS12, S12, G9, ZR20, ZR21, ZR22, ZS20, S20, ZS21, S21, ZS22, S22, G10, ZR30, ZR31, ZR32, B11, ZS30, S30, ZS31, S31, ZS32, S32⟩, Q0, Q1, Q2, Q3, ⟨%fA, A⟩⟩
  ihave SK := (kv_end m c false) $$ SK
  icases SK with ⟨SK, ZK⟩
  ihave SV := (kv_end m c true) $$ SV
  icases SV with ⟨SV, ZV⟩
  ihave H5 := (join4 (ℓ := b5 c) c s64 disj64 cov64 0 fA (PB m c) (PB m c) (PB m c)) $$ [A S00 S01 S02]
  · isplitl [A]; · iexact A
    isplitl [S00]; · iapply (src_0' m c 0); iexact S00
    isplitl [S01]; · iapply (src_0' m c 1); iexact S01
    iapply (src_0' m c 2); iexact S02
  ihave H7 := (srcB m c).2 $$ [O7 S10 S11 S12]
  · isplitl [O7]; · iexact O7
    isplitl [S10]; · iexact S10
    isplitl [S11]; · iexact S11
    iexact S12
  ihave H9 := (srcC m c).2 $$ [G9 S20 S21 S22]
  · isplitl [G9]; · iexact G9
    isplitl [S20]; · iexact S20
    isplitl [S21]; · iexact S21
    iexact S22
  ihave H10 := (srcD m c).2 $$ [G10 S30 S31 S32]
  · isplitl [G10]; · iexact G10
    isplitl [S30]; · iexact S30
    isplitl [S31]; · iexact S31
    iexact S32
  isplitl [SK SV C P4 H5 B6 H7 B8 H9 H10 B11 Zb ZS00 ZS01 ZS02 ZS10 ZS11 ZS12 ZS20 ZS21 ZS22 ZS30 ZS31 ZS32 Q0 ZR00 ZR01 ZR02 Q1 ZR10 ZR11 ZR12 Q2 ZR20 ZR21 ZR22 Q3 ZR30 ZR31 ZR32 ZK ZV]
  · isplitl [SK SV C P4 H5 B6 H7 B8 H9 H10 B11]
    · isplitl [SK]; · iexact SK
      isplitl [SV]; · iexact SV
      isplitl [C]; · iexists _; iexact C
      isplitl [P4]; · iexact P4
      isplitl [H5]; · iexact H5
      isplitl [B6]; · iexists _; iexact B6
      isplitl [H7]; · iexists _; iexact H7
      isplitl [B8]; · iexists _; iexact B8
      isplitl [H9]; · iexists _; iexact H9
      isplitl [H10]; · iexists _; iexact H10
      iexists _; iexact B11
    isplitl [Zb ZS00 ZS01 ZS02 ZS10 ZS11 ZS12 ZS20 ZS21 ZS22 ZS30 ZS31 ZS32 Q0 ZR00 ZR01 ZR02 Q1 ZR10 ZR11 ZR12 Q2 ZR20 ZR21 ZR22 Q3 ZR30 ZR31 ZR32]
    · isplitl [Zb]; · iexact Zb
      isplitl [ZS00 ZS01 ZS02 ZS10 ZS11 ZS12 ZS20 ZS21 ZS22 ZS30 ZS31 ZS32]
      · isplitl [ZS00 ZS01 ZS02]
        · isplitl [ZS00]; · iexact ZS00
          isplitl [ZS01]; · iexact ZS01
          iexact ZS02
        isplitl [ZS10 ZS11 ZS12]
        · isplitl [ZS10]; · iexact ZS10
          isplitl [ZS11]; · iexact ZS11
          iexact ZS12
        isplitl [ZS20 ZS21 ZS22]
        · isplitl [ZS20]; · iexact ZS20
          isplitl [ZS21]; · iexact ZS21
          iexact ZS22
        isplitl [ZS30]; · iexact ZS30
        isplitl [ZS31]; · iexact ZS31
        iexact ZS32
      isplitl [Q0 ZR00 ZR01 ZR02]
      · isplitl [Q0]; · iexact Q0
        isplitl [ZR00]; · iexact ZR00
        isplitl [ZR01]; · iexact ZR01
        iexact ZR02
      isplitl [Q1 ZR10 ZR11 ZR12]
      · isplitl [Q1]; · iexact Q1
        isplitl [ZR10]; · iexact ZR10
        isplitl [ZR11]; · iexact ZR11
        iexact ZR12
      isplitl [Q2 ZR20 ZR21 ZR22]
      · isplitl [Q2]; · iexact Q2
        isplitl [ZR20]; · iexact ZR20
        isplitl [ZR21]; · iexact ZR21
        iexact ZR22
      isplitl [Q3]; · iexact Q3
      isplitl [ZR30]; · iexact ZR30
      isplitl [ZR31]; · iexact ZR31
      iexact ZR32
    isplitl [ZK]; · iexact ZK
    iexact ZV
  isplitl [W]; · iexact W
  iexact Y

/-- The body's run, from what the launch deals to what it gets back. -/
theorem body_run {Q : _ → sProp 𝕄} : iprop(start m c ∗ scr c ∗ ow c (debt c) ∗ (bX c ↦{fullShare} xB m c) ∗ (bQ c ↦{fullShare} wqB m c) ∗ (bW c ↦{fullShare} woB m c) ∗ (∃ f, bY c ↦{fullShare} f))
    ⊢ iprop((iprop(fin c ∗ ow c [] ∗ (bX c ↦{fullShare} xB m c) ∗ (bQ c ↦{fullShare} wqB m c) ∗ (bW c ↦{fullShare} woB m c) ∗ (bY c ↦{fullShare} outB m c)) -∗ Q ⟨⟩)
      -∗ WP c (cc0_body (F := F) aX (iw _) aQ (iw _) aK (iw _) aV (iw _) aW (iw _) aY (iw _) a6 (iw _) a7 (iw _) a8 a9 (iw _) a10 (iw _) a11 (iw _) a12 (iw _) a13 (iw _) a14 (iw _) a15 (iw _) a16 (iw _) a17 (iw _) a18 a19 a20) Q) := by
  iintro ⟨Hs, Hscr, HO, HX, HQ, HW, HY⟩ Hcont
  imod (deal m c) $$ [Hs Hscr HW HY] with ⟨%K, #HR, Hsig, HK, HV, Hctx, Hst, Hrest⟩
  · isplitl [Hs]; · iexact Hs
    isplitl [Hscr]; · iexact Hscr
    isplitl [HW]; · iexact HW
    iexact HY
  iapply (body_wp m K c) $$ [HO Hsig HK HV Hctx HX HQ Hst]
  · isplitr; · iexact HR
    isplitl [HO]; · iexact HO
    isplitl [Hsig]; · iexact Hsig
    isplitl [HK]; · iexact HK
    isplitl [HV]; · iexact HV
    isplitl [Hctx]; · iexact Hctx
    isplitl [HX]; · iexact HX
    isplitl [HQ]; · iexact HQ
    iexact Hst
  iintro ⟨HO, HK, HV, HX, HQ, Hst⟩
  iapply Hcont
  ihave H := (gather m c) $$ [HK HV Hst Hrest]
  · isplitl [HK]; · iexact HK
    isplitl [HV]; · iexact HV
    isplitl [Hst]; · iexact Hst
    iexact Hrest
  icases H with ⟨Hf, HW, HY⟩
  isplitl [Hf]; · iexact Hf
  isplitl [HO]; · iexact HO
  isplitl [HX]; · iexact HX
  isplitl [HQ]; · iexact HQ
  isplitl [HW]; · iexact HW
  iexact HY

end Cert.KernelIdealRun

end
-- ==== Proof.Launch.lean ====
/- The launch, and the run of the whole program. -/
module

public import proofs.«01_k».proof.Proof.Run
public import Idealize.ShloMosaic.Lib.Pipeline.Kit
public import Idealize.ShloMosaic.Lib.Pipeline.CollectiveSegs

@[expose] public section

noncomputable section

namespace Cert.KernelIdealRun
open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)
variable (ρ : Dev nD → PrngReg)

/-! ## The proof data -/

abbrev O₀ (c : Dev nD) : CellTallies nD τ sig Unit := owing (debt c)

def dats (_ : Fin 1) (c : Dev nD) : Dat τ (Elt F) Unit ℕ UU ℕ cfg0 c where
  A w := m ((cfg0.win w).arr.view.loc (c : Thread nD τ))
  after w _ := match w with
    | ⟨0, _⟩ => xB m c
    | ⟨1, _⟩ => wqB m c
    | ⟨2, _⟩ => woB m c
    | ⟨3, _⟩ => outB m c
  Φ t := match t with
    | ⟨0, _⟩ => iprop(start m c ∗ scr c)
    | ⟨_ + 1, _⟩ => fin c
  q _ := fullShare
  owed t := match t with
    | ⟨0, _⟩ => O₀ c
    | ⟨_ + 1, _⟩ => 0

theorem fetch_all (w : Fin 4) (t : Fin cfg0.N) (hw : w ≠ 3) : (cfg0.win w).fetch t = true := by rw [fin_N0 t]; revert w; decide

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop((start m c ∗ scr c) ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))
set_option maxRecDepth 4000 in
def bodyPost (c : Dev nD) : sProp 𝕄 :=
  iprop(fin c ∗ (dats m 0 c).owesAt () t0_0.succ
    ∗ stg c cc0_stg0_0 (xB m c) ∗ stg c cc0_stg1_0 (wqB m c) ∗ stg c cc0_stg2_0 (woB m c) ∗ stg c cc0_stg3_0 (outB m c))

set_option maxRecDepth 100000 in
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre m c ⊢ WP c (cc0_body (F := F) aX (iw _) aQ (iw _) aK (iw _) aV (iw _) aW (iw _) aY (iw _) a6 (iw _) a7 (iw _) a8 a9 (iw _) a10 (iw _) a11 (iw _) a12 (iw _) a13 (iw _) a14 (iw _) a15 (iw _) a16 (iw _) a17 (iw _) a18 a19 a20) (fun _ => bodyPost m c)
  unfold bodyPre bodyPost
  iintro ⟨⟨Hs, Hscr⟩, Ho, ⟨%d0, %g0, %hg0, HX⟩, ⟨%d1, %g1, %hg1, HQ⟩, ⟨%d2, %g2, %hg2, HW⟩, ⟨%d3, %g3, %hg3, HY⟩⟩
  have h0 : g0 = xB m c := by rw [hg0]; unfold Dat.before; rw [if_pos (fetch_all 0 t0_0 (by decide))]; rfl
  have h1 : g1 = wqB m c := by rw [hg1]; unfold Dat.before; rw [if_pos (fetch_all 1 t0_0 (by decide))]; rfl
  have h2 : g2 = woB m c := by rw [hg2]; unfold Dat.before; rw [if_pos (fetch_all 2 t0_0 (by decide))]; rfl
  subst h0 h1 h2
  unfold Dat.owesAt Pipeline.owesWithin
  icases Ho with ⟨%W, %hW, HO⟩
  iapply (body_run m c) $$ [Hs Hscr HO HX HQ HW HY]
  · isplitl [Hs]; · iexact Hs
    isplitl [Hscr]; · iexact Hscr
    isplitl [HO]; · unfold ow; iexists W; iexact HO
    isplitl [HX]; · iexact HX
    isplitl [HQ]; · iexact HQ
    isplitl [HW]; · iexact HW
    iexists g3; iexact HY
  unfold ow
  iintro ⟨Hf, ⟨%W', HO⟩, HX, HQ, HW, HY⟩
  isplitl [Hf]; · iexact Hf
  isplitl [HO]
  · iexists W'; isplitr; · (ipureintro; exact fun _ _ => Or.inl trivial)
    iexact HO
  isplitl [HX]
  · iexists _; isplitr; · (ipureintro; rfl)
    iexact HX
  isplitl [HQ]
  · iexists _; isplitr; · (ipureintro; rfl)
    iexact HQ
  isplitl [HW]
  · iexists _; isplitr; · (ipureintro; rfl)
    iexact HW
  iexists _; isplitr; · (ipureintro; rfl)
  iexact HY

/-! ## The launch's elements -/

abbrev OS : Type := (Bool × Fin 8) ⊕ (Fin 4 × Fin 3) ⊕ (Fin 4 × Fin 4)
/-- The kernel's own semaphores. -/
def osem : OS → SemLoc sig
  | .inl x => .dma (kvs x.1 x.2)
  | .inr (.inl x) => csem (.s x.1 x.2)
  | .inr (.inr x) => csem (.r x.1 x.2)

set_option maxRecDepth 20000 in
theorem ownSemFacts : Pipeline.OwnSemFacts cfg0.spec osem := by decide +kernel
theorem share_eq (c : Dev nD) (w : Fin cfg0.W) : (dats m 0 c).share w = fullShare := by unfold Dat.share; split <;> rfl

def cells : Finset (GSem nD τ sig) := Finset.univ.map ⟨kcell, kcell_injective⟩
def toks : Finset (GSem nD τ sig × ℕ × D) := Finset.univ.map ⟨payTok, payTok_inj⟩

def u₀ : UU := (initOf (Pipeline.cells cfgs cellOf_inj) (Pipeline.launchToks cfgs cellOf_inj), (initOf cells toks, 1))

/-- What the launch element deals device `c`; -/
def G (c : Dev nD) : sProp 𝕄 :=
  iprop((bigSep Finset.univ fun k : Cell => roundState ER (Rd m) (kcell (c, k)) 0)
    ∗ (bigSep Finset.univ fun k : Cell => iprop(atPos ER (kcell (c, k)) 0 ∅ 0 ∗ reached ER (kcell (c, k)) 0)) ∗ pays c)
/-- the protocol's records without the levels; -/
def recs' (K : Dev nD × Cell → ℕ) : sProp 𝕄 :=
  iprop((bigSep Finset.univ fun ck : Dev nD × Cell => cellInv ER (Rd m) (K ck) (kcell ck)) ∗ (bigSep Finset.univ fun ck : Dev nD × Cell => reached ER (kcell ck) 0))
instance recs'_persistent (K : Dev nD × Cell → ℕ) : BI.Persistent (recs' m K) := by unfold recs'; infer_instance
/-- what the launch's global step makes of it. -/
def G' (c : Dev nD) : sProp 𝕄 := iprop((∃ K, recs' m K ∗ poss c ∗ pays c) ∗ kvZeros c false ∗ kvZeros c true)

theorem fund_ring : BI.own (ER (initOf cells toks)) ⊢ (|==> bigSep Finset.univ (G m) : sProp 𝕄) := by
  have hX (Φ : GSem nD τ sig → sProp 𝕄) : bigSep cells Φ = bigSep Finset.univ fun c : Dev nD => bigSep Finset.univ fun k : Cell => Φ (kcell (c, k)) := by
    unfold cells; rw [bigSep_map, bigSep_univ_prod]; rfl
  have hT : bigSep toks (fun x => (dutyTok ER x.1 x.2.1 x.2.2 : sProp 𝕄)) = bigSep Finset.univ fun c : Dev nD => pays c := by
    unfold toks; rw [bigSep_map, bigSep_univ_prod]; rfl
  iintro HX
  imod (Rounds.fund ER (Rd m) cells toks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

theorem unscopedSems0_eq (c : Dev nD) : (unscopedSems0 c : sProp 𝕄) = semVal (kcell (c, .bar)) 0 := by
  unfold unscopedSems0; rw [bigSep_eq_bigSepL_of_eq [SemLoc.reg barS] (by decide) (by decide)]; rfl
theorem twoL (Φ : Bool × Fin 8 → sProp 𝕄) : bigSep Finset.univ Φ = iprop((bigSep Finset.univ fun h => Φ (false, h)) ∗ bigSep Finset.univ fun h => Φ (true, h)) := by
  rw [bigSep_univ_prod]
  exact bigSep_univ_eq_bigSepL [false, true] (by decide) (by decide) _
theorem ownSems0_eq (c : Dev nD) : (Pipeline.ownSems0 (Ix := Unit) (Name := ℕ) (U := UU) (Lvl := ℕ) (Val := Elt F) (τ := τ) osem c : sProp 𝕄)
    = iprop((kvZeros c false ∗ kvZeros c true) ∗ bigSep Finset.univ (fun x : Fin 4 × Fin 3 => semVal (kcell (c, .s x.1 x.2)) 0)
      ∗ bigSep Finset.univ (fun x : Fin 4 × Fin 4 => semVal (kcell (c, .r x.1 x.2)) 0)) := by
  unfold Pipeline.ownSems0 kvZeros
  rw [bigSep_univ_sum, bigSep_univ_sum, twoL]; rfl
/-- Every semaphore of the kernel, from the launch and back. -/
theorem sems0_eq (c : Dev nD) :
    (iprop(Pipeline.ownSems0 (Ix := Unit) (Name := ℕ) (U := UU) (Lvl := ℕ) (Val := Elt F) (τ := τ) osem c ∗ unscopedSems0 c) : sProp 𝕄)
      ⊢ iprop(zeros c ∗ kvZeros c false ∗ kvZeros c true) := by
  unfold zeros
  rw [ownSems0_eq, unscopedSems0_eq, cells_eq]
  iintro ⟨⟨⟨H1, H2⟩, H3, H4⟩, H5⟩
  isplitl [H3 H4 H5]
  · isplitl [H5]; · iexact H5
    isplitl [H3]; · iexact H3
    iexact H4
  isplitl [H1]; · iexact H1
  iexact H2
theorem sems0_back (c : Dev nD) :
    iprop(zeros c ∗ kvZeros c false ∗ kvZeros c true)
      ⊢ (iprop(unscopedSems0 c ∗ Pipeline.ownSems0 (Ix := Unit) (Name := ℕ) (U := UU) (Lvl := ℕ) (Val := Elt F) (τ := τ) osem c) : sProp 𝕄) := by
  unfold zeros
  rw [ownSems0_eq, unscopedSems0_eq, cells_eq]
  iintro ⟨⟨H5, H3, H4⟩, H1, H2⟩
  isplitl [H5]; · iexact H5
  isplitl [H1 H2]
  · isplitl [H1]; · iexact H1
    iexact H2
  isplitl [H3]; · iexact H3
  iexact H4

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cell => iprop(∃ κ : ℕ, cellInv ER (Rd m) κ (kcell (c, k))))
          ∗ (bigSep Finset.univ fun k : Cell => iprop(atPos ER (kcell (c, k)) 0 ∅ 0 ∗ reached ER (kcell (c, k)) 0)) ∗ pays c ∗ kvZeros c false ∗ kvZeros c true) := by
  unfold G
  iintro ⟨Hos, Hus, Hst, Hat, Htok⟩
  ihave Hv := (sems0_eq (F := F) c) $$ [Hos Hus]
  · isplitl [Hos] <;> iassumption
  icases Hv with ⟨Hv, HK, HV⟩
  imod (show iprop(zeros c ∗ bigSep Finset.univ fun k : Cell => roundState ER (Rd m) (kcell (c, k)) 0)
      ⊢ (|={Set.univ}=> bigSep Finset.univ fun k : Cell => iprop(∃ κ : ℕ, cellInv ER (Rd m) κ (kcell (c, k))) : sProp 𝕄) from by
        unfold zeros
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  isplitl [HK] <;> iassumption

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem deal_one (K : Dev nD × Cell → ℕ) (c : Dev nD) : iprop(recs' m K ∗ poss c ∗ pays c ∗ kvZeros c false ∗ kvZeros c true) ⊢ G' m c := by
  unfold G'
  iintro ⟨HR, Hp, Ht, HK, HV⟩
  isplitl [HR Hp Ht]
  · iexists K
    isplitl [HR]; · iexact HR
    isplitl [Hp]; · iexact Hp
    iexact Ht
  isplitl [HK] <;> iassumption

theorem regroup :
    (bigSep Finset.univ fun c : Dev nD => iprop((bigSep Finset.univ fun k : Cell => iprop(∃ κ : ℕ, cellInv ER (Rd m) κ (kcell (c, k))))
          ∗ (bigSep Finset.univ fun k : Cell => iprop(atPos ER (kcell (c, k)) 0 ∅ 0 ∗ reached ER (kcell (c, k)) 0)) ∗ pays c ∗ kvZeros c false ∗ kvZeros c true) : sProp 𝕄)
      ⊢ bigSep Finset.univ (G' m) := by
  rw [bigSep_sep', bigSep_sep', ← bigSep_univ_prod (fun ck : Dev nD × Cell => iprop(∃ κ : ℕ, cellInv ER (Rd m) κ (kcell ck))),
    bigSep_congr (s := Finset.univ) (fun (c : Dev nD) _ => bigSep_sep' Finset.univ (fun k : Cell => (atPos ER (kcell (c, k)) 0 ∅ 0 : sProp 𝕄)) (fun k => reached ER (kcell (c, k)) 0)),
    bigSep_sep', ← bigSep_univ_prod (fun ck : Dev nD × Cell => (reached ER (kcell ck) 0 : sProp 𝕄))]
  iintro ⟨HI, ⟨Hat, #HR⟩, Htok⟩
  ihave HK := (BI.bigSep_exists_pi Finset.univ (fun (ck : Dev nD × Cell) (κ : ℕ) => (cellInv ER (Rd m) κ (kcell ck) : sProp 𝕄))) $$ HI
  icases HK with ⟨%K, #HI⟩
  iapply (with_persistent (R := recs' m K) fun c _ => deal_one m K c)
  isplitr
  · unfold recs'; isplitl; · iexact HI
    iexact HR
  · iapply (Entails.of_eq (bigSep_sep' Finset.univ (fun c : Dev nD => (poss c : sProp 𝕄)) (fun c => iprop(pays c ∗ kvZeros c false ∗ kvZeros c true))).symm)
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem owed_all (c : Dev nD) (k : Cell) : launchCredit (Pipeline.owing O₀) 0 (kcell (c, k)) = Finsupp.single () (due c k * amt k) := by
  refine Finsupp.ext fun u => ?_
  cases u
  rw [Pipeline.launchCredit_owing, Finsupp.single_eq_same, Finset.sum_congr rfl fun d _ => owing_at (debt d) (c, k), ← Finset.sum_mul]
  exact congrArg (· * amt k) (due_eq c k)
theorem creds_intro (c : Dev nD) : (Pipeline.launchCred O₀ c : sProp 𝕄) ⊢ creds c := by
  unfold Pipeline.launchCred creds
  refine (bigSep_subset (Finset.subset_univ (Finset.univ.map ⟨csem, csem_inj⟩))).trans ?_
  rw [bigSep_map]
  refine Entails.of_eq (bigSep_congr fun k _ => ?_)
  unfold tallyAt
  exact congrArg (fun x => (cred (tallyOn (kcell (c, k)) x) : sProp 𝕄)) (owed_all c k)

/-! ## Into the body and out -/

/-- What stays outside: what is left of the two arrays that the body only reads. -/
def Z (c : Dev nD) : sProp 𝕄 :=
  iprop(((hM false).view.loc (c : Thread nD τ) ↦{Transfers.shareDrop fullShare 8} m ((hM false).view.loc (c : Thread nD τ)))
    ∗ ((hM true).view.loc (c : Thread nD τ) ↦{Transfers.shareDrop fullShare 8} m ((hM true).view.loc (c : Thread nD τ))))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ Z m c) := by
  rw [Pipeline.unscopedRestP_none]
  iintro ⟨Hr, Hlev, Hcr, -, HG⟩
  ihave Hr := (Entails.of_eq (unscopedRest0_eq c _)) $$ Hr
  icases Hr with ⟨H2, H3⟩
  ihave Hc := (creds_intro (F := F) c) $$ Hcr
  ihave H2 := (Transfers.pointsTo_toks_split fullShare 8) $$ H2
  ihave H3 := (Transfers.pointsTo_toks_split fullShare 8) $$ H3
  icases H2 with ⟨D2, T2⟩
  icases H3 with ⟨D3, T3⟩
  unfold G'
  icases HG with ⟨⟨%K, HR, Hp, Ht⟩, HK, HV⟩
  imodintro
  unfold start Z recs recs' kvShares
  isplitr [D2 D3]
  · iexists K
    isplitl [HR Hlev]
    · icases HR with ⟨H1, H2⟩
      isplitl [H1]; · iexact H1
      isplitl [H2]; · iexact H2
      iexact Hlev
    isplitl [Hp]; · iexact Hp
    isplitl [Ht]; · iexact Ht
    isplitl [Hc]; · iexact Hc
    isplitl [HK HV]
    · isplitl [HK] <;> iassumption
    isplitl [T2]; · iexact T2
    iexact T3
  isplitl [D2]; · iexact D2
  iexact D3

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scr c) from rfl, scopedRest0_eq]
  unfold scr
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = fin c from rfl, scopedRest0_eq]
  unfold fin scr
  iintro ⟨Hr, Hz⟩
  ihave Hz := (sems0_back (F := F) c) $$ Hz
  icases Hz with ⟨H1, H2⟩
  isplitl [H1]; · iexact H1
  isplitl [H2]; · iexact H2
  iexact Hr

theorem stage_lv (c : Dev nD) (w : Fin 4) (s : Fin ((cfg0.win w).nbuf)) : lv ((c : Thread nD τ), .dma ((cfg0.win w).sem s)) () = 0 := by
  fin_cases w <;> fin_cases s <;> rfl
theorem debt_lvl : ∀ (c : Dev nD), ∀ x ∈ debt c, 0 < lvl x.2 := by decide +kernel
theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_of c _ 0 (le_of_eq (stage_lv c w s)) (debt c) (debt_lvl c)
    · exact mayWait_of c _ 0 (le_of_eq (stage_lv c w s)) [] (fun x hx => by cases hx)

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r => ∀ c : Dev nD,
  (∀ w : Fin cfg0.W, r.2.mem ((cfg0.win w).arr.view.loc (c : Thread nD τ)) = finalA m c w)
    ∧ r.2.mem ((c : Thread nD τ).loc main_arg2) = m ((c : Thread nD τ).loc main_arg2) ∧ r.2.mem ((c : Thread nD τ).loc main_arg3) = m ((c : Thread nD τ).loc main_arg3)

theorem twoB (Φ : Bool → sProp 𝕄) : bigSep Finset.univ Φ = iprop(Φ false ∗ Φ true) := bigSep_univ_eq_bigSepL [false, true] (by decide) (by decide) Φ
theorem own_ER (a : UB) : (BI.own (((Emb.inl : Emb UB (UB × Counters)).trans embR) a) : sProp 𝕄) ⊢ BI.own (ER a) := .rfl
theorem read_Z (c : Dev nD) (s' : Phys nD τ sig (Elt F)) : iprop(Z m c ∗ SI s')
    ⊢ iprop(⌜s'.mem.mem ((c : Thread nD τ).loc main_arg2) = m ((c : Thread nD τ).loc main_arg2) ∧ s'.mem.mem ((c : Thread nD τ).loc main_arg3) = m ((c : Thread nD τ).loc main_arg3)⌝ ∗ SI s') := by
  unfold Z
  iintro ⟨HZ, HSI⟩
  ihave H := (pointsTo_read_all (Finset.univ : Finset Bool) (fun b => (hM b).view.loc (c : Thread nD τ)) (fun b => m ((hM b).view.loc (c : Thread nD τ))) s' (Transfers.shareDrop fullShare 8)) $$ [HZ HSI]
  · isplitl [HZ]
    · iapply (Entails.of_eq (twoB (F := F) _).symm)
      iexact HZ
    iexact HSI
  icases H with ⟨%h, HSI⟩
  isplitr; · ipureintro; exact ⟨h false (Finset.mem_univ _), h true (Finset.mem_univ _)⟩
  iexact HSI

set_option maxRecDepth 8000 in
/-- From any memory with zero counters every weakly fair execution on the sixteen devices terminates; every final state has
    each device's result at the computed contents, every argument unchanged and every counter at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX := (own_pair_emb _ _ _) $$ HX
      icases HX with ⟨HX, -⟩
      imod ((own_ER (F := F) _).trans (fund_ring m)) $$ HX with HG
      imodintro
      isplitl [HP] <;> iassumption)
    (hglob := glob m)
    (hA := fun _ _ => rfl) (hpf := fun _ k => k.elim0)
    (X := start m) (Y := fun c => unscopedSems0 c) (Z := Z m)
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg2) = m ((c : Thread nD τ).loc main_arg2) ∧ s.mem ((c : Thread nD τ).loc main_arg3) = m ((c : Thread nD τ).loc main_arg3))
    (hY := fun c s' => by
      iintro ⟨Hu, HZ, HSI⟩
      ihave H := (read_Z m c s') $$ [HZ HSI]
      · isplitl [HZ] <;> iassumption
      icases H with ⟨%hz, HSI⟩
      imod (Pipeline.unscopedSems0_read (X := unscopedSems0 c) (c := c) fupd_intro s') $$ [Hu HSI] with ⟨%hs, HSI⟩
      · isplitl [Hu] <;> iassumption
      imodintro
      isplitr; · ipureintro; exact ⟨hs, hz⟩
      iexact HSI)
    (hQ := fun _ h hs => ⟨fun c => ⟨fun w => (h c).1 w, (h c).2.2.2⟩, sem_eq_zero hs fun c => (h c).2.2.1⟩)

theorem finalA_0 (c : Dev nD) : finalA m c (0 : Fin 4) = m ((c : Thread nD τ).loc main_arg0) := (dats (F := F) m 0 c).arrAt_in (0 : Fin 4) rfl _
theorem finalA_1 (c : Dev nD) : finalA m c (1 : Fin 4) = m ((c : Thread nD τ).loc main_arg1) := (dats (F := F) m 0 c).arrAt_in (1 : Fin 4) rfl _
theorem finalA_2 (c : Dev nD) : finalA m c (2 : Fin 4) = m ((c : Thread nD τ).loc main_arg4) := (dats (F := F) m 0 c).arrAt_in (2 : Fin 4) rfl _
theorem finalA_3 (c : Dev nD) : (win0_3.blk t0_0).view.read (Elt F) (finalA m c (3 : Fin 4)) = outB m c := by
  unfold finalA
  rw [show cfg0.N = (t0_0 : Fin cfg0.N).val + 1 from rfl, (dats m 0 c).arrAt_succ (3 : Fin 4) t0_0]
  rw [show (cfg0.win (3 : Fin 4)).flush t0_0 = true from by decide, if_pos rfl]
  exact View.read_write_univ _ _

/-- The run, read at the buffers. -/
theorem run_args : θ_run defs (onTc (τ := τ) (main (F := F))) ⟨m, fun _ => 0, ρ⟩ (fun r => (∀ c : Dev nD,
    r.2.mem ((c : Thread nD τ).loc main_v1) = finalA m c (3 : Fin 4)
    ∧ r.2.mem ((c : Thread nD τ).loc main_arg0) = m ((c : Thread nD τ).loc main_arg0) ∧ r.2.mem ((c : Thread nD τ).loc main_arg1) = m ((c : Thread nD τ).loc main_arg1)
    ∧ r.2.mem ((c : Thread nD τ).loc main_arg2) = m ((c : Thread nD τ).loc main_arg2) ∧ r.2.mem ((c : Thread nD τ).loc main_arg3) = m ((c : Thread nD τ).loc main_arg3)
    ∧ r.2.mem ((c : Thread nD τ).loc main_arg4) = m ((c : Thread nD τ).loc main_arg4)) ∧ r.2.sem = fun _ => 0) :=
  (θ_run defs _ _).mono (fun r h => ⟨fun c => ⟨(h.1 c).1 3, ((h.1 c).1 0).trans (finalA_0 m c), ((h.1 c).1 1).trans (finalA_1 m c), (h.1 c).2.1, (h.1 c).2.2,
    ((h.1 c).1 2).trans (finalA_2 m c)⟩, h.2⟩) (run_main m ρ)

end Cert.KernelIdealRun

end
-- ==== Proof.Soft.lean ====
/- Sums and softmax over the extended reals: a masked row of scores against the row of the keys that are not masked. -/
module

public import Idealize.ShloMosaic.PureOps.Ideal.Laws

@[expose] public section

noncomputable section

namespace Cert.Soft

open Idealize.ShloMosaic

/-- A sum whose terms vanish off the image of an injection is the sum along it. -/
theorem sum_along {n N : ℕ} {e : Fin n → Fin N} (he : Function.Injective e) (f : Fin N → EReal)
    (h0 : ∀ j, (∀ r, e r ≠ j) → f j = 0) : ∑ j, f j = ∑ r, f (e r) := by
  rw [← Finset.sum_image (f := f) (s := Finset.univ) (g := e) (fun a _ b _ h => he h)]
  refine (Finset.sum_subset (Finset.subset_univ _) fun j _ hj => h0 j fun r h => hj ?_).symm
  exact Finset.mem_image.mpr ⟨r, Finset.mem_univ _, h⟩

/-- A nonnegative real factor distributes over a sum, whatever the terms. -/
theorem sum_mul_real {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum of products of reals is a real. -/
theorem exists_sum_mul {n : ℕ} (f g : Fin n → EReal) (hf : ∀ k, ∃ r : ℝ, f k = r) (hg : ∀ k, ∃ r : ℝ, g k = r) :
    ∃ r : ℝ, ∑ k, f k * g k = r := by
  choose a ha using hf
  choose b hb using hg
  exact ⟨∑ k, a k * b k, by rw [← coe_sum]; exact Finset.sum_congr rfl fun k _ => by rw [ha, hb, EReal.coe_mul]⟩

/-- The maximum of a masked row is that of the keys not masked. -/
theorem sup_along {n N : ℕ} (S : Fin N → EReal) (e : Fin n → Fin N) (hN : ∀ j, (∀ r, e r ≠ j) → S j = ⊥) :
    Finset.univ.sup S = Finset.univ.sup fun r => S (e r) := by
  apply le_antisymm
  · refine Finset.sup_le fun j _ => ?_
    by_cases h : ∃ r, e r = j
    · obtain ⟨r, rfl⟩ := h
      exact Finset.le_sup (f := fun r => S (e r)) (Finset.mem_univ r)
    · rw [hN j fun r hr => h ⟨r, hr⟩]; exact bot_le
  · exact Finset.sup_le fun r _ => Finset.le_sup (f := S) (Finset.mem_univ (e r))

/-- Of a masked row of scores, those not masked real: the values weighted by the normalised weights of the whole row are the
    values of the keys not masked, weighted, and normalised after the sum. -/
theorem softmax {n N : ℕ} [NeZero n] (S V : Fin N → EReal) (e : Fin n → Fin N) (he : Function.Injective e)
    (hS : ∀ r, ∃ x : ℝ, S (e r) = x) (hN : ∀ j, (∀ r, e r ≠ j) → S j = ⊥) :
    ∑ j, V j * Ideal.div (Ideal.exp (S j - Finset.univ.sup S)) (∑ k, Ideal.exp (S k - Finset.univ.sup S))
      = Ideal.div (∑ r, Ideal.exp (S (e r) - Finset.univ.sup fun r => S (e r)) * V (e r))
          (∑ r, Ideal.exp (S (e r) - Finset.univ.sup fun r => S (e r))) := by
  rw [sup_along S e hN]
  obtain ⟨r0, -, hr0⟩ := Finset.exists_mem_eq_sup Finset.univ ⟨0, Finset.mem_univ _⟩ fun r => S (e r)
  rw [hr0]
  choose x hx using hS
  have hw : ∀ r, Ideal.exp (S (e r) - S (e r0)) = ((Real.exp (x r - x r0) : ℝ) : EReal) := fun r => by
    rw [hx, hx, ← EReal.coe_sub]; rfl
  have hz : ∀ j, (∀ r, e r ≠ j) → Ideal.exp (S j - S (e r0)) = 0 := fun j hj => by
    rw [hN j hj, hx, EReal.bot_sub]; rfl
  have hd : ∑ k, Ideal.exp (S k - S (e r0)) = ((∑ r, Real.exp (x r - x r0) : ℝ) : EReal) := by
    rw [sum_along he _ hz, ← coe_sum]; exact Finset.sum_congr rfl fun r _ => hw r
  have hd' : ∑ r, Ideal.exp (S (e r) - S (e r0)) = ((∑ r, Real.exp (x r - x r0) : ℝ) : EReal) := by
    rw [← coe_sum]; exact Finset.sum_congr rfl fun r _ => hw r
  have hD : 0 < ∑ r, Real.exp (x r - x r0) := Finset.sum_pos (fun r _ => Real.exp_pos _) ⟨0, Finset.mem_univ _⟩
  rw [hd, hd']
  generalize (∑ r, Real.exp (x r - x r0)) = D at hD
  have hdiv : ∀ y : EReal, Ideal.div y (D : EReal) = y * ((D⁻¹ : ℝ) : EReal) := fun y => by
    unfold Ideal.div
    rw [if_neg (by exact_mod_cast hD.ne'), EReal.coe_inv]
  rw [hdiv, sum_mul_real _ _ (inv_nonneg.mpr hD.le), sum_along he]
  · refine Finset.sum_congr rfl fun r _ => ?_
    rw [hdiv, ← mul_assoc, mul_comm (V (e r))]
  · intro j hj
    rw [hz j hj, hdiv, zero_mul, mul_zero]

/-! ## The keys of a group -/

/-- Key `r` of group `g`: of the blocks of 64 keys those of numbers `g` modulo 4, block after block. -/
def key (g : Fin 4) (r : Fin 1024) : Fin 4096 := ⟨(r.val / 64 * 4 + g.val) * 64 + r.val % 64, by omega⟩

theorem key_injective (g : Fin 4) : Function.Injective (key g) := fun a b h => Fin.ext (by
  have h' : (a.val / 64 * 4 + g.val) * 64 + a.val % 64 = (b.val / 64 * 4 + g.val) * 64 + b.val % 64 := congrArg Fin.val h
  omega)

theorem key_mod (g : Fin 4) (r : Fin 1024) : (key g r).val / 64 % 4 = g.val := by
  show ((r.val / 64 * 4 + g.val) * 64 + r.val % 64) / 64 % 4 = g.val
  omega

theorem exists_key (g : Fin 4) (j : Fin 4096) (h : j.val / 64 % 4 = g.val) : ∃ r, key g r = j :=
  ⟨⟨j.val / 256 * 64 + j.val % 64, by omega⟩, Fin.ext (by
    show ((j.val / 256 * 64 + j.val % 64) / 64 * 4 + g.val) * 64 + (j.val / 256 * 64 + j.val % 64) % 64 = j.val
    omega)⟩

end Cert.Soft

end
-- ==== Proof.KVal.lean ====
/- The kernel's result over ideal numbers, element by element: the sum over the devices of their contexts' products with
   their rows of `Wo`, a context element being its queries' scores against its group's keys, exponentiated, normalised. -/
module

public import proofs.«01_k».proof.Proof.Sched
public import proofs.«01_k».proof.Proof.Soft
public import Idealize.ShloMosaic.Lib.MatmulPlain
public import Idealize.ShloMosaic.Lib.ValueIdx
public import Idealize.ShloMosaic.Lib.ValueLayout
public import Idealize.ShloMosaic.Lib.ValueLayoutCasts
public import Idealize.ShloMosaic.Lib.Pointwise.Reduce

@[expose] public section

noncomputable section

namespace Cert.KernelIdealRun
open Cert.KernelIdeal Cert.KernelIdeal.Gen

open Idealize.ShloMosaic hiding ix0 ix1 ix2 ix3 ix4 ix5 ix6
open Idealize.ShloMosaic.TcCoe
open Idealize.SL.Sem
open Cert.Soft (key)
open Idealize.ShloMosaic.ValueIdx

/-! ## Layout -/

section AnyElement
variable {α : Type}

theorem cast_same {s : Shape} (x : s.Idx → α) (h : s.ShapeCasts s) (i : s.Idx) : shapeCast s x h i = x i :=
  shapeCast_apply x h i i rfl

theorem cast_a1b_ab {a b : ℕ} (x : (⟨3, ![a, 1, b]⟩ : Shape).Idx → α) (h : (⟨3, ![a, 1, b]⟩ : Shape).ShapeCasts ⟨2, ![a, b]⟩)
    (i : Fin a) (j : Fin b) : shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

theorem cast_a1bc_abc {a b c : ℕ} (x : (⟨4, ![a, 1, b, c]⟩ : Shape).Idx → α)
    (h : (⟨4, ![a, 1, b, c]⟩ : Shape).ShapeCasts ⟨3, ![a, b, c]⟩) (i : Fin a) (j : Fin b) (k : Fin c) :
    shapeCast ⟨3, ![a, b, c]⟩ x h (ix3 i j k) = x (ix4 i (0 : Fin 1) j k) :=
  shapeCast_apply x h _ _ (by
    rw [Shape.rowMajor_val_four, Shape.rowMajor_val_three]
    show ((i.val * 1 + 0) * b + j.val) * c + k.val = (i.val * b + j.val) * c + k.val
    rw [Nat.mul_one, Nat.add_zero])

/-- Two leading axes merged, -/
theorem cast_abc_nc {a b c n : ℕ} (x : (⟨3, ![a, b, c]⟩ : Shape).Idx → α) (h : (⟨3, ![a, b, c]⟩ : Shape).ShapeCasts ⟨2, ![n, c]⟩)
    (r : Fin n) (k : Fin c) (i : Fin a) (j : Fin b) (hr : i.val * b + j.val = r.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- the leading axis split in three, -/
theorem cast_nc_abdc {a b d c n : ℕ} (x : (⟨2, ![n, c]⟩ : Shape).Idx → α)
    (h : (⟨2, ![n, c]⟩ : Shape).ShapeCasts ⟨4, ![a, b, d, c]⟩) (i : Fin a) (j : Fin b) (l : Fin d) (k : Fin c) (r : Fin n)
    (hr : r.val = (i.val * b + j.val) * d + l.val) : shapeCast ⟨4, ![a, b, d, c]⟩ x h (ix4 i j l k) = x (ix2 r k) :=
  shapeCast_apply x h _ _ (by
    rw [Shape.rowMajor_val_four, Shape.rowMajor_val_two]
    show r.val * c + k.val = ((i.val * b + j.val) * d + l.val) * c + k.val
    rw [hr])

/-- and the trailing axis split in two. -/
theorem cast_an_abc {a b c n : ℕ} (x : (⟨2, ![a, n]⟩ : Shape).Idx → α)
    (h : (⟨2, ![a, n]⟩ : Shape).ShapeCasts ⟨3, ![a, b, c]⟩) (i : Fin a) (j : Fin b) (k : Fin c) (l : Fin n) (hn : n = b * c)
    (hl : l.val = j.val * c + k.val) : shapeCast ⟨3, ![a, b, c]⟩ x h (ix3 i j k) = x (ix2 i l) :=
  shapeCast_apply x h _ _ (by
    rw [Shape.rowMajor_val_three, Shape.rowMajor_val_two]
    show i.val * n + l.val = (i.val * b + j.val) * c + k.val
    rw [hl, hn, Nat.add_mul, Nat.mul_assoc, Nat.add_assoc])

theorem cast_1ab (a b : ℕ) (x : (⟨2, ![a, b]⟩ : Shape).Idx → α) (h : (⟨2, ![a, b]⟩ : Shape).ShapeCasts ⟨3, ![1, a, b]⟩)
    (i : Fin a) (j : Fin b) : shapeCast ⟨3, ![1, a, b]⟩ x h (ix3 (0 : Fin 1) i j) = x (ix2 i j) :=
  shapeCast_ab_1ab_apply x h 0 i j

theorem bcast_a1_ab {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) :=
  broadcastTo_apply v h _ _ fun x => by
    match x with
    | ⟨0, _⟩ =>
      show i.val = if a = 1 then 0 else i.val
      split
      · have := i.isLt; omega
      · rfl
    | ⟨1, _⟩ => rfl

end AnyElement

theorem qTile_apply (q : FVec Ideal S256x8x128 .bf16) (g : Fin 4) (h : Fin 8) (i : Fin 64) (d : Fin 128) :
    qTile q g h (ix2 i d) = q (ix3 (⟨64 * g.val + i.val, by omega⟩ : Fin 256) h d) := by
  unfold qTile qHead
  refine (slice2_axis0_apply (64 * g.val) _ (sl_g g) i d (⟨64 * g.val + i.val, by omega⟩ : Fin 256) rfl).trans ?_
  refine (cast_a1b_ab _ _ _ _).trans ?_
  exact slice3_axis1_apply h.val q (sl_q h) _ 0 d h rfl

theorem kvTile_apply (k : Vec Ideal S1x4096x128 .f32) (g : Fin 4) (r : Fin 1024) (d : Fin 128) :
    kvTile k g (ix2 r d) = k (ix3 (0 : Fin 1) (key g r) d) := by
  unfold kvTile
  refine (cast_abc_nc _ _ r d (⟨r.val / 64, by omega⟩ : Fin 16) (⟨r.val % 64, by omega⟩ : Fin 64) (by
    show r.val / 64 * 64 + r.val % 64 = r.val; omega)).trans ?_
  refine (cast_a1bc_abc _ _ _ _ _).trans ?_
  refine (slice4_axis1_apply g.val _ (sl_k g) _ 0 _ d g rfl).trans ?_
  refine (cast_nc_abdc _ _ _ _ _ _ (key g r) rfl).trans ?_
  exact shapeCast_1ab_ab_apply k _ _ _

/-! ## The attention of one group and head -/

theorem zero_word : Ideal.ofBits .f32 0x00000000#32 = 0 := by simp [Ideal.ofBits, Ideal.ieee]
theorem bot_word : Ideal.ofBits .f32 0xFF800000#32 = ⊥ := by simp [Ideal.ofBits, Ideal.ieee]

theorem scores_apply (q : FVec Ideal S64x128 .bf16) (k : FVec Ideal S1024x128 .bf16) (i : Fin 64) (r : Fin 1024) :
    scores q k (ix2 i r) = (∑ d : Fin 128, q (ix2 i d) * k (ix2 r d)) * Ideal.ofBits .f32 0x3DB504F3#32 := by
  refine congrArg (· * Ideal.ofBits .f32 0x3DB504F3#32) ?_
  refine (Ideal.matmul_transposedRhs_apply (M := 64) (K := 128) (N := 1024) none q k _ i r).trans ?_
  rw [ValueIdx.constant_apply, zero_word, zero_add]

theorem rowMax_apply (s : FVec Ideal S64x1024 .f32) (i : Fin 64) :
    multiReduction .maximumf [1] S64 s 0xFF800000#32 reduces_S64x1024_S64 (.inl rfl) rfl (ix1 i)
      = Finset.univ.sup fun r : Fin 1024 => s (ix2 i r) := by
  refine (multiReduction_maximumf_eq_fold s _ reduces_S64x1024_S64 (.inl rfl) rfl (ix1 i)).trans ?_
  refine (Shape.Reduces.fold_fiber_r2_a1 reduces_S64x1024_S64 (ix1 i) _ _ s).trans ?_
  show Finset.univ.fold max (Ideal.ofBits .f32 0xFF800000#32) _ = _
  rw [bot_word]; rfl

theorem expw_apply (s : FVec Ideal S64x1024 .f32) (i : Fin 64) (r : Fin 1024) :
    expw s (ix2 i r) = Ideal.exp (s (ix2 i r) - Finset.univ.sup fun k : Fin 1024 => s (ix2 i k)) := by
  refine congrArg (fun y => Ideal.exp (s (ix2 i r) - y)) ?_
  refine (bcast_a1_ab _ _ i r).trans ?_
  refine (shapeCast_a_a1_apply _ _ i 0).trans ?_
  exact rowMax_apply s i

theorem rowSum_apply (w : FVec Ideal S64x1024 .f32) (i : Fin 64) :
    multiReduction .add [1] S64 w 0x00000000#32 reduces_S64x1024_S64 (.inl rfl) rfl (ix1 i) = ∑ r : Fin 1024, w (ix2 i r) :=
  Shape.Reduces.sum_fiber_r2_a1 reduces_S64x1024_S64 (ix1 i) w

theorem tileOf_apply (w : FVec Ideal S64x1024 .f32) (v : FVec Ideal S1024x128 .bf16) (i : Fin 64) (d : Fin 128) :
    tileOf w v (ix2 i d) = Ideal.div (∑ r : Fin 1024, w (ix2 i r) * v (ix2 r d)) (∑ r : Fin 1024, w (ix2 i r)) := by
  unfold tileOf
  refine (cast_same _ _ _).trans ?_
  refine congrArg₂ Ideal.div ?_ ?_
  · refine (Ideal.matmul_plain_apply (M := 64) (K := 1024) (N := 128) none _ v _ i d).trans ?_
    rw [ValueIdx.constant_apply, zero_word, zero_add]
    rfl
  · refine (bcast_a1_ab _ _ i d).trans ?_
    refine (shapeCast_a_a1_apply _ _ i 0).trans ?_
    exact rowSum_apply w i

variable (m : (ℓ : Loc nD τ sig) → Buf (Elt Ideal) ℓ)

/-- The queries of device `c`. -/
theorem qv_apply (c : Dev nD) (I : Fin 256) (h : Fin 8) (d : Fin 128) : qv m c (ix3 I h d)
    = ∑ e : Fin 1024, xB m c (ix3 (0 : Fin 1) I e) * wqB m c (ix2 e (⟨h.val * 128 + d.val, by omega⟩ : Fin 1024)) := by
  unfold qv k0_pay2
  refine (cast_an_abc _ _ I h d (⟨h.val * 128 + d.val, by omega⟩ : Fin 1024) rfl rfl).trans ?_
  refine (Ideal.matmul_plain_apply (M := 256) (K := 1024) (N := 1024) none _ _ _ I _).trans ?_
  rw [ValueIdx.constant_apply, zero_word, zero_add]
  refine Finset.sum_congr rfl fun e _ => congrArg₂ (· * ·) ?_ ?_
  · exact shapeCast_1ab_ab_apply (xB m c) _ I e
  · exact cast_same (wqB m c) _ _

/-- The scaled scores of query row `I` and head `h` of device `c`. -/
def sc (c : Dev nD) (h : Fin 8) (I : Fin 256) (j : Fin 4096) : EReal :=
  (∑ d : Fin 128, qv m c (ix3 I h d) * slabH c (kA m c) h (ix3 (0 : Fin 1) j d)) * Ideal.ofBits .f32 0x3DB504F3#32

theorem ctx_apply (c : Dev nD) (I : Fin 256) (k : Fin 1024) (g : Fin 4) (h : Fin 8) (d : Fin 128)
    (hg : I.val / 64 = g.val) (hh : k.val = h.val * 128 + d.val) : CTX m c (ix2 I k)
    = Ideal.div (∑ r : Fin 1024, Ideal.exp (sc m c h I (key g r) - Finset.univ.sup fun r => sc m c h I (key g r))
          * slabH c (vA m c) h (ix3 (0 : Fin 1) (key g r) d))
        (∑ r : Fin 1024, Ideal.exp (sc m c h I (key g r) - Finset.univ.sup fun r => sc m c h I (key g r))) := by
  have e1 : (⟨I.val / 64, by omega⟩ : Fin 4) = g := Fin.ext hg
  have e2 : (⟨k.val / 128, by omega⟩ : Fin 8) = h := Fin.ext (by show k.val / 128 = h.val; omega)
  have e3 : (⟨k.val % 128, Nat.mod_lt _ (by decide)⟩ : Fin 128) = d := Fin.ext (by show k.val % 128 = d.val; omega)
  show attnTile (qv m c) (slabH c (kA m c) ⟨k.val / 128, _⟩) (slabH c (vA m c) ⟨k.val / 128, _⟩) ⟨I.val / 64, _⟩ ⟨k.val / 128, _⟩
    (ix2 (⟨I.val % 64, _⟩ : Fin 64) (⟨k.val % 128, _⟩ : Fin 128)) = _
  rw [e1, e2, e3]
  have hs : ∀ r : Fin 1024, scores (qTile (qv m c) g h) (kvTile (slabH c (kA m c) h) g)
      (ix2 (⟨I.val % 64, Nat.mod_lt _ (by decide)⟩ : Fin 64) r) = sc m c h I (key g r) := fun r => by
    rw [scores_apply]
    refine congrArg (· * Ideal.ofBits .f32 0x3DB504F3#32) (Finset.sum_congr rfl fun d _ => ?_)
    rw [qTile_apply, kvTile_apply]
    have e : (⟨64 * g.val + I.val % 64, by omega⟩ : Fin 256) = I := Fin.ext (by show 64 * g.val + I.val % 64 = I.val; omega)
    exact congrArg (fun x => qv m c (ix3 x h d) * _) e
  unfold attnTile
  rw [tileOf_apply]
  refine congrArg₂ Ideal.div (Finset.sum_congr rfl fun r _ => ?_) (Finset.sum_congr rfl fun r _ => ?_)
  · rw [expw_apply, kvTile_apply]; simp only [hs]
  · rw [expw_apply]; simp only [hs]

/-! ## The sums over the devices -/

theorem partRows_apply (c : Dev nD) (j : Fin 4) (i : Fin 64) (n : Fin 1024) : partRows m c j (ix2 i n)
    = ∑ k : Fin 1024, CTX m c (ix2 (⟨64 * j.val + i.val, by omega⟩ : Fin 256) k) * woB m c (ix2 k n) := by
  unfold partRows k0_pay94 k0_pay92 k0_pay91
  refine (cast_same _ _ _).trans ?_
  refine (Ideal.matmul_plain_apply (M := 64) (K := 1024) (N := 1024) (φ₁ := .bf16) none (ctxRows m c j) _ _ i n).trans ?_
  rw [ValueIdx.constant_apply, zero_word, zero_add]
  exact Finset.sum_congr rfl fun k _ => congrArg (_ * ·) (cast_same (woB m c) _ _)

theorem CS_apply (c : Dev nD) (i : Fin 64) (n : Fin 1024) : CS m c (ix2 i n) = ∑ p : Fin 4, BA m c (ix3 p i n) := by
  unfold CS k0_pay105
  refine (cast_same _ _ _).trans ?_
  exact Shape.Reduces.sum_fiber_r3_a0 reduces_S4x64x1024_S64x1024 (ix2 i n) (BA m c)

theorem AG_apply (c : Dev nD) (i : Fin 16) (n : Fin 1024) : AG m c (ix2 i n) = ∑ z : Fin 4, BB m c (ix3 z i n) := by
  unfold AG k0_pay108
  refine (cast_same _ _ _).trans ?_
  exact Shape.Reduces.sum_fiber_r3_a0 reduces_S4x16x1024_S16x1024 (ix2 i n) (BB m c)

/-- Device `(z, p)` of the grid. -/
def dev (z p : Fin 4) : Dev nD := ⟨z.val * 4 + p.val, by show _ < 16; omega⟩

theorem outB_apply (c : Dev nD) (I : Fin 256) (n : Fin 1024) : outB m c (ix3 (0 : Fin 1) I n)
    = ∑ z : Fin 4, ∑ p : Fin 4, ∑ k : Fin 1024, CTX m (dev z p) (ix2 I k) * woB m (dev z p) (ix2 k n) := by
  unfold outB k0_pay1
  refine (cast_1ab 256 1024 _ _ I n).trans ?_
  show AG m (at_ 2 (at_ 3 c ⟨I.val / 64, _⟩) ⟨I.val % 64 / 16, _⟩) (ix2 (⟨I.val % 64 % 16, _⟩ : Fin 16) n) = _
  have eB : at_ 2 (at_ 3 c ⟨I.val / 64, by omega⟩) ⟨I.val % 64 / 16, by omega⟩
      = dev ⟨I.val % 64 / 16, by omega⟩ ⟨I.val / 64, by omega⟩ := Fin.ext (by
    show I.val % 64 / 16 * 4 + (c.val / 4 * 4 + I.val / 64) % 4 = I.val % 64 / 16 * 4 + I.val / 64; omega)
  rw [eB, AG_apply]
  refine Finset.sum_congr rfl fun z _ => ?_
  show CS m (at_ 1 (dev ⟨I.val % 64 / 16, _⟩ ⟨I.val / 64, _⟩) z)
    (ix2 (⟨16 * (slot 1 (dev ⟨I.val % 64 / 16, _⟩ ⟨I.val / 64, _⟩)).val + I.val % 64 % 16, _⟩ : Fin 64) n) = _
  have eD : at_ 1 (dev ⟨I.val % 64 / 16, by omega⟩ ⟨I.val / 64, by omega⟩) z = dev z ⟨I.val / 64, by omega⟩ := Fin.ext (by
    show z.val * 4 + (I.val % 64 / 16 * 4 + I.val / 64) % 4 = z.val * 4 + I.val / 64; omega)
  have ei : (⟨16 * (slot 1 (dev ⟨I.val % 64 / 16, by omega⟩ ⟨I.val / 64, by omega⟩)).val + I.val % 64 % 16, by omega⟩ : Fin 64)
      = ⟨I.val % 64, by omega⟩ := Fin.ext (by
    show 16 * ((I.val % 64 / 16 * 4 + I.val / 64) / 4) + I.val % 64 % 16 = I.val % 64; omega)
  rw [eD, ei, CS_apply]
  refine Finset.sum_congr rfl fun p _ => ?_
  show partRows m (at_ 0 (dev z ⟨I.val / 64, _⟩) p) (slot 0 (dev z ⟨I.val / 64, _⟩)) (ix2 (⟨I.val % 64, _⟩ : Fin 64) n) = _
  have eE : at_ 0 (dev z ⟨I.val / 64, by omega⟩) p = dev z p := Fin.ext (by
    show (z.val * 4 + I.val / 64) / 4 * 4 + p.val = z.val * 4 + p.val; omega)
  have es : slot 0 (dev z ⟨I.val / 64, by omega⟩) = ⟨I.val / 64, by omega⟩ := Fin.ext (by
    show (z.val * 4 + I.val / 64) % 4 = I.val / 64; omega)
  rw [eE, es, partRows_apply]
  have eI : (⟨64 * (I.val / 64) + I.val % 64, by omega⟩ : Fin 256) = I := Fin.ext (by
    show 64 * (I.val / 64) + I.val % 64 = I.val; omega)
  exact Finset.sum_congr rfl fun k _ => congrArg (fun x => CTX m (dev z p) (ix2 x k) * woB m (dev z p) (ix2 k n)) eI

end Cert.KernelIdealRun

end
-- ==== Proof.RVal.lean ====
/- The reference's result over ideal numbers, element by element: its mask as the arithmetic of the key blocks, its softmax
   over all the keys as the one over the keys of the row's group. -/
module

public import proofs.«01_k».proof.Proof.Gen.ReferenceIdeal.Read
public import proofs.«01_k».proof.Proof.Soft
public import Idealize.ShloMosaic.Lib.ValueIdxCore

@[expose] public section

noncomputable section

namespace Cert.RefVal
open Cert.ReferenceIdeal Cert.ReferenceIdeal.Gen Cert.ReferenceIdeal.Read

open Idealize.ShloMosaic
open Idealize.ShloMosaic.ValueIdx
open Cert.Soft (key)

theorem ext2 {n0 n1 : ℕ} {i j : (⟨2, ![n0, n1]⟩ : Shape).Idx} (h0 : (i 0).val = (j 0).val) (h1 : (i 1).val = (j 1).val) : i = j :=
  funext fun a => Fin.ext (by match a with | ⟨0, _⟩ => exact h0 | ⟨1, _⟩ => exact h1)
theorem ext3 {n0 n1 n2 : ℕ} {i j : (⟨3, ![n0, n1, n2]⟩ : Shape).Idx} (h0 : (i 0).val = (j 0).val) (h1 : (i 1).val = (j 1).val)
    (h2 : (i 2).val = (j 2).val) : i = j :=
  funext fun a => Fin.ext (by match a with | ⟨0, _⟩ => exact h0 | ⟨1, _⟩ => exact h1 | ⟨2, _⟩ => exact h2)
theorem ext4 {n0 n1 n2 n3 : ℕ} {i j : (⟨4, ![n0, n1, n2, n3]⟩ : Shape).Idx} (h0 : (i 0).val = (j 0).val)
    (h1 : (i 1).val = (j 1).val) (h2 : (i 2).val = (j 2).val) (h3 : (i 3).val = (j 3).val) : i = j :=
  funext fun a => Fin.ext (by match a with | ⟨0, _⟩ => exact h0 | ⟨1, _⟩ => exact h1 | ⟨2, _⟩ => exact h2 | ⟨3, _⟩ => exact h3)

/-! ## The mask -/

/-- The sign of a word, the floor of its quotient by 64 and its remainder modulo 4, as the host spells them. -/
def sgn (x : BitVec 32) : BitVec 32 := if x = 0 then 0 else if x.msb then -1 else 1
def fdiv (x : BitVec 32) : BitVec 32 :=
  Scalar.select (IntOp.andi (IntOp.cmpi .ne (sgn x) (sgn 64#32)) (IntOp.cmpi .ne (IntOp.remsi .host x 64#32) 0#32))
    (IntOp.subi (IntOp.divsi .host x 64#32) 1#32) (IntOp.divsi .host x 64#32)
def four : BitVec 32 := Scalar.select (IntOp.cmpi .eq 4#32 0#32) 1#32 4#32
def rem4 (x : BitVec 32) : BitVec 32 :=
  Scalar.select (IntOp.andi (IntOp.cmpi .ne (IntOp.cmpi .slt (IntOp.remsi .host x four) 0#32) (IntOp.cmpi .slt four 0#32))
      (IntOp.cmpi .ne (IntOp.remsi .host x four) 0#32))
    (IntOp.addi (IntOp.remsi .host x four) four) (IntOp.remsi .host x four)

theorem fdiv_eq : ∀ a b : Fin 64, fdiv (BitVec.ofNat 32 (a.val * 64 + b.val)) = BitVec.ofNat 32 a.val := by decide +kernel
theorem rem4_eq : ∀ a : Fin 64, rem4 (BitVec.ofNat 32 a.val) = BitVec.ofNat 32 (a.val % 4) := by decide +kernel

theorem fdiv_ofNat (n : ℕ) (h : n < 4096) : fdiv (BitVec.ofNat 32 n) = BitVec.ofNat 32 (n / 64) := by
  have e := fdiv_eq ⟨n / 64, by omega⟩ ⟨n % 64, by omega⟩
  have e' : n / 64 * 64 + n % 64 = n := by omega
  simpa only [e'] using e
theorem rem4_ofNat (n : ℕ) (h : n < 64) : rem4 (BitVec.ofNat 32 n) = BitVec.ofNat 32 (n % 4) := rem4_eq ⟨n, h⟩

theorem v3_apply (i : S256.Idx) : val_main_v3 (F := Ideal) i = BitVec.ofNat 32 ((i 0).val / 64) := by
  rw [← fdiv_ofNat (i 0).val (Nat.lt_trans (i 0).isLt (by decide))]
  rw [val_main_v3_apply, val_main_call0_v11_apply, val_main_call0_v13_apply, val_main_call0_v10_apply, val_main_call0_v8_apply,
    val_main_call0_v6_apply, val_main_call0_v5_apply, val_main_call0_v2_apply, val_main_call0_v1_apply, val_main_call0_v7_apply,
    val_main_call0_v9_apply, val_main_call0_v12_apply]
  rfl
theorem v6_apply (i : S4096.Idx) : val_main_v6 (F := Ideal) i = BitVec.ofNat 32 ((i 0).val / 64) := by
  rw [← fdiv_ofNat (i 0).val (i 0).isLt]
  rw [val_main_v6_apply, val_main_call1_v11_apply, val_main_call1_v13_apply, val_main_call1_v10_apply, val_main_call1_v8_apply,
    val_main_call1_v6_apply, val_main_call1_v5_apply, val_main_call1_v2_apply, val_main_call1_v1_apply, val_main_call1_v7_apply,
    val_main_call1_v9_apply, val_main_call1_v12_apply]
  rfl
theorem v4_apply (i : S256x1.Idx) : val_main_v4 (F := Ideal) i = BitVec.ofNat 32 ((i 0).val / 64) := by
  rw [val_main_v4_apply, v3_apply]
theorem v7_apply (i : S1x4096.Idx) : val_main_v7 (F := Ideal) i = BitVec.ofNat 32 ((i 1).val / 64) := by
  rw [val_main_v7_apply, v6_apply]
theorem v11_apply (i : S1x4096.Idx) : val_main_v11 (F := Ideal) i = BitVec.ofNat 32 ((i 1).val / 64 % 4) := by
  have hi : (i 1).val < 4096 := (i 1).isLt
  rw [← rem4_ofNat ((i 1).val / 64) (by omega), ← v7_apply]
  rw [val_main_v11_apply, val_main_call2_v12_apply, val_main_call2_v14_apply, val_main_call2_v11_apply, val_main_call2_v8_apply,
    val_main_call2_v10_apply, val_main_call2_v6_apply, val_main_call2_v4_apply, val_main_call2_v3_apply, val_main_call2_v5_apply,
    val_main_call2_v7_apply, val_main_call2_v13_apply]
  rfl
theorem v12_apply (i : S256x1.Idx) : val_main_v12 (F := Ideal) i = BitVec.ofNat 32 ((i 0).val / 64 % 4) := by
  have hi : (i 0).val < 256 := (i 0).isLt
  rw [← rem4_ofNat ((i 0).val / 64) (by omega), ← v4_apply]
  rw [val_main_v12_apply, val_main_call3_v12_apply, val_main_call3_v14_apply, val_main_call3_v11_apply, val_main_call3_v8_apply,
    val_main_call3_v10_apply, val_main_call3_v6_apply, val_main_call3_v4_apply, val_main_call3_v3_apply, val_main_call3_v5_apply,
    val_main_call3_v7_apply, val_main_call3_v13_apply]
  rfl

theorem mask_word : ∀ (a : Fin 4) (b : Fin 64), IntOp.ori (IntOp.cmpi .eq (BitVec.ofNat 32 a.val) (BitVec.ofNat 32 b.val))
    (IntOp.cmpi .eq (BitVec.ofNat 32 (b.val % 4)) (BitVec.ofNat 32 (a.val % 4))) = if b.val % 4 = a.val then 1#1 else 0#1 := by
  decide +kernel

/-- A query row sees the keys of its own group: those whose block has the row's block's number modulo 4. -/
theorem mask_apply (i : S256x4096.Idx) :
    val_main_v16 (F := Ideal) i = if (i 1).val / 64 % 4 = (i 0).val / 64 then 1#1 else 0#1 := by
  have h0 : (i 0).val < 256 := (i 0).isLt
  have h1 : (i 1).val < 4096 := (i 1).isLt
  rw [val_main_v16_apply, val_main_v10_apply, val_main_v15_apply, val_main_v8_apply, val_main_v9_apply, val_main_v13_apply,
    val_main_v14_apply, v4_apply, v7_apply, v11_apply, v12_apply]
  exact mask_word ⟨(i 0).val / 64, by omega⟩ ⟨(i 1).val / 64, by omega⟩

theorem ori_one : ∀ x : BitVec 1, IntOp.ori 1#1 x = 1#1 := by decide

theorem fold_ori {ι : Type} [DecidableEq ι] (s : Finset ι) (f : ι → BitVec 1) (b : BitVec 1) {k : ι} (hk : k ∈ s)
    (h : f k = 1#1) : s.fold IntOp.ori b f = 1#1 := by
  rw [← Finset.insert_erase hk, Finset.fold_insert (Finset.notMem_erase k s), h, ori_one]

/-- No row is masked entirely. -/
theorem keep_apply (i : S256.Idx) : val_main_v27 (F := Ideal) i = 1#1 := by
  have h0 : (i 0).val < 256 := (i 0).isLt
  have hr : S256x4096.Reduces [1] S256 := by decide
  unfold val_main_v27
  refine (Host.reduce_eq_fold_single IntOp.ori _ _ reducesTo_S256x4096_S256_d1 hr h_S_ i).trans ?_
  refine fold_ori _ _ _ (Finset.mem_univ (⟨(i 0).val / 64 * 64, by show _ < 4096; omega⟩ : Fin (S256x4096.size 1))) ?_
  show val_main_v16 (F := Ideal) _ = _
  have e : hr.lift i (⟨(i 0).val / 64 * 64, by show _ < 4096; omega⟩ : Fin (S256x4096.size 1))
      = ix2 (i 0) (⟨(i 0).val / 64 * 64, by omega⟩ : Fin 4096) := ext2 rfl rfl
  rw [e]
  refine (mask_apply _).trans (if_pos ?_)
  show (i 0).val / 64 * 64 / 64 % 4 = (i 0).val / 64
  omega

/-! ## The attention -/

theorem zero_word : Ideal.ofBits .f32 0x00000000#32 = 0 := by simp [Ideal.ofBits, Ideal.ieee]
theorem bot_word : Ideal.ofBits .f32 0xFF800000#32 = ⊥ := by simp [Ideal.ofBits, Ideal.ieee]
theorem scale_word : ∃ r : ℝ, Ideal.ofBits .f32 0x3DB504F3#32 = r := by
  unfold Ideal.ofBits Ideal.ieee
  simp only
  rw [if_neg (by decide)]
  split
  · exact ⟨_, rfl⟩
  · exact ⟨_, rfl⟩

variable (x0 : (⟨S1x256x1024, .f32⟩ : BufTy).Contents (Elt Ideal)) (x1 : (⟨S1024x16384, .f32⟩ : BufTy).Contents (Elt Ideal))
  (x2 x3 : (⟨S1x4096x128x128, .f32⟩ : BufTy).Contents (Elt Ideal)) (x4 : (⟨S16384x1024, .f32⟩ : BufTy).Contents (Elt Ideal))

/-- The scaled score of query row `I` and key `j` in head `h`. -/
def rsc (h : Fin 128) (I : Fin 256) (j : Fin 4096) : EReal :=
  (∑ d : Fin 128, (∑ e : Fin 1024, x0 (ix3 (0 : Fin 1) I e) * x1 (ix2 e (⟨h.val * 128 + d.val, by omega⟩ : Fin 16384)))
    * x2 (ix4 (0 : Fin 1) j h d)) * Ideal.ofBits .f32 0x3DB504F3#32

theorem v19_eq (h : Fin 128) (I : Fin 256) (j : Fin 4096) :
    val_main_v19 (F := Ideal) x0 x1 x2 (ix4 (0 : Fin 1) h I j) = rsc x0 x1 x2 h I j := by
  rw [val_main_v19_apply, val_main_v18_apply, val_main_v17_apply]
  refine congrArg (· * Ideal.ofBits .f32 0x3DB504F3#32) (Finset.sum_congr rfl fun d _ => congrArg₂ (· * ·) ?_ ?_)
  · rw [val_main_v1_apply, val_main_v0_apply]
    refine Finset.sum_congr rfl fun e _ => congrArg₂ (· * ·) (congrArg x0 (ext3 rfl ?_ rfl)) (congrArg x1 (ext2 rfl ?_))
    · show (((0 * 256 + I.val) * 128 + h.val) * 128 + d.val) / 16384 % 256 = I.val
      omega
    · show (((0 * 256 + I.val) * 128 + h.val) * 128 + d.val) % 16384 = h.val * 128 + d.val
      omega
  · exact congrArg x2 (ext4 rfl rfl rfl rfl)

/-- The masked scores of a row. -/
def msc (h : Fin 128) (I : Fin 256) (j : Fin 4096) : EReal := if j.val / 64 % 4 = I.val / 64 then rsc x0 x1 x2 h I j else ⊥

theorem v21_eq (h : Fin 128) (I : Fin 256) (j : Fin 4096) :
    val_main_v21 (F := Ideal) x0 x1 x2 (ix4 (0 : Fin 1) h I j) = msc x0 x1 x2 h I j := by
  rw [val_main_v21_apply, val_main_call4_v1_apply, val_main_v20_apply, mask_apply, v19_eq, val_main_call4_v2_apply]
  unfold msc
  show Scalar.select (if j.val / 64 % 4 = I.val / 64 then 1#1 else 0#1) _ (Ideal.ofBits .f32 0xFF800000#32) = _
  rw [bot_word]
  split
  · rfl
  · rfl

theorem v22_eq (h : Fin 128) (I : Fin 256) :
    val_main_v22 (F := Ideal) x0 x1 x2 (ix3 (0 : Fin 1) h I) = Finset.univ.sup (msc x0 x1 x2 h I) := by
  have hr : S1x128x256x4096.Reduces [3] S1x128x256 := by decide
  unfold val_main_v22
  refine (Host.reduce_eq_fold_single _ _ _ reducesTo_S1x128x256x4096_S1x128x256_d3 hr h_S_ _).trans ?_
  show Finset.univ.fold max (Ideal.ofBits .f32 0xFF800000#32) _ = _
  rw [bot_word]
  refine Finset.sup_congr rfl fun j _ => ?_
  refine Eq.trans (congrArg (val_main_v21 (F := Ideal) x0 x1 x2) ?_) (v21_eq x0 x1 x2 h I j)
  exact ext4 rfl rfl rfl rfl

theorem v26_eq (h : Fin 128) (I : Fin 256) (j : Fin 4096) : val_main_v26 (F := Ideal) x0 x1 x2 (ix4 (0 : Fin 1) h I j)
    = Ideal.exp (msc x0 x1 x2 h I j - Finset.univ.sup (msc x0 x1 x2 h I)) := by
  rw [val_main_v26_apply, val_main_v25_apply, v21_eq, val_main_v24_apply, val_main_v23_apply]
  refine congrArg (fun y => Ideal.exp (msc x0 x1 x2 h I j - y)) ?_
  refine Eq.trans (congrArg (val_main_v22 (F := Ideal) x0 x1 x2) ?_) (v22_eq x0 x1 x2 h I)
  exact ext3 rfl rfl rfl

theorem v29_eq (h : Fin 128) (I : Fin 256) : val_main_v29 (F := Ideal) x0 x1 x2 (ix3 (0 : Fin 1) h I)
    = ∑ j, Ideal.exp (msc x0 x1 x2 h I j - Finset.univ.sup (msc x0 x1 x2 h I)) := by
  rw [val_main_v29_apply]
  show Ideal.ofBits .f32 0x00000000#32 + _ = _
  rw [zero_word, zero_add]
  refine Finset.sum_congr rfl fun j _ => ?_
  refine Eq.trans (congrArg (val_main_v26 (F := Ideal) x0 x1 x2) ?_) (v26_eq x0 x1 x2 h I j)
  exact ext4 rfl rfl rfl rfl

theorem v35_eq (h : Fin 128) (I : Fin 256) (j : Fin 4096) : val_main_v35 (F := Ideal) x0 x1 x2 (ix4 (0 : Fin 1) h I j)
    = Ideal.div (Ideal.exp (msc x0 x1 x2 h I j - Finset.univ.sup (msc x0 x1 x2 h I)))
        (∑ j, Ideal.exp (msc x0 x1 x2 h I j - Finset.univ.sup (msc x0 x1 x2 h I))) := by
  rw [val_main_v35_apply, val_main_call6_v1_apply, val_main_v34_apply, keep_apply, ValueIdx.select_one, val_main_v33_apply, v26_eq,
    val_main_v32_apply, val_main_v31_apply, val_main_call5_v1_apply, val_main_v28_apply, keep_apply, ValueIdx.select_one,
    val_main_v30_apply]
  refine congrArg (Ideal.div _) ?_
  refine Eq.trans (congrArg (val_main_v29 (F := Ideal) x0 x1 x2) ?_) (v29_eq x0 x1 x2 h I)
  exact ext3 rfl rfl rfl

/-- The context of query row `I`, column `d` of head `h`, when `x`, `Wq` and `K` hold reals. -/
theorem v38_eq (h0 : ∀ i, ∃ r : ℝ, x0 i = r) (h1 : ∀ i, ∃ r : ℝ, x1 i = r) (h2 : ∀ i, ∃ r : ℝ, x2 i = r)
    (I : Fin 256) (K : Fin 16384) (h d : Fin 128) (g : Fin 4) (hK : K.val = h.val * 128 + d.val) (hg : I.val / 64 = g.val) :
    val_main_v38 (F := Ideal) x0 x1 x2 x3 (ix3 (0 : Fin 1) I K)
      = Ideal.div (∑ r : Fin 1024, Ideal.exp (rsc x0 x1 x2 h I (key g r) - Finset.univ.sup fun r => rsc x0 x1 x2 h I (key g r))
            * x3 (ix4 (0 : Fin 1) (key g r) h d))
          (∑ r : Fin 1024, Ideal.exp (rsc x0 x1 x2 h I (key g r) - Finset.univ.sup fun r => rsc x0 x1 x2 h I (key g r))) := by
  rw [val_main_v38_apply, val_main_v37_apply, val_main_v36_apply]
  have e1 : ∀ j : Fin 4096, lidx_main_v36 (idx_main_v37 (idx_main_v38 (ix3 (0 : Fin 1) I K))) j = ix4 (0 : Fin 1) j h d := fun j =>
    ext4 rfl rfl (by show ((0 * 256 + I.val) * 16384 + K.val) / 128 % 128 = h.val; omega)
      (by show ((0 * 256 + I.val) * 16384 + K.val) % 128 = d.val; omega)
  have e2 : ∀ j : Fin 4096, ridx_main_v36 (idx_main_v37 (idx_main_v38 (ix3 (0 : Fin 1) I K))) j = ix4 (0 : Fin 1) h I j := fun j =>
    ext4 rfl (by show ((0 * 256 + I.val) * 16384 + K.val) / 128 % 128 = h.val; omega)
      (by show ((0 * 256 + I.val) * 16384 + K.val) / 16384 % 256 = I.val; omega) rfl
  simp only [e1, e2, v35_eq]
  have hm : ∀ r, msc x0 x1 x2 h I (key g r) = rsc x0 x1 x2 h I (key g r) := fun r =>
    if_pos ((Cert.Soft.key_mod g r).trans hg.symm)
  have := Cert.Soft.softmax (msc x0 x1 x2 h I) (fun j => x3 (ix4 (0 : Fin 1) j h d)) (key g) (Cert.Soft.key_injective g)
    (fun r => by
      rw [hm]
      obtain ⟨s, hs⟩ := scale_word
      obtain ⟨q, hq⟩ := Cert.Soft.exists_sum_mul
        (fun d => ∑ e : Fin 1024, x0 (ix3 (0 : Fin 1) I e) * x1 (ix2 e (⟨h.val * 128 + d.val, by omega⟩ : Fin 16384)))
        (fun d => x2 (ix4 (0 : Fin 1) (key g r) h d))
        (fun d => Cert.Soft.exists_sum_mul _ _ (fun e => h0 _) (fun e => h1 _)) (fun d => h2 _)
      exact ⟨q * s, by unfold rsc; rw [hq, hs, EReal.coe_mul]⟩)
    (fun j hj => if_neg fun e => by
      obtain ⟨r, hr⟩ := Cert.Soft.exists_key g j (e.trans hg)
      exact hj r hr)
  simp only [hm] at this
  exact this

theorem v39_eq (I : Fin 256) (n : Fin 1024) : val_main_v39 (F := Ideal) x0 x1 x2 x3 x4 (ix3 (0 : Fin 1) I n)
    = ∑ k : Fin 16384, val_main_v38 (F := Ideal) x0 x1 x2 x3 (ix3 (0 : Fin 1) I k) * x4 (ix2 k n) := by
  rw [val_main_v39_apply]
  refine Finset.sum_congr rfl fun k _ => congrArg₂ (· * ·) (congrArg _ ?_) (congrArg x4 ?_)
  · exact ext3 rfl rfl rfl
  · exact ext2 rfl rfl

end Cert.RefVal

end
-- ==== Proof.Value.lean ====
/- The kernel's result is the reference's, over ideal numbers: the sixteen devices' sums over their own columns of `Wq` and
   rows of `Wo` are together the reference's one sum over all of them. -/
module

public import proofs.«01_k».proof.Defs
public import proofs.«01_k».proof.Proof.Launch
public import proofs.«01_k».proof.Proof.KVal
public import proofs.«01_k».proof.Proof.RVal
public import proofs.«01_k».proof.Proof.Gen.KernelIdeal
public import proofs.«01_k».proof.Proof.Gen.ReferenceIdeal

@[expose] public section

noncomputable section

namespace Cert.Value

open Idealize.ShloMosaic hiding ix0 ix1 ix2 ix3 ix4 ix5 ix6
open Idealize.ShloMosaic.TcCoe
open Idealize.SL.Sem
open Idealize.ShloMosaic.ValueIdx
open Cert.Soft (key)
open Cert.RefVal (ext2 ext3 ext4)
open Cert.KernelIdeal (nD τ sig main_arg0 main_arg1 main_arg2 main_arg3 main_arg4 main_v1)
open Cert.KernelIdealRun

/-! ## What the precondition says -/

instance preKernel : Cert.Pre_finite_KernelIdeal.Facts where
  bcast_S_S1x256x1024 := by decide
  reducesTo_S1x256x1024_S_d0_1_2 := by decide
  h_S_ := by decide
  bcast_S_S1024x1024 := by decide
  reducesTo_S1024x1024_S_d0_1 := by decide
  bcast_S_S1x4096x128x128 := by decide
  reducesTo_S1x4096x128x128_S_d0_1_2_3 := by decide

instance preReference : Cert.Pre_finite_ReferenceIdeal.Facts where
  bcast_S_S1x256x1024 := by decide
  reducesTo_S1x256x1024_S_d0_1_2 := by decide
  h_S_ := by decide
  bcast_S_S1024x16384 := by decide
  reducesTo_S1024x16384_S_d0_1 := by decide
  bcast_S_S1x4096x128x128 := by decide
  reducesTo_S1x4096x128x128_S_d0_1_2_3 := by decide

theorem andi_one : ∀ a b : BitVec 1, IntOp.andi a b = 1#1 → a = 1#1 ∧ b = 1#1 := by decide

theorem of_fold_andi {ι : Type} [DecidableEq ι] (s : Finset ι) (f : ι → BitVec 1) (b : BitVec 1)
    (h : s.fold IntOp.andi b f = 1#1) : ∀ i ∈ s, f i = 1#1 := by
  intro i hi
  rw [← Finset.insert_erase hi, Finset.fold_insert (Finset.notMem_erase i s)] at h
  exact (andi_one _ _ h).1

theorem top_word : Ideal.ofBits .f32 0x7F800000#32 = ⊤ := by simp [Ideal.ofBits, Ideal.ieee]

theorem real_of_lt (a : EReal) (h : Ideal.cmp .olt (max a (-a)) ⊤ = 1#1) : ∃ r : ℝ, a = r := by
  induction a using EReal.rec with
  | bot => exact absurd h (by simp [Ideal.cmp])
  | top => exact absurd h (by simp [Ideal.cmp])
  | coe r => exact ⟨r, rfl⟩

/-- An array all of whose magnitudes are below +∞ is one of reals. -/
theorem real_of_all {s : Shape} {axes : List (Fin s.rank)} (x : FVec Ideal s .f32)
    (hb : (⟨0, ![]⟩ : Shape).BroadcastsInDim s (![] : Fin 0 → Fin s.rank)) (h : s.ReducesTo axes ⟨0, ![]⟩)
    (hu : 0 < (⟨0, ![]⟩ : Shape).numel) (j : (⟨0, ![]⟩ : Shape).Idx)
    (e : Host.reduce IntOp.andi (cmpf .olt (Host.absf x) (broadcastInDim s ![] hb (constant (F := Ideal) ⟨0, ![]⟩ .f32 0x7F800000#32)))
      (constantI ⟨0, ![]⟩ 1 1#1) h hu j = 1#1) (i : s.Idx) : ∃ r : ℝ, x i = r := by
  rw [Host.reduce_eq_fold] at e
  have e' := of_fold_andi _ _ _ e i (Finset.mem_filter.2 ⟨Finset.mem_univ _, funext fun a => a.elim0⟩)
  refine real_of_lt (x i) ?_
  rw [← top_word]
  exact e'

theorem reals (m : (ℓ : Loc nD τ sig) → Buf (Elt Ideal) ℓ) (h : Cert.Pre_KernelIdeal_finite_KernelIdeal m) (c : Dev nD) :
    (∀ i, ∃ r : ℝ, (show FVec Ideal ⟨3, ![1, 256, 1024]⟩ .f32 from m ((c : Thread nD τ).loc main_arg0)) i = (r : EReal))
    ∧ (∀ i, ∃ r : ℝ, (show FVec Ideal ⟨2, ![1024, 1024]⟩ .f32 from m ((c : Thread nD τ).loc main_arg1)) i = (r : EReal))
    ∧ (∀ i, ∃ r : ℝ, (show FVec Ideal ⟨4, ![1, 4096, 128, 128]⟩ .f32 from m ((c : Thread nD τ).loc main_arg2)) i = (r : EReal)) := by
  have e := congrFun (h c) (Shape.Idx.first (by decide))
  have e1 := andi_one _ _ e
  have e2 := andi_one _ _ e1.1
  exact ⟨real_of_all _ _ _ _ _ e2.1, real_of_all _ _ _ _ _ e2.2, real_of_all _ _ _ _ _ e1.2⟩

/-! ## The windows are whole arrays -/

section
open Cert.KernelIdeal Cert.KernelIdeal.Gen

theorem x_read (f) (i : (⟨3, ![1, 256, 1024]⟩ : Shape).Idx) :
    (win0_0.blk t0_0).view.read (Elt Ideal) f i = (f : FVec Ideal ⟨3, ![1, 256, 1024]⟩ .f32) i :=
  congrArg (f : FVec Ideal ⟨3, ![1, 256, 1024]⟩ .f32)
    (funext fun k => Fin.ext (Pipeline.Window.rect_emb_val_of_index_zero win0_0 t0_0 k rfl i))
theorem wq_read (f) (i : (⟨2, ![1024, 1024]⟩ : Shape).Idx) :
    (win0_1.blk t0_0).view.read (Elt Ideal) f i = (f : FVec Ideal ⟨2, ![1024, 1024]⟩ .f32) i :=
  congrArg (f : FVec Ideal ⟨2, ![1024, 1024]⟩ .f32)
    (funext fun k => Fin.ext (Pipeline.Window.rect_emb_val_of_index_zero win0_1 t0_0 k rfl i))
theorem wo_read (f) (i : (⟨2, ![1024, 1024]⟩ : Shape).Idx) :
    (win0_2.blk t0_0).view.read (Elt Ideal) f i = (f : FVec Ideal ⟨2, ![1024, 1024]⟩ .f32) i :=
  congrArg (f : FVec Ideal ⟨2, ![1024, 1024]⟩ .f32)
    (funext fun k => Fin.ext (Pipeline.Window.rect_emb_val_of_index_zero win0_2 t0_0 k rfl i))
theorem out_read (f) (i : (⟨3, ![1, 256, 1024]⟩ : Shape).Idx) :
    (win0_3.blk t0_0).view.read (Elt Ideal) f i = (f : FVec Ideal ⟨3, ![1, 256, 1024]⟩ .f32) i :=
  congrArg (f : FVec Ideal ⟨3, ![1, 256, 1024]⟩ .f32)
    (funext fun k => Fin.ext (Pipeline.Window.rect_emb_val_of_index_zero win0_3 t0_0 k rfl i))

end

/-! ## The two results -/

theorem sum_split {N : ℕ} (a b : ℕ) (hN : a * b = N) (f : Fin N → EReal) : ∑ K, f K = ∑ x : Fin a, ∑ y : Fin b,
    f ⟨x.val * b + y.val, by
      have h1 := x.isLt; have h2 := y.isLt
      calc x.val * b + y.val < x.val * b + b := by omega
        _ = (x.val + 1) * b := (Nat.succ_mul _ _).symm
        _ ≤ a * b := Nat.mul_le_mul_right _ h1
        _ = N := hN⟩ := by
  subst hN
  rw [← finProdFinEquiv.sum_comp, Fintype.sum_prod_type]
  refine Finset.sum_congr rfl fun x _ => Finset.sum_congr rfl fun y _ => congrArg f (Fin.ext ?_)
  show y.val + b * x.val = x.val * b + y.val
  rw [Nat.mul_comm, Nat.add_comm]

section Parts
variable (m : (ℓ : Loc nD τ sig) → Buf (Elt Ideal) ℓ)
  (x0 : FVec Ideal ⟨3, ![1, 256, 1024]⟩ .f32) (x1 : FVec Ideal ⟨2, ![1024, 16384]⟩ .f32)
  (x2 x3 : FVec Ideal ⟨4, ![1, 4096, 128, 128]⟩ .f32) (x4 : FVec Ideal ⟨2, ![16384, 1024]⟩ .f32)

/-- The devices' arguments are the parts of the whole arrays. -/
structure Parts : Prop where
  x : ∀ c : Dev nD, m ((c : Thread nD τ).loc main_arg0) = x0
  wq : ∀ c : Dev nD, m ((c : Thread nD τ).loc main_arg1) = Layout.block ⟨2, ![1024, 1024]⟩ ⟨2, ![1024, 16384]⟩ 1 16 c x1
  k : ∀ c : Dev nD, m ((c : Thread nD τ).loc main_arg2) = x2
  v : ∀ c : Dev nD, m ((c : Thread nD τ).loc main_arg3) = x3
  wo : ∀ c : Dev nD, m ((c : Thread nD τ).loc main_arg4) = Layout.block ⟨2, ![1024, 1024]⟩ ⟨2, ![16384, 1024]⟩ 0 16 c x4

variable {m x0 x1 x2 x3 x4} (H : Parts m x0 x1 x2 x3 x4)
include H

theorem xB_eq (c : Dev nD) (i) : xB m c i = x0 i := (x_read _ i).trans (congrFun (H.x c) i)
theorem wqB_eq (c : Dev nD) (e k : Fin 1024) (K : Fin 16384) (hK : K.val = c.val * 1024 + k.val) : wqB m c (ix2 e k) = x1 (ix2 e K) :=
  (wq_read _ _).trans ((congrFun (H.wq c) _).trans (congrArg x1 (ext2 rfl hK.symm)))
theorem woB_eq (c : Dev nD) (k n : Fin 1024) (K : Fin 16384) (hK : K.val = c.val * 1024 + k.val) : woB m c (ix2 k n) = x4 (ix2 K n) :=
  (wo_read _ _).trans ((congrFun (H.wo c) _).trans (congrArg x4 (ext2 hK.symm rfl)))
theorem k_eq (c : Dev nD) (h : Fin 8) (h' : Fin 128) (hh : h'.val = 8 * c.val + h.val) (j : Fin 4096) (d : Fin 128) :
    slabH c (kA m c) h (ix3 (0 : Fin 1) j d) = x2 (ix4 (0 : Fin 1) j h' d) :=
  (congrFun (H.k c) _).trans (congrArg x2 (ext4 rfl rfl hh.symm rfl))
theorem v_eq (c : Dev nD) (h : Fin 8) (h' : Fin 128) (hh : h'.val = 8 * c.val + h.val) (j : Fin 4096) (d : Fin 128) :
    slabH c (vA m c) h (ix3 (0 : Fin 1) j d) = x3 (ix4 (0 : Fin 1) j h' d) :=
  (congrFun (H.v c) _).trans (congrArg x3 (ext4 rfl rfl hh.symm rfl))

/-- A device's scores are the reference's, of its own eight heads. -/
theorem sc_eq (c : Dev nD) (h : Fin 8) (h' : Fin 128) (hh : h'.val = 8 * c.val + h.val) (I : Fin 256) (j : Fin 4096) :
    sc m c h I j = Cert.RefVal.rsc x0 x1 x2 h' I j := by
  refine congrArg (· * Ideal.ofBits .f32 0x3DB504F3#32) (Finset.sum_congr rfl fun d _ => congrArg₂ (· * ·) ?_ (k_eq H c h h' hh j d))
  refine (qv_apply m c I h d).trans (Finset.sum_congr rfl fun e _ => congrArg₂ (· * ·) (xB_eq H c _) (wqB_eq H c _ _ _ ?_))
  show h'.val * 128 + d.val = c.val * 1024 + (h.val * 128 + d.val)
  omega

variable (h0 : ∀ i, ∃ r : ℝ, x0 i = (r : EReal)) (h1 : ∀ i, ∃ r : ℝ, x1 i = (r : EReal)) (h2 : ∀ i, ∃ r : ℝ, x2 i = (r : EReal))
include h0 h1 h2

/-- A device's context is the reference's, of its own columns. -/
theorem ctx_eq (c : Dev nD) (I : Fin 256) (k : Fin 1024) (K : Fin 16384) (hK : K.val = c.val * 1024 + k.val) :
    CTX m c (ix2 I k) = Cert.ReferenceIdeal.Read.val_main_v38 (F := Ideal) x0 x1 x2 x3 (ix3 (0 : Fin 1) I K) := by
  have hc : c.val < 16 := c.isLt
  have hd : K.val = (⟨8 * c.val + k.val / 128, by omega⟩ : Fin 128).val * 128 + (⟨k.val % 128, Nat.mod_lt _ (by decide)⟩ : Fin 128).val := by
    show _ = (8 * c.val + k.val / 128) * 128 + k.val % 128; omega
  rw [Cert.RefVal.v38_eq x0 x1 x2 x3 h0 h1 h2 I K _ _ (⟨I.val / 64, by omega⟩ : Fin 4) hd rfl]
  refine (ctx_apply m c I k (⟨I.val / 64, by omega⟩ : Fin 4) (⟨k.val / 128, by omega⟩ : Fin 8)
    (⟨k.val % 128, Nat.mod_lt _ (by decide)⟩ : Fin 128) rfl (by show k.val = k.val / 128 * 128 + k.val % 128; omega)).trans ?_
  have es : ∀ j, sc m c (⟨k.val / 128, by omega⟩ : Fin 8) I j
      = Cert.RefVal.rsc x0 x1 x2 (⟨8 * c.val + k.val / 128, by omega⟩ : Fin 128) I j := fun j => sc_eq H c _ _ rfl I j
  have ev : ∀ j d, slabH c (vA m c) (⟨k.val / 128, by omega⟩ : Fin 8) (ix3 (0 : Fin 1) j d)
      = x3 (ix4 (0 : Fin 1) j (⟨8 * c.val + k.val / 128, by omega⟩ : Fin 128) d) := fun j d => v_eq H c _ _ rfl j d
  simp only [es, ev]

/-- Every device's result is the reference's. -/
theorem out_eq (c : Dev nD) (I : Fin 256) (n : Fin 1024) : outB m c (ix3 (0 : Fin 1) I n)
    = Cert.ReferenceIdeal.Read.val_main_v39 (F := Ideal) x0 x1 x2 x3 x4 (ix3 (0 : Fin 1) I n) := by
  rw [Cert.RefVal.v39_eq, sum_split 16 1024 (by decide), sum_split 4 4 (by decide)]
  refine (outB_apply m c I n).trans (Finset.sum_congr rfl fun z _ => Finset.sum_congr rfl fun p _ => Finset.sum_congr rfl fun k _ =>
    congrArg₂ (· * ·) (ctx_eq H h0 h1 h2 (dev z p) I k _ rfl) (woB_eq H (dev z p) k n _ rfl))

omit h0 h1 h2 in
theorem wq_real (h : Cert.Pre_KernelIdeal_finite_KernelIdeal m) (i : (⟨2, ![1024, 16384]⟩ : Shape).Idx) : ∃ r : ℝ, x1 i = (r : EReal) := by
  have hi : (i 1).val < 16384 := (i 1).isLt
  obtain ⟨r, hr⟩ := (reals m h ⟨(i 1).val / 1024, by show _ < 16; omega⟩).2.1
    (ix2 (i 0) (⟨(i 1).val % 1024, Nat.mod_lt _ (by decide)⟩ : Fin 1024))
  refine ⟨r, Eq.trans ?_ hr⟩
  refine Eq.trans (congrArg x1 ?_) (congrFun (H.wq ⟨(i 1).val / 1024, by show _ < 16; omega⟩) _).symm
  refine ext2 rfl ?_
  show (i 1).val = (i 1).val / 1024 * 1024 + (i 1).val % 1024
  omega

end Parts

/-- The claim: every device's result is the reference's. -/
theorem algebraic : Cert.algebraic_KernelIdeal_ReferenceIdeal_pre_finite_KernelIdeal := by
  intro m g m' g' hp hm
  have H : Parts m _ _ _ _ _ := ⟨fun c => (hm c).1, fun c => (hm c).2.1, fun c => (hm c).2.2.1, fun c => (hm c).2.2.2.1,
    fun c => (hm c).2.2.2.2⟩
  have h0 := fun i => (H.x (0 : Dev nD)) ▸ (reals m hp (0 : Dev nD)).1 i
  have h2 := fun i => (H.k (0 : Dev nD)) ▸ (reals m hp (0 : Dev nD)).2.2 i
  have h1 := wq_real H hp
  refine ⟨Cert.ReferenceIdeal.Value.res_main_v39 m' (0 : Dev Cert.ReferenceIdeal.nD), ?_, ?_⟩
  · refine (θ_run _ _ _).mono (fun r h c => ⟨?_, (h.1 c).2⟩) (Cert.KernelIdealRun.run_args (F := Ideal) m g)
    refine (h.1 c).1.trans ?_
    rw [Cert.ReferenceIdeal.Read.val_main_v39_eq]
    funext i
    have ei : i = ix3 (0 : Fin 1) (i 1) (i 2) := ext3 (by have h : (i 0).val < 1 := (i 0).isLt; show (i 0).val = 0; omega) rfl rfl
    refine (out_read _ i).symm.trans ((congrFun (finalA_3 m c) i).trans ?_)
    refine (congrArg (outB m c) ei).trans ((out_eq H h0 h1 h2 c (i 1) (i 2)).trans ?_)
    exact congrArg _ ei.symm
  · exact (θ_run _ _ _).mono (fun r h => h (0 : Dev Cert.ReferenceIdeal.nD)) (Cert.ReferenceIdeal.Value.run (F := Ideal) m' g')

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Launch
public import proofs.«01_k».proof.Proof.Words.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-- Every run of the kernel ends with the arguments as they were and every counter at zero. -/
theorem frame_kernel : Cert.quiescent_Kernel := fun m g _ =>
  (θ_run _ _ _).mono (fun _ h => ⟨fun c => (h.1 c).2, h.2⟩) (Cert.KernelRun.run_args (F := Bits) m g)

/-- The same of the kernel over ideal numbers. -/
theorem frame_ideal : Cert.quiescent_KernelIdeal := fun m g _ =>
  (θ_run _ _ _).mono (fun _ h => ⟨fun c => (h.1 c).2, h.2⟩) (Cert.KernelIdealRun.run_args (F := Ideal) m g)

/-- The reference has no semaphores, and leaves its arguments. -/
theorem frame_reference : Cert.quiescent_ReferenceIdeal := fun m g _ =>
  (θ_run _ _ _).mono (fun r h => ⟨fun c => (h c).2, sem_eq_zero_of_no_sems rfl r.2⟩)
    (Cert.ReferenceIdeal.Value.run (F := Ideal) m g)

theorem claim : Cert.Claim := ⟨Cert.Kernel.Gen.facts, Cert.KernelIdeal.Gen.facts, Cert.ReferenceIdeal.Gen.facts,
  Cert.Value.preKernel, Cert.Value.preReference, frame_kernel, frame_ideal, fun m g _ => frame_ideal m g trivial,
  frame_reference, fun m g _ => frame_reference m g trivial, trivial, Cert.Value.algebraic⟩

end Cert.Proof

end
